-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)) (v3 : (c : Dev Cert.Kernel2Ideal.nD) → Buf (Elt Ideal) ((c.tc : Thread Cert.Kernel2Ideal.nD Cert.Kernel2Ideal.τ).loc Cert.Kernel2Ideal.main_v16_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_v16_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_v54) = v2 c
          ∧ r.2.mem ((c.tc : Thread Cert.Reference2Ideal.nD Cert.Reference2Ideal.τ).loc Cert.Reference2Ideal.main_v56) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)) (v2 : (c : Dev Cert.Kernel3Ideal.nD) → Buf (Elt Ideal) ((c.tc : Thread Cert.Kernel3Ideal.nD Cert.Kernel3Ideal.τ).loc Cert.Kernel3Ideal.main_v24_2)) (v3 : (c : Dev Cert.Kernel3Ideal.nD) → Buf (Elt Ideal) ((c.tc : Thread Cert.Kernel3Ideal.nD Cert.Kernel3Ideal.τ).loc Cert.Kernel3Ideal.main_v24_3)) (v4 : (c : Dev Cert.Kernel3Ideal.nD) → Buf (Elt Ideal) ((c.tc : Thread Cert.Kernel3Ideal.nD Cert.Kernel3Ideal.τ).loc Cert.Kernel3Ideal.main_v24_4)) (v5 : (c : Dev Cert.Kernel3Ideal.nD) → Buf (Elt Ideal) ((c.tc : Thread Cert.Kernel3Ideal.nD Cert.Kernel3Ideal.τ).loc Cert.Kernel3Ideal.main_v24_5)) (v6 : (c : Dev Cert.Kernel3Ideal.nD) → Buf (Elt Ideal) ((c.tc : Thread Cert.Kernel3Ideal.nD Cert.Kernel3Ideal.τ).loc Cert.Kernel3Ideal.main_v24_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_v24_2) = v2 c
          ∧ r.2.mem ((c.tc : Thread Cert.Kernel3Ideal.nD Cert.Kernel3Ideal.τ).loc Cert.Kernel3Ideal.main_v24_3) = v3 c
          ∧ r.2.mem ((c.tc : Thread Cert.Kernel3Ideal.nD Cert.Kernel3Ideal.τ).loc Cert.Kernel3Ideal.main_v24_4) = v4 c
          ∧ r.2.mem ((c.tc : Thread Cert.Kernel3Ideal.nD Cert.Kernel3Ideal.τ).loc Cert.Kernel3Ideal.main_v24_5) = v5 c
          ∧ r.2.mem ((c.tc : Thread Cert.Kernel3Ideal.nD Cert.Kernel3Ideal.τ).loc Cert.Kernel3Ideal.main_v24_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_v22) = v2 c
          ∧ r.2.mem ((c.tc : Thread Cert.Reference3Ideal.nD Cert.Reference3Ideal.τ).loc Cert.Reference3Ideal.main_v44) = v3 c
          ∧ r.2.mem ((c.tc : Thread Cert.Reference3Ideal.nD Cert.Reference3Ideal.τ).loc Cert.Reference3Ideal.main_v45) = v4 c
          ∧ r.2.mem ((c.tc : Thread Cert.Reference3Ideal.nD Cert.Reference3Ideal.τ).loc Cert.Reference3Ideal.main_v35) = v5 c
          ∧ r.2.mem ((c.tc : Thread Cert.Reference3Ideal.nD Cert.Reference3Ideal.τ).loc Cert.Reference3Ideal.main_v42) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_in_range.lean ====
abbrev S69632x1024 : Shape := ⟨2, ![69632, 1024]⟩
abbrev S136 : Shape := ⟨1, ![136]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)
  shapeCasts_S1_S_ : S1.ShapeCasts S_

variable [Facts]

def fn {F : FTy → Type} [FloatOps F] (main_arg0 : FVec F S69632x1024 .f32) (main_arg1 : IVec S136 32) (main_arg2 : IVec S1 32) (main_arg3 : FVec F S8x1024x3584 .f32) (main_arg4 : FVec F S8x1024x3584 .f32) (main_arg5 : FVec F S8x3584x1024 .f32) : IVec S136 1 :=
  let main_c : IVec S_ 32 := constantI S_ 32 0#32
  let main_v0 : IVec S136 32 := broadcastInDim S136 ![] bcast_S_S136 main_c
  let main_v1 : IVec S136 1 := cmpi .sge main_arg1 main_v0
  let main_c_0 : IVec S_ 32 := constantI S_ 32 8#32
  let main_v2 : IVec S136 32 := broadcastInDim S136 ![] bcast_S_S136 main_c_0
  let main_v3 : IVec S136 1 := cmpi .slt main_arg1 main_v2
  let main_v4 : IVec S136 1 := andi main_v1 main_v3
  let main_v5 : IVec S_ 32 := shapeCast S_ main_arg2 shapeCasts_S1_S_
  let main_c_1 : IVec S_ 32 := constantI S_ 32 1#32
  let main_v6 : IVec S_ 1 := cmpi .sge main_v5 main_c_1
  let main_v7 : IVec S136 1 := broadcastInDim S136 ![] bcast_S_S136 main_v6
  let main_v8 : IVec S136 1 := andi main_v4 main_v7
  main_v8
-- ==== Kernel.lean ====
abbrev S69632x1024 : Shape := ⟨2, ![69632, 1024]⟩
abbrev S136 : Shape := ⟨1, ![136]⟩
abbrev S1 : Shape := ⟨1, ![1]⟩
abbrev S8x1024x3584 : Shape := ⟨3, ![8, 1024, 3584]⟩
abbrev S8x3584x1024 : Shape := ⟨3, ![8, 3584, 1024]⟩
abbrev S557056x128 : Shape := ⟨2, ![557056, 128]⟩
abbrev S4096x128 : Shape := ⟨2, ![4096, 128]⟩
abbrev S1x1024x3584 : Shape := ⟨3, ![1, 1024, 3584]⟩
abbrev S1x3584x1024 : Shape := ⟨3, ![1, 3584, 1024]⟩
abbrev S512x1024 : Shape := ⟨2, ![512, 1024]⟩
abbrev S512x128 : Shape := ⟨2, ![512, 128]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩

abbrev nBuf : Space → Nat
  | .hbm => 10
  | .vmem => 11
  | .smem => 2
  | _ => 0

abbrev bufTy : (tb : Table) → Fin (tcTables nBuf tb) → BufTy
  | .hbm, ⟨0, _⟩ => ⟨S69632x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S557056x128, .f32⟩
  | .hbm, ⟨5, _⟩ => ⟨S8x1024x3584, .bf16⟩
  | .hbm, ⟨6, _⟩ => ⟨S8x1024x3584, .bf16⟩
  | .hbm, ⟨7, _⟩ => ⟨S8x3584x1024, .bf16⟩
  | .hbm, ⟨8, _⟩ => ⟨S557056x128, .f32⟩
  | .hbm, ⟨9, _⟩ => ⟨S69632x1024, .f32⟩
  | .local _ .vmem, ⟨0, _⟩ => ⟨S4096x128, .f32⟩
  | .local _ .vmem, ⟨1, _⟩ => ⟨S4096x128, .f32⟩
  | .local _ .vmem, ⟨2, _⟩ => ⟨S1x1024x3584, .bf16⟩
  | .local _ .vmem, ⟨3, _⟩ => ⟨S1x1024x3584, .bf16⟩
  | .local _ .vmem, ⟨4, _⟩ => ⟨S1x1024x3584, .bf16⟩
  | .local _ .vmem, ⟨5, _⟩ => ⟨S1x1024x3584, .bf16⟩
  | .local _ .vmem, ⟨6, _⟩ => ⟨S1x3584x1024, .bf16⟩
  | .local _ .vmem, ⟨7, _⟩ => ⟨S1x3584x1024, .bf16⟩
  | .local _ .vmem, ⟨8, _⟩ => ⟨S4096x128, .f32⟩
  | .local _ .vmem, ⟨9, _⟩ => ⟨S4096x128, .f32⟩
  | .local _ .vmem, ⟨10, _⟩ => ⟨S512x1024, .f32⟩
  | .local _ .smem, ⟨0, _⟩ => ⟨S136, .i32⟩
  | .local _ .smem, ⟨1, _⟩ => ⟨S1, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v2 : BitVec 1 := Scalar.xori v1 v_true
  let v3 : BitVec 32 := Scalar.extui v2
  let c0_i32 : BitVec 32 := 0#32
  let v4 : BitVec 1 := Scalar.cmpi .ne v3 c0_i32
  v4

def k0_cond2 (i : grid0.Coords) (v0 : BitVec 32) : BitVec 1 :=
  let arg0 : BitVec 32 := BitVec.ofNat 32 (i 0).val
  let v1 : BitVec 1 := Scalar.cmpi .slt arg0 v0
  let v5 : BitVec 32 := Scalar.extui v1
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3584x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S69632x1024 : Shape := ⟨2, ![69632, 1024]⟩
abbrev S136 : Shape := ⟨1, ![136]⟩
abbrev S1 : Shape := ⟨1, ![1]⟩
abbrev S8x1024x3584 : Shape := ⟨3, ![8, 1024, 3584]⟩
abbrev S8x3584x1024 : Shape := ⟨3, ![8, 3584, 1024]⟩
abbrev S136x1 : Shape := ⟨2, ![136, 1]⟩
abbrev S136x512 : Shape := ⟨2, ![136, 512]⟩
abbrev S69632 : Shape := ⟨1, ![69632]⟩
abbrev S_ : Shape := ⟨0, ![]⟩
abbrev S69632x1 : Shape := ⟨2, ![69632, 1]⟩
abbrev S1x8 : Shape := ⟨2, ![1, 8]⟩
abbrev S69632x8 : Shape := ⟨2, ![69632, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S69632x3584 : Shape := ⟨2, ![69632, 3584]⟩

abbrev nBuf : Space → Nat
  | .hbm => 214
  | .vmem => 0
  | .smem => 0
  | _ => 0

abbrev hbmTy0_0 (i : Nat) : BufTy := match i % 128 with
  | 0 => ⟨S69632x1024, .f32⟩
  | 1 => ⟨S136, .i32⟩
  | 2 => ⟨S1, .i32⟩
  | 3 => ⟨S8x1024x3584, .f32⟩
  | 4 => ⟨S8x1024x3584, .f32⟩
  | 5 => ⟨S8x3584x1024, .f32⟩
  | 6 => ⟨S136x1, .i32⟩
  | 7 => ⟨S136x512, .i32⟩
  | 8 => ⟨S69632, .i32⟩
  | 9 => ⟨S136, .i32⟩
  | 10 => ⟨S_, .i32⟩
  | 11 => ⟨S136, .i32⟩
  | 12 => ⟨S136, .i1⟩
  | 13 => ⟨S136x1, .i1⟩
  | 14 => ⟨S136x512, .i1⟩
  | 15 => ⟨S69632, .i1⟩
  | 16 => ⟨S69632x1, .i1⟩
  | 17 => ⟨S69632x1, .i32⟩
  | 18 => ⟨S1x8, .i32⟩
  | 19 => ⟨S69632x8, .i32⟩
  | 20 => ⟨S69632x8, .i32⟩
  | 21 => ⟨S69632x8, .i1⟩
  | 22 => ⟨S69632x8, .f32⟩
  | 23 => ⟨S_, .f32⟩
  | 24 => ⟨S_, .f32⟩
  | 25 => ⟨S69632x8, .i1⟩
  | 26 => ⟨S69632x8, .f32⟩
  | 27 => ⟨S69632x8, .f32⟩
  | 28 => ⟨S_, .f32⟩
  | 29 => ⟨S69632x1024, .f32⟩
  | 30 => ⟨S69632x1, .f32⟩
  | 31 => ⟨S1x1024x3584, .f32⟩
  | 32 => ⟨S1024x3584, .f32⟩
  | 33 => ⟨S1x1024x3584, .f32⟩
  | 34 => ⟨S1024x3584, .f32⟩
  | 35 => ⟨S1x3584x1024, .f32⟩
  | 36 => ⟨S3584x1024, .f32⟩
  | 37 => ⟨S69632x3584, .f32⟩
  | 38 => ⟨S69632x3584, .f32⟩
  | 39 => ⟨S69632x3584, .f32⟩
  | 40 => ⟨S_, .f32⟩
  | 41 => ⟨S69632x3584, .f32⟩
  | 42 => ⟨S69632x3584, .f32⟩
  | 43 => ⟨S_, .f32⟩
  | 44 => ⟨S69632x3584, .f32⟩
  | 45 => ⟨S69632x3584, .f32⟩
  | 46 => ⟨S69632x3584, .f32⟩
  | 47 => ⟨S69632x3584, .f32⟩
  | 48 => ⟨S69632x3584, .f32⟩
  | 49 => ⟨S69632x1024, .f32⟩
  | 50 => ⟨S69632x1024, .f32⟩
  | 51 => ⟨S69632x1024, .f32⟩
  | 52 => ⟨S69632x1024, .f32⟩
  | 53 => ⟨S69632x1, .f32⟩
  | 54 => ⟨S1x1024x3584, .f32⟩
  | 55 => ⟨S1024x3584, .f32⟩
  | 56 => ⟨S1x1024x3584, .f32⟩
  | 57 => ⟨S1024x3584, .f32⟩
  | 58 => ⟨S1x3584x1024, .f32⟩
  | 59 => ⟨S3584x1024, .f32⟩
  | 60 => ⟨S69632x3584, .f32⟩
  | 61 => ⟨S69632x3584, .f32⟩
  | 62 => ⟨S69632x3584, .f32⟩
  | 63 => ⟨S_, .f32⟩
  | 64 => ⟨S69632x3584, .f32⟩
  | 65 => ⟨S69632x3584, .f32⟩
  | 66 => ⟨S_, .f32⟩
  | 67 => ⟨S69632x3584, .f32⟩
  | 68 => ⟨S69632x3584, .f32⟩
  | 69 => ⟨S69632x3584, .f32⟩
  | 70 => ⟨S69632x3584, .f32⟩
  | 71 => ⟨S69632x3584, .f32⟩
  | 72 => ⟨S69632x1024, .f32⟩
  | 73 => ⟨S69632x1024, .f32⟩
  | 74 => ⟨S69632x1024, .f32⟩
  | 75 => ⟨S69632x1024, .f32⟩
  | 76 => ⟨S69632x1, .f32⟩
  | 77 => ⟨S1x1024x3584, .f32⟩
  | 78 => ⟨S1024x3584, .f32⟩
  | 79 => ⟨S1x1024x3584, .f32⟩
  | 80 => ⟨S1024x3584, .f32⟩
  | 81 => ⟨S1x3584x1024, .f32⟩
  | 82 => ⟨S3584x1024, .f32⟩
  | 83 => ⟨S69632x3584, .f32⟩
  | 84 => ⟨S69632x3584, .f32⟩
  | 85 => ⟨S69632x3584, .f32⟩
  | 86 => ⟨S_, .f32⟩
  | 87 => ⟨S69632x3584, .f32⟩
  | 88 => ⟨S69632x3584, .f32⟩
  | 89 => ⟨S_, .f32⟩
  | 90 => ⟨S69632x3584, .f32⟩
  | 91 => ⟨S69632x3584, .f32⟩
  | 92 => ⟨S69632x3584, .f32⟩
  | 93 => ⟨S69632x3584, .f32⟩
  | 94 => ⟨S69632x3584, .f32⟩
  | 95 => ⟨S69632x1024, .f32⟩
  | 96 => ⟨S69632x1024, .f32⟩
  | 97 => ⟨S69632x1024, .f32⟩
  | 98 => ⟨S69632x1024, .f32⟩
  | 99 => ⟨S69632x1, .f32⟩
  | 100 => ⟨S1x1024x3584, .f32⟩
  | 101 => ⟨S1024x3584, .f32⟩
  | 102 => ⟨S1x1024x3584, .f32⟩
  | 103 => ⟨S1024x3584, .f32⟩
  | 104 => ⟨S1x3584x1024, .f32⟩
  | 105 => ⟨S3584x1024, .f32⟩
  | 106 => ⟨S69632x3584, .f32⟩
  | 107 => ⟨S69632x3584, .f32⟩
  | 108 => ⟨S69632x3584, .f32⟩
  | 109 => ⟨S_, .f32⟩
  | 110 => ⟨S69632x3584, .f32⟩
  | 111 => ⟨S69632x3584, .f32⟩
  | 112 => ⟨S_, .f32⟩
  | 113 => ⟨S69632x3584, .f32⟩
  | 114 => ⟨S69632x3584, .f32⟩
  | 115 => ⟨S69632x3584, .f32⟩
  | 116 => ⟨S69632x3584, .f32⟩
  | 117 => ⟨S69632x3584, .f32⟩
  | 118 => ⟨S69632x1024, .f32⟩
  | 119 => ⟨S69632x1024, .f32⟩
  | 120 => ⟨S69632x1024, .f32⟩
  | 121 => ⟨S69632x1024, .f32⟩
  | 122 => ⟨S69632x1, .f32⟩
  | 123 => ⟨S1x1024x3584, .f32⟩
  | 124 => ⟨S1024x3584, .f32⟩
  | 125 => ⟨S1x1024x3584, .f32⟩
  | 126 => ⟨S1024x3584, .f32⟩
  | 127 => ⟨S1x3584x1024, .f32⟩
  | _ => ⟨S69632x1024, .f32⟩

abbrev hbmTy0_1 (i : Nat) : BufTy := match i % 128 with
  | 0 => ⟨S3584x1024, .f32⟩
  | 1 => ⟨S69632x3584, .f32⟩
  | 2 => ⟨S69632x3584, .f32⟩
  | 3 => ⟨S69632x3584, .f32⟩
  | 4 => ⟨S_, .f32⟩
  | 5 => ⟨S69632x3584, .f32⟩
  | 6 => ⟨S69632x3584, .f32⟩
  | 7 => ⟨S_, .f32⟩
  | 8 => ⟨S69632x3584, .f32⟩
  | 9 => ⟨S69632x3584, .f32⟩
  | 10 => ⟨S69632x3584, .f32⟩
  | 11 => ⟨S69632x3584, .f32⟩
  | 12 => ⟨S69632x3584, .f32⟩
  | 13 => ⟨S69632x1024, .f32⟩
  | 14 => ⟨S69632x1024, .f32⟩
  | 15 => ⟨S69632x1024, .f32⟩
  | 16 => ⟨S69632x1024, .f32⟩
  | 17 => ⟨S69632x1, .f32⟩
  | 18 => ⟨S1x1024x3584, .f32⟩
  | 19 => ⟨S1024x3584, .f32⟩
  | 20 => ⟨S1x1024x3584, .f32⟩
  | 21 => ⟨S1024x3584, .f32⟩
  | 22 => ⟨S1x3584x1024, .f32⟩
  | 23 => ⟨S3584x1024, .f32⟩
  | 24 => ⟨S69632x3584, .f32⟩
  | 25 => ⟨S69632x3584, .f32⟩
  | 26 => ⟨S69632x3584, .f32⟩
  | 27 => ⟨S_, .f32⟩
  | 28 => ⟨S69632x3584, .f32⟩
  | 29 => ⟨S69632x3584, .f32⟩
  | 30 => ⟨S_, .f32⟩
  | 31 => ⟨S69632x3584, .f32⟩
  | 32 => ⟨S69632x3584, .f32⟩
  | 33 => ⟨S69632x3584, .f32⟩
  | 34 => ⟨S69632x3584, .f32⟩
  | 35 => ⟨S69632x3584, .f32⟩
  | 36 => ⟨S69632x1024, .f32⟩
  | 37 => ⟨S69632x1024, .f32⟩
  | 38 => ⟨S69632x1024, .f32⟩
  | 39 => ⟨S69632x1024, .f32⟩
  | 40 => ⟨S69632x1, .f32⟩
  | 41 => ⟨S1x1024x3584, .f32⟩
  | 42 => ⟨S1024x3584, .f32⟩
  | 43 => ⟨S1x1024x3584, .f32⟩
  | 44 => ⟨S1024x3584, .f32⟩
  | 45 => ⟨S1x3584x1024, .f32⟩
  | 46 => ⟨S3584x1024, .f32⟩
  | 47 => ⟨S69632x3584, .f32⟩
  | 48 => ⟨S69632x3584, .f32⟩
  | 49 => ⟨S69632x3584, .f32⟩
  | 50 => ⟨S_, .f32⟩
  | 51 => ⟨S69632x3584, .f32⟩
  | 52 => ⟨S69632x3584, .f32⟩
  | 53 => ⟨S_, .f32⟩
  | 54 => ⟨S69632x3584, .f32⟩
  | 55 => ⟨S69632x3584, .f32⟩
  | 56 => ⟨S69632x3584, .f32⟩
  | 57 => ⟨S69632x3584, .f32⟩
  | 58 => ⟨S69632x3584, .f32⟩
  | 59 => ⟨S69632x1024, .f32⟩
  | 60 => ⟨S69632x1024, .f32⟩
  | 61 => ⟨S69632x1024, .f32⟩
  | 62 => ⟨S69632x1024, .f32⟩
  | 63 => ⟨S69632x1, .f32⟩
  | 64 => ⟨S1x1024x3584, .f32⟩
  | 65 => ⟨S1024x3584, .f32⟩
  | 66 => ⟨S1x1024x3584, .f32⟩
  | 67 => ⟨S1024x3584, .f32⟩
  | 68 => ⟨S1x3584x1024, .f32⟩
  | 69 => ⟨S3584x1024, .f32⟩
  | 70 => ⟨S69632x3584, .f32⟩
  | 71 => ⟨S69632x3584, .f32⟩
  | 72 => ⟨S69632x3584, .f32⟩
  | 73 => ⟨S_, .f32⟩
  | 74 => ⟨S69632x3584, .f32⟩
  | 75 => ⟨S69632x3584, .f32⟩
  | 76 => ⟨S_, .f32⟩
  | 77 => ⟨S69632x3584, .f32⟩
  | 78 => ⟨S69632x3584, .f32⟩
  | 79 => ⟨S69632x3584, .f32⟩
  | 80 => ⟨S69632x3584, .f32⟩
  | 81 => ⟨S69632x3584, .f32⟩
  | 82 => ⟨S69632x1024, .f32⟩
  | 83 => ⟨S69632x1024, .f32⟩
  | 84 => ⟨S69632x1024, .f32⟩
  | 85 => ⟨S69632x1024, .f32⟩
  | _ => ⟨S69632x1024, .f32⟩

abbrev hbmTy (i : Nat) : BufTy := match i / 128 with
  | 0 => hbmTy0_0 i
  | 1 => hbmTy0_1 i
  | _ => ⟨S69632x1024, .f32⟩

abbrev bufTy : (tb : Table) → Fin (tcTables nBuf tb) → BufTy
  | .hbm, ⟨i, _⟩ => hbmTy i
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v11 : Ref sig .tc := ⟨.hbm, 22, rfl⟩
abbrev main_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call2_v0 : Ref sig .tc := ⟨.hbm, 38, rfl⟩
abbrev main_call2_v1 : Ref sig .tc := ⟨.hbm, 39, rfl⟩
abbrev main_call2_cst : Ref sig .tc := ⟨.hbm, 40, rfl⟩
abbrev main_call2_v2 : Ref sig .tc := ⟨.hbm, 41, rfl⟩
abbrev main_call2_v3 : Ref sig .tc := ⟨.hbm, 42, rfl⟩
abbrev main_call2_cst_0 : Ref sig .tc := ⟨.hbm, 43, rfl⟩
abbrev main_call2_v4 : Ref sig .tc := ⟨.hbm, 44, rfl⟩
abbrev main_call2_v5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call3_v0 : Ref sig .tc := ⟨.hbm, 61, rfl⟩
abbrev main_call3_v1 : Ref sig .tc := ⟨.hbm, 62, rfl⟩
abbrev main_call3_cst : Ref sig .tc := ⟨.hbm, 63, rfl⟩
abbrev main_call3_v2 : Ref sig .tc := ⟨.hbm, 64, rfl⟩
abbrev main_call3_v3 : Ref sig .tc := ⟨.hbm, 65, rfl⟩
abbrev main_call3_cst_0 : Ref sig .tc := ⟨.hbm, 66, rfl⟩
abbrev main_call3_v4 : Ref sig .tc := ⟨.hbm, 67, rfl⟩
abbrev main_call3_v5 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_call4_v0 : Ref sig .tc := ⟨.hbm, 84, rfl⟩
abbrev main_call4_v1 : Ref sig .tc := ⟨.hbm, 85, rfl⟩
abbrev main_call4_cst : Ref sig .tc := ⟨.hbm, 86, rfl⟩
abbrev main_call4_v2 : Ref sig .tc := ⟨.hbm, 87, rfl⟩
abbrev main_call4_v3 : Ref sig .tc := ⟨.hbm, 88, rfl⟩
abbrev main_call4_cst_0 : Ref sig .tc := ⟨.hbm, 89, rfl⟩
abbrev main_call4_v4 : Ref sig .tc := ⟨.hbm, 90, rfl⟩
abbrev main_call4_v5 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_call5_v0 : Ref sig .tc := ⟨.hbm, 107, rfl⟩
abbrev main_call5_v1 : Ref sig .tc := ⟨.hbm, 108, rfl⟩
abbrev main_call5_cst : Ref sig .tc := ⟨.hbm, 109, rfl⟩
abbrev main_call5_v2 : Ref sig .tc := ⟨.hbm, 110, rfl⟩
abbrev main_call5_v3 : Ref sig .tc := ⟨.hbm, 111, rfl⟩
abbrev main_call5_cst_0 : Ref sig .tc := ⟨.hbm, 112, rfl⟩
abbrev main_call5_v4 : Ref sig .tc := ⟨.hbm, 113, rfl⟩
abbrev main_call5_v5 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_call6_v0 : Ref sig .tc := ⟨.hbm, 130, rfl⟩
abbrev main_call6_v1 : Ref sig .tc := ⟨.hbm, 131, rfl⟩
abbrev main_call6_cst : Ref sig .tc := ⟨.hbm, 132, rfl⟩
abbrev main_call6_v2 : Ref sig .tc := ⟨.hbm, 133, rfl⟩
abbrev main_call6_v3 : Ref sig .tc := ⟨.hbm, 134, rfl⟩
abbrev main_call6_cst_0 : Ref sig .tc := ⟨.hbm, 135, rfl⟩
abbrev main_call6_v4 : Ref sig .tc := ⟨.hbm, 136, rfl⟩
abbrev main_call6_v5 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_call7_v0 : Ref sig .tc := ⟨.hbm, 153, rfl⟩
abbrev main_call7_v1 : Ref sig .tc := ⟨.hbm, 154, rfl⟩
abbrev main_call7_cst : Ref sig .tc := ⟨.hbm, 155, rfl⟩
abbrev main_call7_v2 : Ref sig .tc := ⟨.hbm, 156, rfl⟩
abbrev main_call7_v3 : Ref sig .tc := ⟨.hbm, 157, rfl⟩
abbrev main_call7_cst_0 : Ref sig .tc := ⟨.hbm, 158, rfl⟩
abbrev main_call7_v4 : Ref sig .tc := ⟨.hbm, 159, rfl⟩
abbrev main_call7_v5 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_call8_v0 : Ref sig .tc := ⟨.hbm, 176, rfl⟩
abbrev main_call8_v1 : Ref sig .tc := ⟨.hbm, 177, rfl⟩
abbrev main_call8_cst : Ref sig .tc := ⟨.hbm, 178, rfl⟩
abbrev main_call8_v2 : Ref sig .tc := ⟨.hbm, 179, rfl⟩
abbrev main_call8_v3 : Ref sig .tc := ⟨.hbm, 180, rfl⟩
abbrev main_call8_cst_0 : Ref sig .tc := ⟨.hbm, 181, rfl⟩
abbrev main_call8_v4 : Ref sig .tc := ⟨.hbm, 182, rfl⟩
abbrev main_call8_v5 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_call9_v0 : Ref sig .tc := ⟨.hbm, 199, rfl⟩
abbrev main_call9_v1 : Ref sig .tc := ⟨.hbm, 200, rfl⟩
abbrev main_call9_cst : Ref sig .tc := ⟨.hbm, 201, rfl⟩
abbrev main_call9_v2 : Ref sig .tc := ⟨.hbm, 202, rfl⟩
abbrev main_call9_v3 : Ref sig .tc := ⟨.hbm, 203, rfl⟩
abbrev main_call9_cst_0 : Ref sig .tc := ⟨.hbm, 204, rfl⟩
abbrev main_call9_v4 : Ref sig .tc := ⟨.hbm, 205, rfl⟩
abbrev main_call9_v5 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩

abbrev nD : Nat := 1
abbrev τ : Topo := Topo.v7x

variable {F : FTy → Type} [FloatOps F]
-- ==== Kernel2.lean ====
abbrev S8x4096x512 : Shape := ⟨3, ![8, 4096, 512]⟩
abbrev S8x4096x1024 : Shape := ⟨3, ![8, 4096, 1024]⟩
abbrev S128 : Shape := ⟨1, ![128]⟩
abbrev S1024x1024 : Shape := ⟨2, ![1024, 1024]⟩
abbrev S8x1x1024 : Shape := ⟨3, ![8, 1, 1024]⟩
abbrev S1024 : Shape := ⟨1, ![1024]⟩
abbrev S1024x2816 : Shape := ⟨2, ![1024, 2816]⟩
abbrev S2816x1024 : Shape := ⟨2, ![2816, 1024]⟩
abbrev S8x1024x3584 : Shape := ⟨3, ![8, 1024, 3584]⟩
abbrev S8x3584x1024 : Shape := ⟨3, ![8, 3584, 1024]⟩
abbrev S8x64x64x4x128 : Shape := ⟨5, ![8, 64, 64, 4, 128]⟩
abbrev S8x4x64x64x128 : Shape := ⟨5, ![8, 4, 64, 64, 128]⟩
abbrev S_ : Shape := ⟨0, ![]⟩
abbrev S8x4x64x72x128 : Shape := ⟨5, ![8, 4, 64, 72, 128]⟩
abbrev S8x4x4608x128 : Shape := ⟨4, ![8, 4, 4608, 128]⟩
abbrev S1x128 : Shape := ⟨2, ![1, 128]⟩
abbrev S1x1024 : Shape := ⟨2, ![1, 1024]⟩
abbrev S8192x3584 : Shape := ⟨2, ![8192, 3584]⟩
abbrev S28672x1024 : Shape := ⟨2, ![28672, 1024]⟩
abbrev S1x4x576x128 : Shape := ⟨4, ![1, 4, 576, 128]⟩
abbrev S1x512x512 : Shape := ⟨3, ![1, 512, 512]⟩
abbrev S1x512x1024 : Shape := ⟨3, ![1, 512, 1024]⟩
abbrev S1x1x1024 : Shape := ⟨3, ![1, 1, 1024]⟩
abbrev S128x3584 : Shape := ⟨2, ![128, 3584]⟩
abbrev S448x1024 : Shape := ⟨2, ![448, 1024]⟩
abbrev S512x1024 : Shape := ⟨2, ![512, 1024]⟩
abbrev S512x512 : Shape := ⟨2, ![512, 512]⟩
abbrev S1x1x64x128 : Shape := ⟨4, ![1, 1, 64, 128]⟩
abbrev S64x128 : Shape := ⟨2, ![64, 128]⟩
abbrev S512x128 : Shape := ⟨2, ![512, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 40
  | .vmem => 39
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x4096x512, .f32⟩
  | .hbm, ⟨4, _⟩ => ⟨S8x4096x1024, .f32⟩
  | .hbm, ⟨5, _⟩ => ⟨S128, .f32⟩
  | .hbm, ⟨6, _⟩ => ⟨S1024x1024, .f32⟩
  | .hbm, ⟨7, _⟩ => ⟨S8x1x1024, .f32⟩
  | .hbm, ⟨8, _⟩ => ⟨S1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S1024x2816, .f32⟩
  | .hbm, ⟨13, _⟩ => ⟨S1024x2816, .f32⟩
  | .hbm, ⟨14, _⟩ => ⟨S2816x1024, .f32⟩
  | .hbm, ⟨15, _⟩ => ⟨S8x1024x3584, .f32⟩
  | .hbm, ⟨16, _⟩ => ⟨S8x1024x3584, .f32⟩
  | .hbm, ⟨17, _⟩ => ⟨S8x3584x1024, .f32⟩
  | .hbm, ⟨18, _⟩ => ⟨S8x64x64x4x128, .f32⟩
  | .hbm, ⟨19, _⟩ => ⟨S8x4x64x64x128, .f32⟩
  | .hbm, ⟨20, _⟩ => ⟨S_, .i32⟩
  | .hbm, ⟨21, _⟩ => ⟨S_, .f32⟩
  | .hbm, ⟨22, _⟩ => ⟨S8x4x64x72x128, .f32⟩
  | .hbm, ⟨23, _⟩ => ⟨S8x4x4608x128, .f32⟩
  | .hbm, ⟨24, _⟩ => ⟨S8x4096x512, .bf16⟩
  | .hbm, ⟨25, _⟩ => ⟨S8x4096x512, .bf16⟩
  | .hbm, ⟨26, _⟩ => ⟨S8x4096x512, .bf16⟩
  | .hbm, ⟨27, _⟩ => ⟨S1x128, .f32⟩
  | .hbm, ⟨28, _⟩ => ⟨S1024x1024, .bf16⟩
  | .hbm, ⟨29, _⟩ => ⟨S1x1024, .f32⟩
  | .hbm, ⟨30, _⟩ => ⟨S1024x2816, .bf16⟩
  | .hbm, ⟨31, _⟩ => ⟨S1024x2816, .bf16⟩
  | .hbm, ⟨32, _⟩ => ⟨S2816x1024, .bf16⟩
  | .hbm, ⟨33, _⟩ => ⟨S8192x3584, .f32⟩
  | .hbm, ⟨34, _⟩ => ⟨S8192x3584, .f32⟩
  | .hbm, ⟨35, _⟩ => ⟨S28672x1024, .f32⟩
  | .hbm, ⟨36, _⟩ => ⟨S8x4096x1024, .f32⟩
  | .hbm, ⟨37, _⟩ => ⟨S8192x3584, .bf16⟩
  | .hbm, ⟨38, _⟩ => ⟨S8192x3584, .bf16⟩
  | .hbm, ⟨39, _⟩ => ⟨S28672x1024, .bf16⟩
  | .local _ .vmem, ⟨0, _⟩ => ⟨S1x4x576x128, .f32⟩
  | .local _ .vmem, ⟨1, _⟩ => ⟨S1x4x576x128, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x1024, .f32⟩
  | .local _ .vmem, ⟨9, _⟩ => ⟨S1x512x1024, .f32⟩
  | .local _ .vmem, ⟨10, _⟩ => ⟨S1x128, .f32⟩
  | .local _ .vmem, ⟨11, _⟩ => ⟨S1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1024x2816, .bf16⟩
  | .local _ .vmem, ⟨22, _⟩ => ⟨S1024x2816, .bf16⟩
  | .local _ .vmem, ⟨23, _⟩ => ⟨S2816x1024, .bf16⟩
  | .local _ .vmem, ⟨24, _⟩ => ⟨S128x3584, .f32⟩
  | .local _ .vmem, ⟨25, _⟩ => ⟨S128x3584, .f32⟩
  | .local _ .vmem, ⟨26, _⟩ => ⟨S128x3584, .f32⟩
  | .local _ .vmem, ⟨27, _⟩ => ⟨S128x3584, .f32⟩
  | .local _ .vmem, ⟨28, _⟩ => ⟨S448x1024, .f32⟩
  | .local _ .vmem, ⟨29, _⟩ => ⟨S448x1024, .f32⟩
  | .local _ .vmem, ⟨30, _⟩ => ⟨S1x512x1024, .f32⟩
  | .local _ .vmem, ⟨31, _⟩ => ⟨S1x512x1024, .f32⟩
  | .local _ .vmem, ⟨32, _⟩ => ⟨S128x3584, .bf16⟩
  | .local _ .vmem, ⟨33, _⟩ => ⟨S128x3584, .bf16⟩
  | .local _ .vmem, ⟨34, _⟩ => ⟨S128x3584, .bf16⟩
  | .local _ .vmem, ⟨35, _⟩ => ⟨S128x3584, .bf16⟩
  | .local _ .vmem, ⟨36, _⟩ => ⟨S448x1024, .bf16⟩
  | .local _ .vmem, ⟨37, _⟩ => ⟨S448x1024, .bf16⟩
  | .local _ .vmem, ⟨38, _⟩ => ⟨S512x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_call0_v0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16_0 : Ref sig .tc := ⟨.hbm, 36, rfl⟩
abbrev main_v16_1 : Ref sig .tc := ⟨.hbm, 37, rfl⟩
abbrev main_v16_2 : Ref sig .tc := ⟨.hbm, 38, rfl⟩
abbrev main_v16_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x4x576x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S128x3584 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x3584 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S448x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S128x3584 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S128x3584 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S448x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference2Ideal.lean ====
abbrev S8x4096x512 : Shape := ⟨3, ![8, 4096, 512]⟩
abbrev S8x4096x1024 : Shape := ⟨3, ![8, 4096, 1024]⟩
abbrev S128 : Shape := ⟨1, ![128]⟩
abbrev S1024x1024 : Shape := ⟨2, ![1024, 1024]⟩
abbrev S8x1x1024 : Shape := ⟨3, ![8, 1, 1024]⟩
abbrev S1024 : Shape := ⟨1, ![1024]⟩
abbrev S1024x2816 : Shape := ⟨2, ![1024, 2816]⟩
abbrev S2816x1024 : Shape := ⟨2, ![2816, 1024]⟩
abbrev S8x1024x3584 : Shape := ⟨3, ![8, 1024, 3584]⟩
abbrev S8x3584x1024 : Shape := ⟨3, ![8, 3584, 1024]⟩
abbrev S8x4096x4x128 : Shape := ⟨4, ![8, 4096, 4, 128]⟩
abbrev S_ : Shape := ⟨0, ![]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S8192x3584 : Shape := ⟨2, ![8192, 3584]⟩
abbrev S28672x1024 : Shape := ⟨2, ![28672, 1024]⟩

abbrev nBuf : Space → Nat
  | .hbm => 98
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x4096x512, .f32⟩
  | .hbm, ⟨4, _⟩ => ⟨S8x4096x1024, .f32⟩
  | .hbm, ⟨5, _⟩ => ⟨S128, .f32⟩
  | .hbm, ⟨6, _⟩ => ⟨S1024x1024, .f32⟩
  | .hbm, ⟨7, _⟩ => ⟨S8x1x1024, .f32⟩
  | .hbm, ⟨8, _⟩ => ⟨S1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S1024x2816, .f32⟩
  | .hbm, ⟨13, _⟩ => ⟨S1024x2816, .f32⟩
  | .hbm, ⟨14, _⟩ => ⟨S2816x1024, .f32⟩
  | .hbm, ⟨15, _⟩ => ⟨S8x1024x3584, .f32⟩
  | .hbm, ⟨16, _⟩ => ⟨S8x1024x3584, .f32⟩
  | .hbm, ⟨17, _⟩ => ⟨S8x3584x1024, .f32⟩
  | .hbm, ⟨18, _⟩ => ⟨S8x4096x4x128, .f32⟩
  | .hbm, ⟨19, _⟩ => ⟨S8x4096x4x128, .f32⟩
  | .hbm, ⟨20, _⟩ => ⟨S8x4096x4x128, .f32⟩
  | .hbm, ⟨21, _⟩ => ⟨S8x4096x4x128, .f32⟩
  | .hbm, ⟨22, _⟩ => ⟨S_, .f32⟩
  | .hbm, ⟨23, _⟩ => ⟨S8x4096x4, .f32⟩
  | .hbm, ⟨24, _⟩ => ⟨S8x4096x4x1, .f32⟩
  | .hbm, ⟨25, _⟩ => ⟨S_, .f32⟩
  | .hbm, ⟨26, _⟩ => ⟨S8x4096x4x1, .f32⟩
  | .hbm, ⟨27, _⟩ => ⟨S8x4096x4x1, .f32⟩
  | .hbm, ⟨28, _⟩ => ⟨S_, .f32⟩
  | .hbm, ⟨29, _⟩ => ⟨S8x4096x4x1, .f32⟩
  | .hbm, ⟨30, _⟩ => ⟨S8x4096x4x1, .f32⟩
  | .hbm, ⟨31, _⟩ => ⟨S8x4096x4x1, .f32⟩
  | .hbm, ⟨32, _⟩ => ⟨S8x4096x4x128, .f32⟩
  | .hbm, ⟨33, _⟩ => ⟨S8x4096x4x128, .f32⟩
  | .hbm, ⟨34, _⟩ => ⟨S1x1x1x128, .f32⟩
  | .hbm, ⟨35, _⟩ => ⟨S8x4096x4x128, .f32⟩
  | .hbm, ⟨36, _⟩ => ⟨S8x4096x4x128, .f32⟩
  | .hbm, ⟨37, _⟩ => ⟨S8x4096x512, .f32⟩
  | .hbm, ⟨38, _⟩ => ⟨S8x4096x512, .f32⟩
  | .hbm, ⟨39, _⟩ => ⟨S8x4096x512, .f32⟩
  | .hbm, ⟨40, _⟩ => ⟨S_, .f32⟩
  | .hbm, ⟨41, _⟩ => ⟨S8x4096x512, .f32⟩
  | .hbm, ⟨42, _⟩ => ⟨S8x4096x512, .f32⟩
  | .hbm, ⟨43, _⟩ => ⟨S_, .f32⟩
  | .hbm, ⟨44, _⟩ => ⟨S8x4096x512, .f32⟩
  | .hbm, ⟨45, _⟩ => ⟨S8x4096x512, .f32⟩
  | .hbm, ⟨46, _⟩ => ⟨S8x4096x512, .f32⟩
  | .hbm, ⟨47, _⟩ => ⟨S8x4096x512, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S_, .f32⟩
  | .hbm, ⟨55, _⟩ => ⟨S8x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S_, .f32⟩
  | .hbm, ⟨61, _⟩ => ⟨S8x4096x1, .f32⟩
  | .hbm, ⟨62, _⟩ => ⟨S8x4096x1, .f32⟩
  | .hbm, ⟨63, _⟩ => ⟨S8x4096x1, .f32⟩
  | .hbm, ⟨64, _⟩ => ⟨S8x4096x1024, .f32⟩
  | .hbm, ⟨65, _⟩ => ⟨S8x4096x1024, .f32⟩
  | .hbm, ⟨66, _⟩ => ⟨S1x1x1024, .f32⟩
  | .hbm, ⟨67, _⟩ => ⟨S8x4096x1024, .f32⟩
  | .hbm, ⟨68, _⟩ => ⟨S8x4096x1024, .f32⟩
  | .hbm, ⟨69, _⟩ => ⟨S_, .f32⟩
  | .hbm, ⟨70, _⟩ => ⟨S8x1x1024, .f32⟩
  | .hbm, ⟨71, _⟩ => ⟨S8x1x1024, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | .hbm, ⟨76, _⟩ => ⟨S8x4096x2816, .f32⟩
  | .hbm, ⟨77, _⟩ => ⟨S8x4096x2816, .f32⟩
  | .hbm, ⟨78, _⟩ => ⟨S8x4096x2816, .f32⟩
  | .hbm, ⟨79, _⟩ => ⟨S_, .f32⟩
  | .hbm, ⟨80, _⟩ => ⟨S8x4096x2816, .f32⟩
  | .hbm, ⟨81, _⟩ => ⟨S8x4096x2816, .f32⟩
  | .hbm, ⟨82, _⟩ => ⟨S_, .f32⟩
  | .hbm, ⟨83, _⟩ => ⟨S8x4096x2816, .f32⟩
  | .hbm, ⟨84, _⟩ => ⟨S8x4096x2816, .f32⟩
  | .hbm, ⟨85, _⟩ => ⟨S8x4096x2816, .f32⟩
  | .hbm, ⟨86, _⟩ => ⟨S8x4096x2816, .f32⟩
  | .hbm, ⟨87, _⟩ => ⟨S8x4096x2816, .f32⟩
  | .hbm, ⟨88, _⟩ => ⟨S8x4096x1024, .f32⟩
  | .hbm, ⟨89, _⟩ => ⟨S8x4096x1024, .f32⟩
  | .hbm, ⟨90, _⟩ => ⟨S8x4096x1024, .f32⟩
  | .hbm, ⟨91, _⟩ => ⟨S8x4096x1024, .f32⟩
  | .hbm, ⟨92, _⟩ => ⟨S8192x3584, .f32⟩
  | .hbm, ⟨93, _⟩ => ⟨S8192x3584, .bf16⟩
  | .hbm, ⟨94, _⟩ => ⟨S8192x3584, .f32⟩
  | .hbm, ⟨95, _⟩ => ⟨S8192x3584, .bf16⟩
  | .hbm, ⟨96, _⟩ => ⟨S28672x1024, .f32⟩
  | .hbm, ⟨97, _⟩ => ⟨S28672x1024, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_2 : Ref sig .tc := ⟨.hbm, 54, rfl⟩
abbrev main_v25 : Ref sig .tc := ⟨.hbm, 55, rfl⟩
abbrev main_v26 : Ref sig .tc := ⟨.hbm, 56, rfl⟩
abbrev main_cst_3 : Ref sig .tc := ⟨.hbm, 57, rfl⟩
abbrev main_v27 : Ref sig .tc := ⟨.hbm, 58, rfl⟩
abbrev main_v28 : Ref sig .tc := ⟨.hbm, 59, rfl⟩
abbrev main_cst_4 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_5 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S8x1x1024 : Shape := ⟨3, ![8, 1, 1024]⟩
abbrev S1024x2080 : Shape := ⟨2, ![1024, 2080]⟩
abbrev S16x256 : Shape := ⟨2, ![16, 256]⟩
abbrev S256 : Shape := ⟨1, ![256]⟩
abbrev S_ : Shape := ⟨0, ![]⟩
abbrev S2048 : Shape := ⟨1, ![2048]⟩
abbrev S1024x2048 : Shape := ⟨2, ![1024, 2048]⟩
abbrev S1x2048 : Shape := ⟨2, ![1, 2048]⟩
abbrev S1024x32 : Shape := ⟨2, ![1024, 32]⟩
abbrev S16x512 : Shape := ⟨2, ![16, 512]⟩
abbrev S32x512 : Shape := ⟨2, ![32, 512]⟩
abbrev S512 : Shape := ⟨1, ![512]⟩
abbrev S1x512 : Shape := ⟨2, ![1, 512]⟩
abbrev S1x1024 : Shape := ⟨2, ![1, 1024]⟩
abbrev S8x4096x512 : Shape := ⟨3, ![8, 4096, 512]⟩
abbrev S8x4096x256 : Shape := ⟨3, ![8, 4096, 256]⟩
abbrev S1x512x1024 : Shape := ⟨3, ![1, 512, 1024]⟩
abbrev S1x1x1024 : Shape := ⟨3, ![1, 1, 1024]⟩
abbrev S1x512x512 : Shape := ⟨3, ![1, 512, 512]⟩
abbrev S1x512x256 : Shape := ⟨3, ![1, 512, 256]⟩
abbrev S512x1024 : Shape := ⟨2, ![512, 1024]⟩
abbrev S512x1 : Shape := ⟨2, ![512, 1]⟩
abbrev S512x32 : Shape := ⟨2, ![512, 32]⟩
abbrev S512x512 : Shape := ⟨2, ![512, 512]⟩
abbrev S1024x512 : Shape := ⟨2, ![1024, 512]⟩
abbrev S1024x256 : Shape := ⟨2, ![1024, 256]⟩
abbrev S512x256 : Shape := ⟨2, ![512, 256]⟩

abbrev nBuf : Space → Nat
  | .hbm => 47
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x2080, .f32⟩
  | .hbm, ⟨5, _⟩ => ⟨S16x256, .f32⟩
  | .hbm, ⟨6, _⟩ => ⟨S256, .f32⟩
  | .hbm, ⟨7, _⟩ => ⟨S16x256, .f32⟩
  | .hbm, ⟨8, _⟩ => ⟨S256, .f32⟩
  | .hbm, ⟨9, _⟩ => ⟨S_, .f32⟩
  | .hbm, ⟨10, _⟩ => ⟨S16x256, .f32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S2048, .i1⟩
  | .hbm, ⟨20, _⟩ => ⟨S1024x2048, .f32⟩
  | .hbm, ⟨21, _⟩ => ⟨S_, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S1x2048, .f32⟩
  | .hbm, ⟨28, _⟩ => ⟨S1024x2048, .f32⟩
  | .hbm, ⟨29, _⟩ => ⟨S1024x2048, .f32⟩
  | .hbm, ⟨30, _⟩ => ⟨S1024x2048, .bf16⟩
  | .hbm, ⟨31, _⟩ => ⟨S1024x32, .f32⟩
  | .hbm, ⟨32, _⟩ => ⟨S1024x32, .bf16⟩
  | .hbm, ⟨33, _⟩ => ⟨S16x512, .f32⟩
  | .hbm, ⟨34, _⟩ => ⟨S16x512, .f32⟩
  | .hbm, ⟨35, _⟩ => ⟨S32x512, .f32⟩
  | .hbm, ⟨36, _⟩ => ⟨S32x512, .bf16⟩
  | .hbm, ⟨37, _⟩ => ⟨S512, .f32⟩
  | .hbm, ⟨38, _⟩ => ⟨S1x512, .f32⟩
  | .hbm, ⟨39, _⟩ => ⟨S1x1024, .f32⟩
  | .hbm, ⟨40, _⟩ => ⟨S8x4096x512, .bf16⟩
  | .hbm, ⟨41, _⟩ => ⟨S8x4096x256, .f32⟩
  | .hbm, ⟨42, _⟩ => ⟨S8x4096x256, .f32⟩
  | .hbm, ⟨43, _⟩ => ⟨S8x4096x512, .bf16⟩
  | .hbm, ⟨44, _⟩ => ⟨S8x4096x512, .bf16⟩
  | .hbm, ⟨45, _⟩ => ⟨S8x4096x256, .f32⟩
  | .hbm, ⟨46, _⟩ => ⟨S8x4096x256, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S1024x32, .bf16⟩
  | .local _ .vmem, ⟨9, _⟩ => ⟨S32x512, .bf16⟩
  | .local _ .vmem, ⟨10, _⟩ => ⟨S1x512, .f32⟩
  | .local _ .vmem, ⟨11, _⟩ => ⟨S1x512x512, .bf16⟩
  | .local _ .vmem, ⟨12, _⟩ => ⟨S1x512x512, .bf16⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x256, .f32⟩
  | .local _ .vmem, ⟨22, _⟩ => ⟨S1x512x256, .f32⟩
  | .local _ .vmem, ⟨23, _⟩ => ⟨S1x512x256, .f32⟩
  | .local _ .vmem, ⟨24, _⟩ => ⟨S1x512x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev main_v24_2 : Ref sig .tc := ⟨.hbm, 42, rfl⟩
abbrev main_v24_3 : Ref sig .tc := ⟨.hbm, 43, rfl⟩
abbrev main_v24_4 : Ref sig .tc := ⟨.hbm, 44, rfl⟩
abbrev main_v24_5 : Ref sig .tc := ⟨.hbm, 45, rfl⟩
abbrev main_v24_6 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S8x4096x1024 : Shape := ⟨3, ![8, 4096, 1024]⟩
abbrev S1024 : Shape := ⟨1, ![1024]⟩
abbrev S8x1x1024 : Shape := ⟨3, ![8, 1, 1024]⟩
abbrev S1024x2080 : Shape := ⟨2, ![1024, 2080]⟩
abbrev S16x256 : Shape := ⟨2, ![16, 256]⟩
abbrev S256 : Shape := ⟨1, ![256]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2080 : Shape := ⟨3, ![8, 4096, 2080]⟩
abbrev S8x4096x512 : Shape := ⟨3, ![8, 4096, 512]⟩
abbrev S8x4096x256 : Shape := ⟨3, ![8, 4096, 256]⟩
abbrev S8x4096x16 : Shape := ⟨3, ![8, 4096, 16]⟩
abbrev S1x1x256 : Shape := ⟨3, ![1, 1, 256]⟩

abbrev nBuf : Space → Nat
  | .hbm => 92
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x2080, .f32⟩
  | .hbm, ⟨5, _⟩ => ⟨S16x256, .f32⟩
  | .hbm, ⟨6, _⟩ => ⟨S256, .f32⟩
  | .hbm, ⟨7, _⟩ => ⟨S16x256, .f32⟩
  | .hbm, ⟨8, _⟩ => ⟨S256, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x2080, .f32⟩
  | .hbm, ⟨33, _⟩ => ⟨S8x4096x512, .f32⟩
  | .hbm, ⟨34, _⟩ => ⟨S8x4096x256, .f32⟩
  | .hbm, ⟨35, _⟩ => ⟨S8x4096x256, .f32⟩
  | .hbm, ⟨36, _⟩ => ⟨S8x4096x512, .f32⟩
  | .hbm, ⟨37, _⟩ => ⟨S8x4096x512, .f32⟩
  | .hbm, ⟨38, _⟩ => ⟨S8x4096x16, .f32⟩
  | .hbm, ⟨39, _⟩ => ⟨S8x4096x16, .f32⟩
  | .hbm, ⟨40, _⟩ => ⟨S_, .f32⟩
  | .hbm, ⟨41, _⟩ => ⟨S8x4096x256, .f32⟩
  | .hbm, ⟨42, _⟩ => ⟨S8x4096x256, .f32⟩
  | .hbm, ⟨43, _⟩ => ⟨S8x4096x256, .f32⟩
  | .hbm, ⟨44, _⟩ => ⟨S1x1x256, .f32⟩
  | .hbm, ⟨45, _⟩ => ⟨S8x4096x256, .f32⟩
  | .hbm, ⟨46, _⟩ => ⟨S8x4096x256, .f32⟩
  | .hbm, ⟨47, _⟩ => ⟨S8x4096x256, .f32⟩
  | .hbm, ⟨48, _⟩ => ⟨S_, .f32⟩
  | .hbm, ⟨49, _⟩ => ⟨S8x4096x256, .f32⟩
  | .hbm, ⟨50, _⟩ => ⟨S8x4096x256, .f32⟩
  | .hbm, ⟨51, _⟩ => ⟨S8x4096x256, .f32⟩
  | .hbm, ⟨52, _⟩ => ⟨S8x4096x256, .f32⟩
  | .hbm, ⟨53, _⟩ => ⟨S8x4096x256, .i1⟩
  | .hbm, ⟨54, _⟩ => ⟨S8x4096x256, .f32⟩
  | .hbm, ⟨55, _⟩ => ⟨S8x4096x256, .f32⟩
  | .hbm, ⟨56, _⟩ => ⟨S8x4096x256, .f32⟩
  | .hbm, ⟨57, _⟩ => ⟨S8x4096x256, .f32⟩
  | .hbm, ⟨58, _⟩ => ⟨S8x4096x256, .f32⟩
  | .hbm, ⟨59, _⟩ => ⟨S8x4096x256, .f32⟩
  | .hbm, ⟨60, _⟩ => ⟨S8x4096x256, .f32⟩
  | .hbm, ⟨61, _⟩ => ⟨S8x4096x256, .f32⟩
  | .hbm, ⟨62, _⟩ => ⟨S8x4096x256, .f32⟩
  | .hbm, ⟨63, _⟩ => ⟨S_, .f32⟩
  | .hbm, ⟨64, _⟩ => ⟨S8x4096x256, .f32⟩
  | .hbm, ⟨65, _⟩ => ⟨S8x4096x256, .f32⟩
  | .hbm, ⟨66, _⟩ => ⟨S8x4096x256, .f32⟩
  | .hbm, ⟨67, _⟩ => ⟨S1x1x256, .f32⟩
  | .hbm, ⟨68, _⟩ => ⟨S8x4096x256, .f32⟩
  | .hbm, ⟨69, _⟩ => ⟨S8x4096x256, .f32⟩
  | .hbm, ⟨70, _⟩ => ⟨S8x4096x256, .f32⟩
  | .hbm, ⟨71, _⟩ => ⟨S_, .f32⟩
  | .hbm, ⟨72, _⟩ => ⟨S8x4096x256, .f32⟩
  | .hbm, ⟨73, _⟩ => ⟨S8x4096x256, .f32⟩
  | .hbm, ⟨74, _⟩ => ⟨S8x4096x256, .f32⟩
  | .hbm, ⟨75, _⟩ => ⟨S8x4096x256, .f32⟩
  | .hbm, ⟨76, _⟩ => ⟨S8x4096x256, .i1⟩
  | .hbm, ⟨77, _⟩ => ⟨S8x4096x256, .f32⟩
  | .hbm, ⟨78, _⟩ => ⟨S8x4096x256, .f32⟩
  | .hbm, ⟨79, _⟩ => ⟨S8x4096x256, .f32⟩
  | .hbm, ⟨80, _⟩ => ⟨S8x4096x256, .f32⟩
  | .hbm, ⟨81, _⟩ => ⟨S8x4096x256, .f32⟩
  | .hbm, ⟨82, _⟩ => ⟨S8x4096x256, .f32⟩
  | .hbm, ⟨83, _⟩ => ⟨S8x4096x256, .f32⟩
  | .hbm, ⟨84, _⟩ => ⟨S8x4096x256, .f32⟩
  | .hbm, ⟨85, _⟩ => ⟨S8x4096x256, .f32⟩
  | .hbm, ⟨86, _⟩ => ⟨S_, .f32⟩
  | .hbm, ⟨87, _⟩ => ⟨S8x4096x256, .f32⟩
  | .hbm, ⟨88, _⟩ => ⟨S8x4096x256, .f32⟩
  | .hbm, ⟨89, _⟩ => ⟨S8x4096x512, .bf16⟩
  | .hbm, ⟨90, _⟩ => ⟨S8x4096x512, .bf16⟩
  | .hbm, ⟨91, _⟩ => ⟨S8x4096x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_v0 : Ref sig .tc := ⟨.hbm, 47, rfl⟩
abbrev main_call0_call0_cst : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_call0_v2 : Ref sig .tc := ⟨.hbm, 51, rfl⟩
abbrev main_call0_call0_v3 : Ref sig .tc := ⟨.hbm, 52, rfl⟩
abbrev main_call0_call0_v4 : Ref sig .tc := ⟨.hbm, 53, rfl⟩
abbrev main_call0_call0_v5 : Ref sig .tc := ⟨.hbm, 54, rfl⟩
abbrev main_call0_call0_v6 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_call0_v9 : Ref sig .tc := ⟨.hbm, 58, rfl⟩
abbrev main_call0_call0_v10 : Ref sig .tc := ⟨.hbm, 59, rfl⟩
abbrev main_call0_call0_v11 : Ref sig .tc := ⟨.hbm, 60, rfl⟩
abbrev main_call0_v1 : Ref sig .tc := ⟨.hbm, 61, rfl⟩
abbrev main_v33 : Ref sig .tc := ⟨.hbm, 62, rfl⟩
abbrev main_cst_4 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_call1_v0 : Ref sig .tc := ⟨.hbm, 70, rfl⟩
abbrev main_call1_call0_cst : Ref sig .tc := ⟨.hbm, 71, rfl⟩
abbrev main_call1_call0_v0 : Ref sig .tc := ⟨.hbm, 72, rfl⟩
abbrev main_call1_call0_v1 : Ref sig .tc := ⟨.hbm, 73, rfl⟩
abbrev main_call1_call0_v2 : Ref sig .tc := ⟨.hbm, 74, rfl⟩
abbrev main_call1_call0_v3 : Ref sig .tc := ⟨.hbm, 75, rfl⟩
abbrev main_call1_call0_v4 : Ref sig .tc := ⟨.hbm, 76, rfl⟩
abbrev main_call1_call0_v5 : Ref sig .tc := ⟨.hbm, 77, rfl⟩
abbrev main_call1_call0_v6 : Ref sig .tc := ⟨.hbm, 78, rfl⟩
abbrev main_call1_call0_v7 : Ref sig .tc := ⟨.hbm, 79, rfl⟩
abbrev main_call1_call0_v8 : Ref sig .tc := ⟨.hbm, 80, rfl⟩
abbrev main_call1_call0_v9 : Ref sig .tc := ⟨.hbm, 81, rfl⟩
abbrev main_call1_call0_v10 : Ref sig .tc := ⟨.hbm, 82, rfl⟩
abbrev main_call1_call0_v11 : Ref sig .tc := ⟨.hbm, 83, rfl⟩
abbrev main_call1_v1 : Ref sig .tc := ⟨.hbm, 84, rfl⟩
abbrev main_v40 : Ref sig .tc := ⟨.hbm, 85, rfl⟩
abbrev main_cst_5 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩

abbrev nD : Nat := 1
abbrev τ : Topo := Topo.v7x

variable {F : FTy → Type} [FloatOps F]
-- ==== Kernel4.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S16x1024 : Shape := ⟨2, ![16, 1024]⟩
abbrev S1 : Shape := ⟨1, ![1]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 14
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S_, .f32⟩
  | .hbm, ⟨5, _⟩ => ⟨S16x1024, .f32⟩
  | .hbm, ⟨6, _⟩ => ⟨S_, .i32⟩
  | .hbm, ⟨7, _⟩ => ⟨S1, .i32⟩
  | .hbm, ⟨8, _⟩ => ⟨S16x1024, .f32⟩
  | .hbm, ⟨9, _⟩ => ⟨S_, .i32⟩
  | .hbm, ⟨10, _⟩ => ⟨S1, .i32⟩
  | .hbm, ⟨11, _⟩ => ⟨S16x1024, .f32⟩
  | .hbm, ⟨12, _⟩ => ⟨S2x1x6144, .f32⟩
  | .hbm, ⟨13, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S7x6144 : Shape := ⟨2, ![7, 6144]⟩
abbrev S16x6144 : Shape := ⟨2, ![16, 6144]⟩
abbrev S1x16x6144 : Shape := ⟨3, ![1, 16, 6144]⟩
abbrev S2x16x6144 : Shape := ⟨3, ![2, 16, 6144]⟩

abbrev nBuf : Space → Nat
  | .hbm => 63
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024x6144, .f32⟩
  | .hbm, ⟨23, _⟩ => ⟨S1024x6144, .f32⟩
  | .hbm, ⟨24, _⟩ => ⟨S8x6144, .f32⟩
  | .hbm, ⟨25, _⟩ => ⟨S1x6144, .f32⟩
  | .hbm, ⟨26, _⟩ => ⟨S6144, .f32⟩
  | .hbm, ⟨27, _⟩ => ⟨S1x6144, .f32⟩
  | .hbm, ⟨28, _⟩ => ⟨S8x6144, .f32⟩
  | .hbm, ⟨29, _⟩ => ⟨S8x6144, .f32⟩
  | .hbm, ⟨30, _⟩ => ⟨S1x1024x6144, .f32⟩
  | .hbm, ⟨31, _⟩ => ⟨S1024x6144, .f32⟩
  | .hbm, ⟨32, _⟩ => ⟨S6144, .f32⟩
  | .hbm, ⟨33, _⟩ => ⟨S1x6144, .f32⟩
  | .hbm, ⟨34, _⟩ => ⟨S6144, .f32⟩
  | .hbm, ⟨35, _⟩ => ⟨S6144, .f32⟩
  | .hbm, ⟨36, _⟩ => ⟨S1x6144, .f32⟩
  | .hbm, ⟨37, _⟩ => ⟨S6144, .f32⟩
  | .hbm, ⟨38, _⟩ => ⟨S7x6144, .f32⟩
  | .hbm, ⟨39, _⟩ => ⟨S1x6144, .f32⟩
  | .hbm, ⟨40, _⟩ => ⟨S16x6144, .f32⟩
  | .hbm, ⟨41, _⟩ => ⟨S1x1024x6144, .f32⟩
  | .hbm, ⟨42, _⟩ => ⟨S1024x6144, .f32⟩
  | .hbm, ⟨43, _⟩ => ⟨S8x6144, .f32⟩
  | .hbm, ⟨44, _⟩ => ⟨S1x6144, .f32⟩
  | .hbm, ⟨45, _⟩ => ⟨S6144, .f32⟩
  | .hbm, ⟨46, _⟩ => ⟨S1x6144, .f32⟩
  | .hbm, ⟨47, _⟩ => ⟨S8x6144, .f32⟩
  | .hbm, ⟨48, _⟩ => ⟨S8x6144, .f32⟩
  | .hbm, ⟨49, _⟩ => ⟨S1x1024x6144, .f32⟩
  | .hbm, ⟨50, _⟩ => ⟨S1024x6144, .f32⟩
  | .hbm, ⟨51, _⟩ => ⟨S6144, .f32⟩
  | .hbm, ⟨52, _⟩ => ⟨S1x6144, .f32⟩
  | .hbm, ⟨53, _⟩ => ⟨S6144, .f32⟩
  | .hbm, ⟨54, _⟩ => ⟨S6144, .f32⟩
  | .hbm, ⟨55, _⟩ => ⟨S1x6144, .f32⟩
  | .hbm, ⟨56, _⟩ => ⟨S6144, .f32⟩
  | .hbm, ⟨57, _⟩ => ⟨S7x6144, .f32⟩
  | .hbm, ⟨58, _⟩ => ⟨S1x6144, .f32⟩
  | .hbm, ⟨59, _⟩ => ⟨S16x6144, .f32⟩
  | .hbm, ⟨60, _⟩ => ⟨S1x16x6144, .f32⟩
  | .hbm, ⟨61, _⟩ => ⟨S1x16x6144, .f32⟩
  | .hbm, ⟨62, _⟩ => ⟨S2x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Proof.Kit.lean ====
/- The grouped expert feed-forward call of `proofs.«01_k».proof.KernelIdeal`: what stands around it. The host lines before
   and after it, the two tables it prefetches (each block's expert, the number of used blocks), its windows' blocks
   and staging memrefs, and the two branches of its body. Stated at any float values. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the call -/

/-- Core `c`'s buffers when the call is entered: after the host lines before it. -/
abbrev V0 (c : Dev nD) : Valuation τ sig (Elt F) := StableHlo.after (List.flatten [hostOps0]) (fun b => m (c, b))
/-- The same, at one of the program's buffers. -/
abbrev V (c : Dev nD) (b : Ref sig .tc) : Buf (Elt F) ((c : Thread nD τ).loc b) := V0 m c (Proc.devRef .tc b)

/-- The host lines before the call allocate nothing. -/
theorem pre_fresh : (hostOps0 : List (HloOp τ sig (Elt F))).Forall fun op => op.fresh = ∅ := by
  simp only [List.Forall]; repeat' constructor

set_option maxHeartbeats 800000 in
/-- The program is: the host lines before the call, the call, the host line after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact pre_fresh) main_chain

/-- The one host line after the call. -/
theorem tail_cases {ops : List (HloOp τ sig (Elt F))} (hops : ops ∈ ([hostOps1] : List (List (HloOp τ sig (Elt F))))) {op : HloOp τ sig (Elt F)}
    (hop : op ∈ ops) : op = StableHlo.reshape main_v4 main_v5 (rfl : (.f32 : EltTy) = .f32) shapeCasts_S557056x128_S69632x1024 := by
  rw [List.mem_singleton.mp hops] at hop
  exact List.mem_singleton.mp hop

/-- It touches no table of the call. -/
theorem tail_sub : ∀ ops ∈ ([hostOps1] : List (List (HloOp τ sig (Elt F)))), ∀ op ∈ ops,
    op.bufs ⊆ Pipeline.tailRefs sig pre0 spec0 := by
  intro ops hops op hop
  obtain rfl := tail_cases hops hop
  refine Pipeline.sub_tailRefs pre0 spec0 _ (StableHlo.reshape_bufs_sub ..) fun j => ?_
  fin_cases j <;> simp only [StableHlo.reshape_bufs, Finset.mem_insert, Finset.mem_singleton, not_or] <;> and_intros <;>
    exact StableHlo.devRef_ne_of_ne (by decide)
/-- It allocates nothing. -/
theorem tail_fresh : ∀ ops ∈ ([hostOps1] : List (List (HloOp τ sig (Elt F)))), ∀ op ∈ ops, op.fresh = ∅ := by
  intro ops hops op hop
  obtain rfl := tail_cases hops hop
  rfl
/-- It writes no array of the call. -/
theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl := tail_cases hops hop
  intro w
  fin_cases w <;> simp only [StableHlo.reshape_writes, Finset.mem_singleton] <;> exact StableHlo.devRef_ne_of_ne (by decide)

/-- The program's arguments. -/
abbrev args : List (Ref sig .tc) := [main_arg0, main_arg1, main_arg2, main_arg3, main_arg4, main_arg5]

/-- No host line before the call writes an argument: the call finds it as launched. -/
theorem V_arg (c : Dev nD) (b : Ref sig .tc) (hb : b ∈ args) : V m c b = m ((c : Thread nD τ).loc b) := by
  have hne : ∀ b ∈ args, b ≠ main_v0 ∧ b ≠ main_v1 ∧ b ≠ main_v2 ∧ b ≠ main_v3 := by decide
  obtain ⟨h0, h1, h2, h3⟩ := hne b hb
  refine StableHlo.after_of_forall_not_mem (b := Proc.devRef .tc b) _ _ (List.forall_iff_forall_mem.mp ?_)
  simp only [hostOps0, List.flatten_cons, List.flatten_nil, List.append_nil, List.cons_append, List.nil_append, List.Forall,
    StableHlo.unary_writes, StableHlo.reshape_writes, Finset.mem_singleton]
  exact ⟨StableHlo.devRef_ne_of_ne h0, StableHlo.devRef_ne_of_ne h1, StableHlo.devRef_ne_of_ne h2, StableHlo.devRef_ne_of_ne h3⟩

/-! ## The prefetched tables -/

/-- The tables' contents when the call is entered. -/
def tbl : pre0.Contents (Elt F) := fun j => V m (0 : Dev nD) (pre0.ref j)
/-- They are the same on every device: there is one. -/
theorem V_pre (c : Dev nD) (j : Fin 2) : V m c (pre0.ref j) = tbl m j := by
  obtain rfl : c = 0 := Subsingleton.elim _ _; rfl
/-- Every block the index maps name through the tables lies inside its array. -/
abbrev Ok : Prop := ok0 (F := F) (tbl m)
/-- The tables' contents as contents the call can run at, -/
abbrev adm (hO : Ok m) : (pcfg0 (F := F)).Adm := ⟨tbl m, hO⟩
/-- and the call at them. -/
abbrev cfgM (hO : Ok m) : Pipeline.Cfg sig Λ₀ := cfg0 (adm m hO)

/-- The table of each block's expert, as the body is handed it. -/
abbrev tbE : Memref sig .tc .smem S136 .i32 := Memref.whole main_arg1
/-- The table of the number of used blocks, as the body is handed it. -/
abbrev tbU : Memref sig .tc .smem S1 .i32 := Memref.whole main_arg2
abbrev htbE : tbE.IsWhole := Memref.isWhole_whole _
abbrev htbU : tbU.IsWhole := Memref.isWhole_whole _

/-- A table's contents on core `c`. -/
abbrev TbBuf (c : Dev nD) {S : Shape} {e : EltTy} (M : Memref sig .tc .smem S e) : Type := Buf (Elt F) (M.view.loc (c : Thread nD τ))
/-- Half of a table's buffer, at contents `f`: what the body may read. -/
abbrev tbPt (c : Dev nD) {S : Shape} {e : EltTy} (M : Memref sig .tc .smem S e) (f : TbBuf (F := F) c M) : sProp 𝕄 :=
  M.view.loc (c : Thread nD τ) ↦{fullShare.right} f

/-- The halves of the tables the body is handed, one by one. -/
theorem PhiT_eq (c : Dev nD) : (Pipeline.ΦT pre0 (tbl m) c : sProp 𝕄) = iprop(tbPt c tbE (tbl m 0) ∗ tbPt c tbU (tbl m 1)) := by
  unfold Pipeline.ΦT Pipeline.prefHeld
  rw [show (Finset.univ : Finset (Fin 2)) = insert (0 : Fin 2) {(1 : Fin 2)} from by decide,
    bigSep_insert (by decide), bigSep_singleton]
  rfl

/-- No argument is written by the call or by the host line after it: it ends as launched. -/
theorem W_arg (hO : Ok m) (dats : (p : Fin _) → (c : Dev nD) → Dat τ (Elt F) Unit ℕ (UR sig nD τ) ℕ ((Pipeline.pin pcfgs fun _ => adm m hO) p) c) (c : Dev nD)
    (b : Ref sig .tc) (hb : b ∈ args) :
    Pipeline.afterTail pcfgs (fun _ => adm m hO) dats 0 (V0 m) [hostOps1] c b = m ((c : Thread nD τ).loc b) := by
  have hne : ∀ b ∈ args, b ≠ main_v5 ∧ ∀ w, Pipeline.arrRef spec0 w ≠ b := by decide
  obtain ⟨h5, hw⟩ := hne b hb
  unfold Pipeline.afterTail
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h5)),
    Pipeline.withArrays_of_ne _ c (V0 m c) _ b hw]
  exact V_arg m c b hb

/-! ## The windows -/

/-- Window `w`'s block at point `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- One staging buffer of the output. -/
abbrev VO : View sig .tc .vmem S4096x128 .f32 := (Memref.whole cc0_stg4_0 : Memref sig .tc .vmem S4096x128 .f32).view
/-- Each window's current staging memref at point `t`, and that it is a whole buffer. -/
abbrev ms0 (hO : Ok m) (t : Fin (cfgM m hO).N) : Memref sig .tc .vmem S4096x128 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x3584 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1024x3584 .bf16 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x3584x1024 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S4096x128 .f32 := spec0_4.stage ((cfgM m hO).slots t 4)
abbrev hs4 (hO : Ok m) (t : Fin (cfgM m hO).N) : (ms4 m hO t).IsWhole := hstage0_4 (((cfgM m hO).slots t 4).cast nbuf0_4)
/-- The accumulator: the call's scratch buffer. -/
abbrev scM : Memref sig .tc .vmem S512x1024 .f32 := Memref.whole cc0_scratch0

/-- The body at point `t`, on what the pipeline calls it with. -/
abbrev bodyAt (a : (pcfg0 (F := F)).Adm) (t : Fin (cfg0 a).N) : Prog (TpuEff nD τ sig (Elt F) Λ₀ .tc) PUnit :=
  cc0_moe_grouped_ffn (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

/-- What the body holds beside the windows: the accumulator at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The two branches of the body -/

/-- Point `i` belongs to a used block: the kernel's own comparison of the point with the number of used blocks `u`. -/
abbrev live (i : grid0.Coords) (u : BitVec 32) : BitVec 1 := Scalar.cmpi .slt (BitVec.ofNat 32 (i 0).val) u

/-- A used block: the branch that stores zeros is not taken, the branch that computes is. -/
theorem cond_live (i : grid0.Coords) (u : BitVec 32) (h : live i u = 1#1) : ¬ k0_cond1 i u = 1#1 ∧ k0_cond2 i u = 1#1 := by
  unfold k0_cond1 k0_cond2
  simp only [live] at h
  simp only [h]
  decide
/-- An unused block: the branch that stores zeros is taken, the other is not. -/
theorem cond_dead (i : grid0.Coords) (u : BitVec 32) (h : ¬ live i u = 1#1) : k0_cond1 i u = 1#1 ∧ ¬ k0_cond2 i u = 1#1 := by
  have h0 : live i u = 0#1 := by
    rcases (by decide : ∀ b : BitVec 1, b = 0#1 ∨ b = 1#1) (live i u) with h' | h'
    · exact h'
    · exact absurd h' h
  unfold k0_cond1 k0_cond2
  simp only [live] at h0
  simp only [h0]
  decide
/-- One of the two branches is always taken: the output is stored at every point. -/
theorem not_idle (a : (pcfg0 (F := F)).Adm) (i : grid0.Coords) : (cfg0 a).idle 4 i = false := by
  show (!(k0_cond1 i (a.1.atD 1 ![0]) == 1#1) && !(k0_cond2 i (a.1.atD 1 ![0]) == 1#1)) = false
  by_cases h : live i (a.1.atD 1 ![0]) = 1#1
  · rw [(cond_live i _ h).2]; simp
  · rw [(cond_dead i _ h).1]; simp

end Cert.KernelIdeal.Moe

end
-- ==== Proof.RunDead.lean ====
/- The body of the grouped expert feed-forward call at an unused block: it stores zeros. -/
module

public import proofs.«01_k».proof.Proof.Kit

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is run on and leaves: the inputs' staging memrefs at their contents, half of each table, and — as `out` and
    `acc` say — the output's staging memref and the accumulator. -/
abbrev held (c : Dev nD) (arg3 : Memref sig .tc .vmem S4096x128 .f32) (arg4 arg5 : Memref sig .tc .vmem S1x1024x3584 .bf16)
    (arg6 : Memref sig .tc .vmem S1x3584x1024 .bf16) (x0 : Vec F S4096x128 .f32) (x1 x2 : Vec F S1x1024x3584 .bf16) (x3 : Vec F S1x3584x1024 .bf16)
    (xe : TbBuf (F := F) c tbE) (xu : TbBuf (F := F) c tbU) (out acc : sProp 𝕄) : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ out ∗ acc ∗ tbPt c tbE xe ∗ tbPt c tbU xu)

/-- The number of used blocks, as the body reads it from its table. -/
abbrev usedOf (c : Dev nD) (xu : TbBuf (F := F) c tbU) : BitVec 32 :=
  View.readAt (Elt F) tbU.view (Rect.unit (s := S1) ![0] S1.size inb_S1_S1_0).toLoadRect xu (Shape.Idx.first (numel1_S1.symm ▸ Nat.one_pos))

set_option maxHeartbeats 1000000 in
/-- At an unused block the body runs, and leaves the output's staging memref with the pieces `L4` written: the one store of the
    branch, found by running it. -/
noncomputable def runDead (c : Dev nD) (i : grid0.Coords) (arg3 : Memref sig .tc .vmem S4096x128 .f32) (harg3 : arg3.IsWhole) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .vmem S4096x128 .f32) (harg7 : arg7.IsWhole) (arg8 : Memref sig .tc .vmem S512x1024 .f32) (harg8 : arg8.IsWhole)
    (x0 : Vec F S4096x128 .f32) (x1 x2 : Vec F S1x1024x3584 .bf16) (x3 : Vec F S1x3584x1024 .bf16) (xe : TbBuf (F := F) c tbE) (xu : TbBuf (F := F) c tbU)
    (hu : ¬ live i (usedOf (F := F) c xu) = 1#1) :
    { L4 : List (View.Piece (Elt F) S4096x128 .f32) //
      ∀ (E : Set ℕ) (K : PUnit → sProp 𝕄),
        iprop(held c arg3 arg4 arg5 arg6 x0 x1 x2 x3 xe xu iprop(∃ d, owns (c : Thread nD τ) arg7 fullShare d) iprop(∃ d, owns (c : Thread nD τ) arg8 fullShare d)
            ∗ (held c arg3 arg4 arg5 arg6 x0 x1 x2 x3 xe xu iprop(∃ f, arg7.view.loc (c : Thread nD τ) ↦[arg7.view.set]{fullShare} arg7.view.writes (Elt F) f L4) iprop(∃ d, owns (c : Thread nD τ) arg8 fullShare d) -∗ K ⟨⟩))
          ⊢ wp frame (wpE (defs₀ (F := F)) Variants.none c none) E (cc0_moe_grouped_ffn i tbE htbE tbU htbU arg3 harg3 arg4 harg4 arg5 harg5 arg6 harg6 arg7 harg7 arg8 harg8) K } := by
  have hc1 := (cond_dead i _ hu).1
  have hc2 := (cond_dead i _ hu).2
  refine ⟨?_, fun E K => ?run⟩
  case run =>
    simp only [cc0_moe_grouped_ffn_eq_skeleton]; unfold cc0_moe_grouped_ffn_skel
    simp only [k0_part1_eq_skeleton, k0_part2_eq_skeleton, k0_part3_eq_skeleton, k0_part4_eq_skeleton, k0_part5_eq_skeleton, k0_part6_eq_skeleton]
    unfold held owns
    iintro ⟨⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1⟩, Hk⟩
    obtain rfl := harg3.eq_unread hf0; obtain rfl := harg4.eq_unread hf1; obtain rfl := harg5.eq_unread hf2; obtain rfl := harg6.eq_unread hf3
    sl_exec (disch := first | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _; iexists _; isplitr
      swap; · iexact HS0
      ipureintro; rfl
    isplitl [HT0]; · iexact HT0
    iexact HT1

end Cert.KernelIdeal.Moe

end
-- ==== Proof.RunLive.lean ====
/- The body of the grouped expert feed-forward call at a used block: the expert's feed-forward of the block's rows, stored as
   eight strided pieces. -/
module

public import proofs.«01_k».proof.Proof.RunDead

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a used block the body runs, and leaves the output's staging memref with the pieces `L4` written: its eight strided stores,
    found by running it. -/
noncomputable def runLive (c : Dev nD) (i : grid0.Coords) (arg3 : Memref sig .tc .vmem S4096x128 .f32) (harg3 : arg3.IsWhole) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .vmem S4096x128 .f32) (harg7 : arg7.IsWhole) (arg8 : Memref sig .tc .vmem S512x1024 .f32) (harg8 : arg8.IsWhole)
    (x0 : Vec F S4096x128 .f32) (x1 x2 : Vec F S1x1024x3584 .bf16) (x3 : Vec F S1x3584x1024 .bf16) (xe : TbBuf (F := F) c tbE) (xu : TbBuf (F := F) c tbU)
    (hu : live i (usedOf (F := F) c xu) = 1#1) :
    { L4 : List (View.Piece (Elt F) S4096x128 .f32) //
      ∀ (E : Set ℕ) (K : PUnit → sProp 𝕄),
        iprop(held c arg3 arg4 arg5 arg6 x0 x1 x2 x3 xe xu iprop(∃ d, owns (c : Thread nD τ) arg7 fullShare d) iprop(∃ d, owns (c : Thread nD τ) arg8 fullShare d)
            ∗ (held c arg3 arg4 arg5 arg6 x0 x1 x2 x3 xe xu iprop(∃ f, arg7.view.loc (c : Thread nD τ) ↦[arg7.view.set]{fullShare} arg7.view.writes (Elt F) f L4) iprop(∃ d, owns (c : Thread nD τ) arg8 fullShare d) -∗ K ⟨⟩))
          ⊢ wp frame (wpE (defs₀ (F := F)) Variants.none c none) E (cc0_moe_grouped_ffn i tbE htbE tbU htbU arg3 harg3 arg4 harg4 arg5 harg5 arg6 harg6 arg7 harg7 arg8 harg8) K } := by
  have hc1 := (cond_live i _ hu).1
  have hc2 := (cond_live i _ hu).2
  refine ⟨?_, fun E K => ?run⟩
  case run =>
    simp only [cc0_moe_grouped_ffn_eq_skeleton]; unfold cc0_moe_grouped_ffn_skel
    simp only [k0_part1_eq_skeleton, k0_part2_eq_skeleton, k0_part3_eq_skeleton, k0_part4_eq_skeleton, k0_part5_eq_skeleton, k0_part6_eq_skeleton]
    unfold held owns
    iintro ⟨⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1⟩, Hk⟩
    obtain rfl := harg3.eq_unread hf0; obtain rfl := harg4.eq_unread hf1; obtain rfl := harg5.eq_unread hf2; obtain rfl := harg6.eq_unread hf3
    sl_exec (disch := first | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _; iexists _; isplitr
      swap; · iexact HS0
      ipureintro; rfl
    isplitl [HT0]; · iexact HT0
    iexact HT1

end Cert.KernelIdeal.Moe

end
-- ==== Proof.Block.lean ====
/- What one run of the body leaves in the output's block: at a used block, row `r` of the expert's feed-forward of the block's rows,
   its lane chunk `s` at row `8 r + s`; at an unused block, zeros. Stated at any float values. -/
module

public import proofs.«01_k».proof.Proof.RunLive
public import Idealize.ShloMosaic.Lib.ValueIdx
public import Idealize.ShloMosaic.Lib.Pointwise.Reshape
public import Idealize.ShloMosaic.Lib.WholeRead
public import Idealize.ShloMosaic.Lib.VecWindow

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Eight interleaved stripes of the block -/

/-- Lane chunk `s` of every row: rows `s`, `s + 8`, … of the block. -/
def stripe (s : Fin 8) : Rect S4096x128 where
  off := ![s.val, 0]
  size := S512x128.size
  stride := ![8, 1]
  inb a := by
    match a with
    | ⟨0, _⟩ => exact Or.inr (show s.val + 8 * (512 - 1) < 4096 by have := s.isLt; omega)
    | ⟨1, _⟩ => exact Or.inr (show 0 + 1 * (128 - 1) < 128 by omega)
  stride_pos a := by
    match a with
    | ⟨0, _⟩ => exact Nat.succ_pos 7
    | ⟨1, _⟩ => exact Nat.one_pos

/-- Where stripe `s` puts its row `j`, lane `l`. -/
theorem stripe_emb (s : Fin 8) (x : (stripe s).shape.Idx) :
    ((stripe s).emb x 0).val = s.val + 8 * (x 0).val ∧ ((stripe s).emb x 1).val = (x 1).val := by
  refine ⟨rfl, ?_⟩
  show 0 + 1 * (x 1).val = (x 1).val
  omega

/-- The block's rows as the program sees them: entry `(r, 128 s + l)` of `a` at row `8 r + s`, lane `l`. -/
def toTiles {α : Type} (a : S512x1024.Idx → α) : S4096x128.Idx → α := fun y =>
  a (ValueIdx.ix2 ⟨(y 0).val / 8, by have := (y 0).isLt; change (y 0).val < 4096 at this; omega⟩
    ⟨128 * ((y 0).val % 8) + (y 1).val, by have := (y 1).isLt; change (y 1).val < 128 at this; omega⟩)

/-- What a store through stripe `s` writes there: the lane chunk `s` of `a`. -/
theorem stripe_toTiles {α : Type} (a : S512x1024.Idx → α) (s : Fin 8) (h : S512x1024.Slices ![0, 128 * s.val] S512x128) (x : (stripe s).shape.Idx) :
    extractStridedSlice S512x128 ![0, 128 * s.val] a h x = toTiles a ((stripe s).emb x) := by
  obtain ⟨h0, h1⟩ := stripe_emb s x
  unfold toTiles
  refine extractStridedSlice_apply _ _ _ _ _ fun b => ?_
  have hs := s.isLt
  match b with
  | ⟨0, _⟩ => show ((stripe s).emb x 0).val / 8 = 0 + (x 0).val; rw [h0]; omega
  | ⟨1, _⟩ => show 128 * (((stripe s).emb x 0).val % 8) + ((stripe s).emb x 1).val = 128 * s.val + (x 1).val; rw [h0, h1]; omega

/-- Every element of the block lies in the stripe of its row's residue. -/
theorem mem_stripe (y : S4096x128.Idx) : y ∈ (stripe ⟨(y 0).val % 8, Nat.mod_lt _ (by decide)⟩).set := by
  have hy : (y 0).val < 4096 := (y 0).isLt
  have hz : (y 1).val < 128 := (y 1).isLt
  refine (LoadRect.mem_set _).mpr fun b => ?_
  match b with
  | ⟨0, _⟩ => exact ⟨(y 0).val / 8, show (y 0).val / 8 < 512 by omega, show (y 0).val = (y 0).val % 8 + 8 * ((y 0).val / 8) by omega⟩
  | ⟨1, _⟩ => exact ⟨(y 1).val, hz, show (y 1).val = 0 + 1 * (y 1).val by omega⟩

theorem slices_lane (s : Fin 8) : S512x1024.Slices ![0, 128 * s.val] S512x128 := ⟨rfl, fun b => by
  have hs := s.isLt
  match b with
  | ⟨0, _⟩ => exact show 0 + 512 ≤ 512 by omega
  | ⟨1, _⟩ => exact show 128 * s.val + 128 ≤ 1024 by omega⟩

/-- The store of lane chunk `s` of `a`. -/
def lane (a : FVec F S512x1024 .f32) (s : Fin 8) : View.Piece (Elt F) S4096x128 .f32 :=
  ⟨stripe s, extractStridedSlice S512x128 ![0, 128 * s.val] a (slices_lane s)⟩

/-- The eight stores of `a`, over anything, leave `toTiles a`. -/
theorem read_stripes {κ : Kind} {sp : Space} (v : View sig κ sp S4096x128 .f32) (f : v.ty.Contents (Elt F)) (a : FVec F S512x1024 .f32)
    (L : List (View.Piece (Elt F) S4096x128 .f32))
    (hL : L = [lane a 7, lane a 6, lane a 5, lane a 4, lane a 3, lane a 2, lane a 1, lane a 0]) :
    v.read (Elt F) (v.writes (Elt F) f L) = toTiles a := by
  funext y
  refine View.read_writes_apply_of_pieces v f (toTiles a) L ?_ y ?_
  · have h : ∀ s, ∀ x, (lane a s).2 x = toTiles a ((lane a s).1.emb x) := fun s x => stripe_toTiles a s (slices_lane s) x
    intro p hp
    rw [hL] at hp
    simp only [List.mem_cons, List.not_mem_nil, or_false] at hp
    rcases hp with rfl | rfl | rfl | rfl | rfl | rfl | rfl | rfl <;> exact h _
  · refine ⟨lane a ⟨(y 0).val % 8, Nat.mod_lt _ (by decide)⟩, ?_, mem_stripe y⟩
    generalize (⟨(y 0).val % 8, Nat.mod_lt _ (by decide)⟩ : Fin 8) = s
    rw [hL]
    fin_cases s <;> simp

/-! ## The expert's feed-forward of one block, as the kernel computes it: a sum over seven chunks of the hidden axis -/

/-- The block's rows, gathered from its stripes. -/
def rows (x : Vec F S4096x128 .f32) : FVec F S512x1024 .bf16 :=
  k0_pay6 (fun j => x ((stripe 0).toLoadRect.idx j)) (fun j => x ((stripe 1).toLoadRect.idx j)) (fun j => x ((stripe 2).toLoadRect.idx j))
    (fun j => x ((stripe 3).toLoadRect.idx j)) (fun j => x ((stripe 4).toLoadRect.idx j)) (fun j => x ((stripe 5).toLoadRect.idx j))
    (fun j => x ((stripe 6).toLoadRect.idx j)) (fun j => x ((stripe 7).toLoadRect.idx j))

/-- Columns `o` to `o + 511` of an input projection. -/
def colBlk (x : Vec F S1x1024x3584 .bf16) (o : Nat) (h : ∀ a, (![0, 0, o] : Fin 3 → Nat) a + S1x1024x512.size a ≤ S1x1024x3584.size a) : Vec F S1x1024x512 .bf16 :=
  fun j => x ((Rect.unit (s := S1x1024x3584) ![0, 0, o] S1x1024x512.size h).toLoadRect.idx j)
/-- Rows `o` to `o + 511` of the output projection. -/
def rowBlk (x : Vec F S1x3584x1024 .bf16) (o : Nat) (h : ∀ a, (![0, o, 0] : Fin 3 → Nat) a + S1x512x1024.size a ≤ S1x3584x1024.size a) : Vec F S1x512x1024 .bf16 :=
  fun j => x ((Rect.unit (s := S1x3584x1024) ![0, o, 0] S1x512x1024.size h).toLoadRect.idx j)

/-- One chunk's share of the feed-forward. -/
def chunk (h : FVec F S512x1024 .bf16) (x1 x2 : Vec F S1x1024x3584 .bf16) (x3 : Vec F S1x3584x1024 .bf16) (o : Nat)
    (hc : ∀ a, (![0, 0, o] : Fin 3 → Nat) a + S1x1024x512.size a ≤ S1x1024x3584.size a)
    (hr : ∀ a, (![0, o, 0] : Fin 3 → Nat) a + S1x512x1024.size a ≤ S1x3584x1024.size a) : FVec F S512x1024 .f32 :=
  k0_pay15 h (colBlk x1 o hc) (colBlk x2 o hc) (rowBlk x3 o hr)

/-- The seven chunks added up. -/
def total (h : FVec F S512x1024 .bf16) (x1 x2 : Vec F S1x1024x3584 .bf16) (x3 : Vec F S1x3584x1024 .bf16) : FVec F S512x1024 .f32 :=
  addf (addf (addf (addf (addf (addf
    (chunk h x1 x2 x3 0 inb_S1x1024x3584_S1x1024x512_0_0_0 inb_S1x3584x1024_S1x512x1024_0_0_0)
    (chunk h x1 x2 x3 512 inb_S1x1024x3584_S1x1024x512_0_0_512 inb_S1x3584x1024_S1x512x1024_0_512_0))
    (chunk h x1 x2 x3 1024 inb_S1x1024x3584_S1x1024x512_0_0_1024 inb_S1x3584x1024_S1x512x1024_0_1024_0))
    (chunk h x1 x2 x3 1536 inb_S1x1024x3584_S1x1024x512_0_0_1536 inb_S1x3584x1024_S1x512x1024_0_1536_0))
    (chunk h x1 x2 x3 2048 inb_S1x1024x3584_S1x1024x512_0_0_2048 inb_S1x3584x1024_S1x512x1024_0_2048_0))
    (chunk h x1 x2 x3 2560 inb_S1x1024x3584_S1x1024x512_0_0_2560 inb_S1x3584x1024_S1x512x1024_0_2560_0))
    (chunk h x1 x2 x3 3072 inb_S1x1024x3584_S1x1024x512_0_0_3072 inb_S1x3584x1024_S1x512x1024_0_3072_0)

section Loads
variable (c : Dev nD) (arg3 : Memref sig .tc .vmem S4096x128 .f32) (harg3 : arg3.IsWhole) (arg4 : Memref sig .tc .vmem S1x1024x3584 .bf16) (harg4 : arg4.IsWhole)
  (arg6 : Memref sig .tc .vmem S1x3584x1024 .bf16) (harg6 : arg6.IsWhole)

/-- A load of columns of an input projection, -/
theorem ld_col (x : Vec F S1x1024x3584 .bf16) (o : Nat) (h : ∀ a, (![0, 0, o] : Fin 3 → Nat) a + S1x1024x512.size a ≤ S1x1024x3584.size a) :
    View.readAt (Elt F) arg4.view (Rect.unit (s := S1x1024x3584) ![0, 0, o] S1x1024x512.size h).toLoadRect (harg4.unread x) = colBlk x o h :=
  funext fun j => harg4.readAt_unread x _ j
/-- and of rows of the output projection. -/
theorem ld_row (x : Vec F S1x3584x1024 .bf16) (o : Nat) (h : ∀ a, (![0, o, 0] : Fin 3 → Nat) a + S1x512x1024.size a ≤ S1x3584x1024.size a) :
    View.readAt (Elt F) arg6.view (Rect.unit (s := S1x3584x1024) ![0, o, 0] S1x512x1024.size h).toLoadRect (harg6.unread x) = rowBlk x o h :=
  funext fun j => harg6.readAt_unread x _ j
/-- The gathered rows, from the eight strided loads. -/
theorem ld_rows (x : Vec F S4096x128 .f32) : runLive.sl.r_1 c arg3 harg3 x = rows x := by
  have e : ∀ B : LoadRect S4096x128, View.readAt (Elt F) arg3.view B (harg3.unread x) = fun j => x (B.idx j) :=
    fun B => funext fun j => harg3.readAt_unread x B j
  unfold runLive.sl.r_1 rows
  simp only [e]
  rfl
end Loads

/-! Each store into the accumulator is the sum so far with one more chunk added: the body spells the chunk in several ways, all the same
    function. -/

theorem pay8_eq (x0 x1 x2 x3 x4 x5 x6 x7 : Vec F S512x128 .f32) (w1 w3 : Vec F S1x1024x512 .bf16) (w2 : Vec F S1x512x1024 .bf16) :
    k0_pay8 (k0_pay7 x0 x1 x2 x3 x4 x5 x6 x7 w1 w3) w2 = k0_pay15 (k0_pay6 x0 x1 x2 x3 x4 x5 x6 x7) w1 w3 w2 := by
  unfold k0_pay8 k0_pay7 k0_pay15; exact shapeCast_id _ _
theorem pay9_eq (h : FVec F S512x1024 .bf16) (w1 w3 : Vec F S1x1024x512 .bf16) (w2 : Vec F S1x512x1024 .bf16) (a : Vec F S512x1024 .f32) :
    k0_pay9 h w1 w3 w2 a = addf a (k0_pay15 h w1 w3 w2) := by unfold k0_pay9 k0_pay15; exact shapeCast_id _ _
theorem pay10_eq (h : FVec F S512x1024 .bf16) (w1 w3 : Vec F S1x1024x512 .bf16) (w2 : Vec F S1x512x1024 .bf16) (a : Vec F S512x1024 .f32) :
    k0_pay10 h w1 w3 w2 a = addf a (k0_pay15 h w1 w3 w2) := by unfold k0_pay10 k0_pay15; exact shapeCast_id _ _
theorem pay14_eq (h : FVec F S512x1024 .bf16) (w1 w3 : Vec F S1x1024x512 .bf16) (w2 : Vec F S1x512x1024 .bf16) (a : Vec F S512x1024 .f32) :
    k0_pay14 (k0_pay11 h w1) (k0_pay12 h w3) (k0_pay13 h w1) w2 a = addf a (k0_pay15 h w1 w3 w2) := by
  unfold k0_pay14 k0_pay13 k0_pay12 k0_pay11 k0_pay15; exact shapeCast_id _ _
theorem pay16_eq (k a : FVec F S512x1024 .f32) : k0_pay16 k a = addf a k := by unfold k0_pay16; exact shapeCast_id _ _
theorem pay17_eq (h : FVec F S512x1024 .bf16) (w1 w3 : Vec F S1x1024x512 .bf16) (w2 : Vec F S1x512x1024 .bf16) (a : Vec F S512x1024 .f32) :
    k0_pay17 h w1 w3 w2 a = addf a (k0_pay15 h w1 w3 w2) := by unfold k0_pay17 k0_pay15; exact shapeCast_id _ _
theorem pay19_eq (h : FVec F S512x1024 .bf16) (w1 w3 : Vec F S1x1024x512 .bf16) (w2 : Vec F S1x512x1024 .bf16) (a : Vec F S512x1024 .f32) :
    k0_pay19 h (k0_pay18 w1) (constant S512x512 .f32 0x00000000#32) w3 w2 a = addf a (k0_pay15 h w1 w3 w2) := by
  unfold k0_pay19 k0_pay18 k0_pay15; exact shapeCast_id _ _

/-- What the accumulator holds after the last chunk. -/
theorem v191_eq (c : Dev nD) (arg3 : Memref sig .tc .vmem S4096x128 .f32) (harg3 : arg3.IsWhole) (arg4 : Memref sig .tc .vmem S1x1024x3584 .bf16) (harg4 : arg4.IsWhole)
    (arg5 : Memref sig .tc .vmem S1x1024x3584 .bf16) (harg5 : arg5.IsWhole) (arg6 : Memref sig .tc .vmem S1x3584x1024 .bf16) (harg6 : arg6.IsWhole)
    (arg8 : Memref sig .tc .vmem S512x1024 .f32) (x0 : Vec F S4096x128 .f32) (x1 x2 : Vec F S1x1024x3584 .bf16) (x3 : Vec F S1x3584x1024 .bf16) :
    runLive.sl.v191 c arg3 harg3 arg4 harg4 arg5 harg5 arg6 harg6 arg8 x0 x1 x2 x3 = total (rows x0) x1 x2 x3 := by
  unfold total chunk
  rw [← ld_rows c arg3 harg3]
  simp only [← ld_col arg4 harg4 x1, ← ld_col arg5 harg5 x2, ← ld_row arg6 harg6 x3]
  unfold runLive.sl.v191 runLive.sl.HS0_7
  rw [View.readCov_full]
  refine (pay19_eq _ _ _ _ _).trans (congrArg (fun a => addf a _) ?_)
  unfold runLive.sl.v186 runLive.sl.HS0_6
  rw [View.readCov_full]
  refine (pay17_eq _ _ _ _ _).trans (congrArg (fun a => addf a _) ?_)
  unfold runLive.sl.v162 runLive.sl.HS0_5
  rw [View.readCov_full]
  refine (pay16_eq _ _).trans (congrArg (fun a => addf a _) ?_)
  unfold runLive.sl.v138 runLive.sl.HS0_4
  rw [View.readCov_full]
  refine (pay14_eq _ _ _ _ _).trans (congrArg (fun a => addf a _) ?_)
  unfold runLive.sl.v114 runLive.sl.HS0_3
  rw [View.readCov_full]
  refine (pay10_eq _ _ _ _ _).trans (congrArg (fun a => addf a _) ?_)
  unfold runLive.sl.v90 runLive.sl.HS0_2
  rw [View.readCov_full]
  refine (pay9_eq _ _ _ _ _).trans (congrArg (fun a => addf a _) ?_)
  unfold runLive.sl.v66 runLive.sl.HS0_1
  rw [View.readCov_full]
  exact pay8_eq _ _ _ _ _ _ _ _ _ _ _

/-! ## The block after the body -/

section After
variable (c : Dev nD) (i : grid0.Coords) (arg3 : Memref sig .tc .vmem S4096x128 .f32) (harg3 : arg3.IsWhole) (arg4 : Memref sig .tc .vmem S1x1024x3584 .bf16) (harg4 : arg4.IsWhole)
  (arg5 : Memref sig .tc .vmem S1x1024x3584 .bf16) (harg5 : arg5.IsWhole) (arg6 : Memref sig .tc .vmem S1x3584x1024 .bf16) (harg6 : arg6.IsWhole)
  (arg7 : Memref sig .tc .vmem S4096x128 .f32) (harg7 : arg7.IsWhole) (arg8 : Memref sig .tc .vmem S512x1024 .f32) (harg8 : arg8.IsWhole)
  (x0 : Vec F S4096x128 .f32) (x1 x2 : Vec F S1x1024x3584 .bf16) (x3 : Vec F S1x3584x1024 .bf16)

/-- At a used block the output's block holds the feed-forward of its rows, -/
theorem read_runLive (xe : TbBuf (F := F) c tbE) (xu : TbBuf (F := F) c tbU) (hu : live i (usedOf c xu) = 1#1) (f : arg7.view.ty.Contents (Elt F)) :
    arg7.view.read (Elt F) (arg7.view.writes (Elt F) f (runLive c i arg3 harg3 arg4 harg4 arg5 harg5 arg6 harg6 arg7 harg7 arg8 harg8 x0 x1 x2 x3 xe xu hu).1)
      = toTiles (total (rows x0) x1 x2 x3) := by
  rw [← v191_eq c arg3 harg3 arg4 harg4 arg5 harg5 arg6 harg6 arg8 x0 x1 x2 x3]
  exact read_stripes arg7.view f _ _ rfl

/-- and at an unused one, zeros. -/
theorem read_runDead (xe : TbBuf (F := F) c tbE) (xu : TbBuf (F := F) c tbU) (hu : ¬ live i (usedOf c xu) = 1#1) (f : arg7.view.ty.Contents (Elt F)) :
    arg7.view.read (Elt F) (arg7.view.writes (Elt F) f (runDead c i arg3 harg3 arg4 harg4 arg5 harg5 arg6 harg6 arg7 harg7 arg8 harg8 x0 x1 x2 x3 xe xu hu).1)
      = k0_pay1 := by
  unfold runDead
  exact View.read_writes_full _ _ _ _ _
end After

end Cert.KernelIdeal.Moe

end
-- ==== Proof.Run.lean ====
/- The grouped expert feed-forward call, launched: the proof data of its pipeline, its body's obligation at every point, the run of the
   whole program and the frame. Stated at any float values. -/
module

public import proofs.«01_k».proof.Proof.Block
public import Idealize.ShloMosaic.Lib.Claim

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- The output's block after the body at point `t`: at a used block the feed-forward of the block's rows, otherwise zeros. -/
def outsAt (hO : Ok m) (c : Dev nD) (t : Fin (cfgM m hO).N) : Vec F S4096x128 .f32 :=
  if live (grid0.coords t) (usedOf (F := F) c (tbl m 1)) = 1#1 then
    toTiles (total (rows (F := F) (iblk m hO c 0 t)) (iblk m hO c 1 t) (iblk m hO c 2 t) (iblk m hO c 3 t))
  else k0_pay1

/-- The pipeline's proof data on core `c`: the arrays as the call finds them; after the body each input's buffer still at its block and
    the output's at `outsAt`; between points, the scratch and the tables' halves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outsAt m hO c t
  Φ _ := iprop(Pipeline.ΦA spec0 c ∗ Pipeline.ΦT pre0 (tbl m) c)
  q _ := fullShare
  owed _ := 0

/-- Its arrays are the ones the call finds. -/
theorem A_eq (hO : Ok m) (c : Dev nD) (w : Fin (cfgM m hO).W) : (dats m hO 0 c).A w = V m c (Pipeline.arrRef spec0 w) := by
  dsimp only [dats]

section Points
variable (hO : Ok m) (c : Dev nD) (t : Fin (cfgM m hO).N)
theorem after_0 : (dats m hO 0 c).after 0 t = iblk m hO c 0 t := by dsimp only [dats]; try rfl
theorem after_1 : (dats m hO 0 c).after 1 t = iblk m hO c 1 t := by dsimp only [dats]; try rfl
theorem after_2 : (dats m hO 0 c).after 2 t = iblk m hO c 2 t := by dsimp only [dats]; try rfl
theorem after_3 : (dats m hO 0 c).after 3 t = iblk m hO c 3 t := by dsimp only [dats]; try rfl
theorem after_4 : (dats m hO 0 c).after 4 t = outsAt m hO c t := by dsimp only [dats]; try rfl

/-- Each input's staging buffer holds its block when the body runs, whether the point fetched it or an earlier one did. -/
theorem before_0 (d) : (dats m hO 0 c).before 0 t d = iblk m hO c 0 t :=
  ((dats m hO 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (d) : (dats m hO 0 c).before 1 t d = iblk m hO c 1 t :=
  ((dats m hO 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (d) : (dats m hO 0 c).before 2 t d = iblk m hO c 2 t :=
  ((dats m hO 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (d) : (dats m hO 0 c).before 3 t d = iblk m hO c 3 t :=
  ((dats m hO 0 c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)
end Points

/-! ## The body's obligation -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

/-- A run of the body that writes the pieces `L` into the output's block, which then read as `outsAt`, meets the obligation. -/
theorem sound_of (hO : Ok m) (c : Dev nD) (t : Fin (cfgM m hO).N) (L : List (View.Piece (Elt F) S4096x128 .f32))
    (hrun : ∀ (E : Set ℕ) (K : PUnit → sProp 𝕄),
      iprop(held c (ms0 m hO t) (ms1 m hO t) (ms2 m hO t) (ms3 m hO t) (iblk m hO c 0 t) (iblk m hO c 1 t) (iblk m hO c 2 t) (iblk m hO c 3 t) (tbl m 0) (tbl m 1)
          iprop(∃ d, owns (c : Thread nD τ) (ms4 m hO t) fullShare d) iprop(∃ d, owns (c : Thread nD τ) scM fullShare d)
        ∗ (held c (ms0 m hO t) (ms1 m hO t) (ms2 m hO t) (ms3 m hO t) (iblk m hO c 0 t) (iblk m hO c 1 t) (iblk m hO c 2 t) (iblk m hO c 3 t) (tbl m 0) (tbl m 1)
          iprop(∃ f, (ms4 m hO t).view.loc (c : Thread nD τ) ↦[(ms4 m hO t).view.set]{fullShare} (ms4 m hO t).view.writes (Elt F) f L) iprop(∃ d, owns (c : Thread nD τ) scM fullShare d) -∗ K ⟨⟩))
      ⊢ wp frame (wpE (defs₀ (F := F)) Variants.none c none) E (bodyAt (adm m hO) t) K)
    (hread : ∀ f, (ms4 m hO t).view.read (Elt F) ((ms4 m hO t).view.writes (Elt F) f L) = outsAt m hO c t) :
    bodyPre m hO c t ⊢ wp frame (wpE (defs₀ (F := F)) Variants.none c none) Set.univ (bodyAt (adm m hO) t) (fun _ => bodyPost m hO c t) := by
  unfold bodyPre bodyPost
  simp only [before_0, before_1, before_2, before_3]
  rw [show (dats m hO 0 c).Φ t.succ = (dats m hO 0 c).Φ t.castSucc from rfl,
    show (dats m hO 0 c).owesAt () t.succ = (dats m hO 0 c).owesAt () t.castSucc from rfl,
    after_0, after_1, after_2, after_3, after_4]
  rw [show (dats m hO 0 c).Φ t.castSucc = iprop(Pipeline.ΦA spec0 c ∗ Pipeline.ΦT pre0 (tbl m) c) from rfl, PhiT_eq, PhiA_eq]
  iintro ⟨⟨⟨HS0, Hg⟩, ⟨HT0, HT1⟩⟩, Ho, ⟨%d0, H0⟩, ⟨%d1, H1⟩, ⟨%d2, H2⟩, ⟨%d3, H3⟩, ⟨%d4, H4⟩⟩
  iapply (hrun Set.univ _)
  unfold held
  isplitl [H0 H1 H2 H3 H4 HS0 HT0 HT1]
  · isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    iexact HT1
  iintro ⟨H0, H1, H2, H3, ⟨%e4, H4⟩, HS0, HT0, HT1⟩
  isplitl [HS0 Hg HT0 HT1]
  · isplitl [HS0 Hg]
    · isplitl [HS0]; · iexact HS0
      iexact Hg
    isplitl [HT0]; · iexact HT0
    iexact HT1
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact hread _

/-- The body at any point, whichever branch it takes. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  by_cases hu : live (grid0.coords t) (usedOf (F := F) c (tbl m 1)) = 1#1
  · refine sound_of m hO c t _ (runLive c (grid0.coords t) (ms0 m hO t) (hs0 m hO t) (ms1 m hO t) (hs1 m hO t) (ms2 m hO t) (hs2 m hO t) (ms3 m hO t) (hs3 m hO t)
      (ms4 m hO t) (hs4 m hO t) scM (Memref.isWhole_whole _) (iblk m hO c 0 t) (iblk m hO c 1 t) (iblk m hO c 2 t) (iblk m hO c 3 t) (tbl m 0) (tbl m 1) hu).2 fun f => ?_
    refine (read_runLive c (grid0.coords t) (ms0 m hO t) (hs0 m hO t) (ms1 m hO t) (hs1 m hO t) (ms2 m hO t) (hs2 m hO t) (ms3 m hO t) (hs3 m hO t)
      (ms4 m hO t) (hs4 m hO t) scM (Memref.isWhole_whole _) (iblk m hO c 0 t) (iblk m hO c 1 t) (iblk m hO c 2 t) (iblk m hO c 3 t) (tbl m 0) (tbl m 1) hu f).trans ?_
    unfold outsAt
    rw [if_pos hu]
  · refine sound_of m hO c t _ (runDead c (grid0.coords t) (ms0 m hO t) (hs0 m hO t) (ms1 m hO t) (hs1 m hO t) (ms2 m hO t) (hs2 m hO t) (ms3 m hO t) (hs3 m hO t)
      (ms4 m hO t) (hs4 m hO t) scM (Memref.isWhole_whole _) (iblk m hO c 0 t) (iblk m hO c 1 t) (iblk m hO c 2 t) (iblk m hO c 3 t) (tbl m 0) (tbl m 1) hu).2 fun f => ?_
    refine (read_runDead c (grid0.coords t) (ms0 m hO t) (hs0 m hO t) (ms1 m hO t) (hs1 m hO t) (ms2 m hO t) (hs2 m hO t) (ms3 m hO t) (hs3 m hO t)
      (ms4 m hO t) (hs4 m hO t) scM (Memref.isWhole_whole _) (iblk m hO c 0 t) (iblk m hO c 1 t) (iblk m hO c 2 t) (iblk m hO c 3 t) (tbl m 0) (tbl m 1) hu f).trans ?_
    unfold outsAt
    rw [if_neg hu]

/-- The body table's row at point `t` is the body as `bodyAt` spells it. -/
theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The pipeline's obligation on its body, at every point. -/
theorem body_obligation (hO : Ok m) (c : Dev nD) : BodyObligation (dats (F := F) m hO 0 c) (defs₀ (F := F)) Variants.none () Set.univ := fun t => by
  rw [bigSep_W0, bigSep_W0, defs₀_row m hO]
  have h4 : idle0 (F := F) (tbl m) 4 (((pcfg0 (F := F)).gridAt (tbl m)).coords t) = false := not_idle (adm m hO) _
  refine triple_restated (sound_body m hO c t) rfl .rfl fun _ => ?_
  simp only [h4]
  exact Entails.rfl

/-! ## The run and the frame -/

-- `θ_run_frameP_around`'s implicit arguments are found by unifying its conclusion with this one, which takes unfolding plain
-- definitions in a metavariable's type
set_option backward.isDefEq.respectTransparency.types false in
set_option maxHeartbeats 800000 in
/-- Every weakly fair execution of the program terminates, with the call's output array at what the proof data says, every other
    array as the host line after the call leaves it, and every semaphore counter at zero. -/
theorem run_main (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := tail_sub) (hfresh := tail_fresh) (hkeep := tail_keeps)
    (hmain := hmain m Variants.none) (hA := A_eq m hO) (hpf := V_pre m) (hΦ := fun _ _ => rfl)

/-- No argument is written. -/
theorem arg_kept (hO : Ok m) (r)
    (h : Pipeline.FramePost (Pipeline.pin pcfgs fun _ => adm m hO) (dats m hO) 0 (Pipeline.afterTail pcfgs (fun _ => adm m hO) (dats m hO) 0 (V0 m) [hostOps1]) r)
    (c : Dev nD) (b : Ref sig .tc) (hb : b ∈ args) : r.2.mem ((c.tc : Thread nD τ).loc b) = m ((c.tc : Thread nD τ).loc b) :=
  ((h c).2 b ((by decide : ∀ b ∈ args, b ∈ Pipeline.restRefs sig spec0) b hb)).trans (W_arg m hO (dats m hO) c b hb)

/-- The frame: every execution terminates with the arguments unchanged and every semaphore counter at zero. -/
theorem frame_main (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => by
    have k := arg_kept m hO r h.1 c
    exact ⟨k main_arg0 (by decide), k main_arg1 (by decide), k main_arg2 (by decide), k main_arg3 (by decide), k main_arg4 (by decide), k main_arg5 (by decide)⟩, h.2⟩) (run_main m ρ hO)

end Cert.KernelIdeal.Moe

end
-- ==== Proof.Tables.lean ====
/- What the precondition says of the two prefetched tables, and the call's side condition on them: each block the index maps name lies
   inside its array. Stated at any float values. -/
module

public import proofs.«01_k».proof.Proof.Run
public import proofs.«01_k».proof.Pre_in_range
public import Idealize.ShloMosaic.Lib.PairWhole

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables' words -/

/-- Every word of the experts' table names one of the eight experts, and at least one block is used. -/
structure Named (e : IVec S136 32) (u : IVec S1 32) : Prop where
  expert : ∀ w, (e w).toNat < 8
  used : ∀ w, 1 ≤ (u w).toInt

/-- The precondition, read as bounds on the tables' words. -/
theorem named_of_pre [Cert.Pre_in_range.Facts] (x : FVec F S69632x1024 .f32) (e : IVec S136 32) (u : IVec S1 32) (a b : FVec F S8x1024x3584 .f32) (d : FVec F S8x3584x1024 .f32)
    (h : Cert.Pre_in_range.fn (F := F) x e u a b d = fun _ => 1#1) : Named e u := by
  have andi_one (a b : BitVec 1) : IntOp.andi a b = 1#1 ↔ a = 1#1 ∧ b = 1#1 := by revert a b; decide
  have ofBool_eq_one (p : Bool) : (BitVec.ofBool p = 1#1) ↔ p = true := by cases p <;> decide
  have pre := fun y => congrFun h y
  simp only [Cert.Pre_in_range.fn, constantI, broadcastInDim, cmpi, andi, andi_one, IntOp.cmpi, ofBool_eq_one, BitVec.sle, BitVec.slt, decide_eq_true_eq, shapeCast] at pre
  refine ⟨fun w => ?_, fun w => ?_⟩
  · have hw := (pre w).1
    have h1 := hw.1
    have h2 := hw.2
    have e8 : (8#32 : BitVec 32).toInt = 8 := by decide
    have e0 : (0#32 : BitVec 32).toInt = 0 := by decide
    have h1 := of_decide_eq_true h1
    have h2 := of_decide_eq_true h2
    rw [e8] at h2
    rw [e0] at h1
    rw [BitVec.toInt] at h1 h2
    split at h1 <;> omega
  · have hw := (pre (ValueIdx.ix1 0)).2
    have e1 : (1#32 : BitVec 32).toInt = 1 := by decide
    rw [e1] at hw
    have one : ∀ v w : S1.Idx, v = w := by decide
    rwa [one w _]

/-! ## The index maps -/

/-- Word `i` of a table of 136 words. -/
abbrev word (i : Fin 136) : S136.Idx := ValueIdx.ix1 i

/-- The smaller of `i` and one less than a positive word, as the index map computes it. -/
theorem min_word (i : ℕ) (hi : i < 136) (w : BitVec 32) (hu : 1 ≤ w.toInt) :
    (Scalar.minsi (BitVec.ofNat 32 i) (Scalar.subi w 1#32)).toNat = min i (w.toInt.toNat - 1) := by
  unfold Scalar.minsi Scalar.subi IntOp.minsi IntOp.subi
  have h1 : (BitVec.ofNat 32 i).toInt = i := by
    rw [BitVec.toInt, BitVec.toNat_ofNat]; split <;> omega
  have hlt : w.toNat < 2 ^ 31 := by
    rw [BitVec.toInt] at hu; split at hu <;> omega
  have hw' : w.toInt = w.toNat := by rw [BitVec.toInt]; split <;> omega
  have h2 : (w - 1#32).toNat = w.toNat - 1 := by
    rw [BitVec.toNat_sub, BitVec.toNat_ofNat]; omega
  have h3 : (w - 1#32).toInt = w.toNat - 1 := by
    rw [BitVec.toInt, h2]; split <;> omega
  simp only [BitVec.slt, BitVec.sle, h1, h3, hw', decide_eq_true_eq]
  split
  · rw [BitVec.toNat_ofNat]; omega
  · rw [h2]; omega

/-- The one word of the table of used blocks, and word `i` of the experts' table. -/
abbrev usedWord (pf : pre0.Contents (Elt F)) : BitVec 32 := (pf 1 : IVec S1 32) (ValueIdx.ix1 0)
abbrev expertWord (pf : pre0.Contents (Elt F)) (i : Fin 136) : BitVec 32 := (pf 0 : IVec S136 32) (word i)

/-- The index maps read the used word, -/
theorem at_used (pf : pre0.Contents (Elt F)) :
    pf.at 1 (Rect.unit (s := S1) ![0] S1.size inb_S1_S1_0) numel1_S1 = usedWord pf :=
  congrArg (pf 1 : IVec S1 32) ((by decide : ∀ v w : S1.Idx, v = w) _ _)

/-- and the expert of their own grid point. -/
theorem at_expert (pf : pre0.Contents (Elt F)) (i : grid0.Coords) :
    pf.at 0 (Rect.unit (s := S136) ![(Scalar.indexCast (BitVec.ofNat 32 (i 0).val) : Index).toNat] S1.size (k0_off1_inb i)) numel1_S1 = expertWord pf (i 0) := by
  refine congrArg (pf 0 : IVec S136 32) (funext fun (a : Fin 1) => Fin.ext ?_)
  have hi : (i 0).val < 136 := (i 0).isLt
  obtain rfl : a = 0 := Subsingleton.elim _ _
  show (BitVec.ofNat 32 (i 0).val).toNat + 1 * 0 = (i 0).val
  rw [BitVec.toNat_ofNat]; omega

/-- The block of rows the call reads at grid point `i` is `i`, or the last used one past it. -/
theorem rowBlock_eq (pf : pre0.Contents (Elt F)) (h : Named (pf 0) (pf 1)) (i : grid0.Coords) :
    cc0_transform_0 inb_S1_S1_0 numel1_S1 pf i = ![min (i 0).val ((usedWord pf).toInt.toNat - 1), 0] := by
  refine (congrArg (fun w : BitVec 32 => ![(Scalar.minsi (BitVec.ofNat 32 (i 0).val) (Scalar.subi w 1#32)).toNat, 0]) (at_used pf)).trans ?_
  beta_reduce
  rw [min_word _ (i 0).isLt _ (h.used _)]

/-- The weights the call reads at grid point `i` are those of the expert the table names there. -/
theorem gateBlock_eq (pf : pre0.Contents (Elt F)) (i : grid0.Coords) : cc0_transform_1 k0_off1_inb numel1_S1 pf i = ![(expertWord pf (i 0)).toNat, 0, 0] :=
  congrArg (fun w : BitVec 32 => ![w.toNat, 0, 0]) (at_expert pf i)
theorem upBlock_eq (pf : pre0.Contents (Elt F)) (i : grid0.Coords) : cc0_transform_2 k0_off1_inb numel1_S1 pf i = ![(expertWord pf (i 0)).toNat, 0, 0] :=
  congrArg (fun w : BitVec 32 => ![w.toNat, 0, 0]) (at_expert pf i)
theorem downBlock_eq (pf : pre0.Contents (Elt F)) (i : grid0.Coords) : cc0_transform_3 k0_off1_inb numel1_S1 pf i = ![(expertWord pf (i 0)).toNat, 0, 0] :=
  congrArg (fun w : BitVec 32 => ![w.toNat, 0, 0]) (at_expert pf i)

/-- A slab of the three axes that spans the last two is inside the array when its first coordinate is. -/
theorem slab_in {a b : ℕ} (e : ℕ) (he : e < 8) (v : Fin 3 → ℕ) (hv : v = ![e, 0, 0]) (k : Fin 3) :
    (v k + 1) * (⟨3, ![1, a, b]⟩ : Shape).size k ≤ (⟨3, ![8, a, b]⟩ : Shape).size k := by
  subst hv
  fin_cases k
  · show (e + 1) * 1 ≤ 8; omega
  · show (0 + 1) * a ≤ a; omega
  · show (0 + 1) * b ≤ b; omega

/-- The call's side condition on its tables, of the bounds on their words. -/
theorem ok_of (pf : pre0.Contents (Elt F)) (h : Named (pf 0) (pf 1)) : ok0 (F := F) pf := by
  have hx (i : grid0.Coords) : (expertWord pf (i 0)).toNat < 8 := h.expert _
  refine ⟨fun i => ⟨fun k => ?_, .inl rfl⟩, fun i => ⟨fun k => slab_in _ (hx i) _ (gateBlock_eq pf i) k, .inr (Affine.block_words_rows (by decide) rfl)⟩,
    fun i => ⟨fun k => slab_in _ (hx i) _ (upBlock_eq pf i) k, .inr (Affine.block_words_rows (by decide) rfl)⟩,
    fun i => ⟨fun k => slab_in _ (hx i) _ (downBlock_eq pf i) k, .inr (Affine.block_words_rows (by decide) rfl)⟩⟩
  rw [rowBlock_eq pf h i]
  have hi : (i 0).val < 136 := (i 0).isLt
  fin_cases k
  · show (min (i 0).val _ + 1) * 4096 ≤ 557056; omega
  · show (0 + 1) * 128 ≤ 128; omega

/-- The call's tables are the program's two integer arguments. -/
theorem tbl_eq (c : Dev nD) : tbl m 0 = m ((c : Thread nD τ).loc main_arg1) ∧ tbl m 1 = m ((c : Thread nD τ).loc main_arg2) := by
  obtain rfl : c = 0 := Subsingleton.elim _ _
  exact ⟨V_arg m 0 main_arg1 (by decide), V_arg m 0 main_arg2 (by decide)⟩

/-- The tables' words are in range under the precondition, -/
theorem named_tbl [Cert.Pre_in_range.Facts]
    (h : ∀ c : Dev nD, Cert.Pre_in_range.fn (F := F) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) = fun _ => 1#1) :
    Named (tbl m 0) (tbl m 1) := by
  rw [(tbl_eq m 0).1, (tbl_eq m 0).2]
  exact named_of_pre _ _ _ _ _ _ (h 0)

end Cert.KernelIdeal.Moe

end
-- ==== Proof.Same.lean ====
/- The kernel's text at the chip's values and the text read at the ideal ones are one program: the body table and the program, equal. -/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

/-- The two texts' bodies are one. -/
theorem body_same : @Cert.Kernel.cc0_moe_grouped_ffn Bits _ _ = @Cert.KernelIdeal.cc0_moe_grouped_ffn Bits _ _ := rfl

/-- Their pipelines are one. -/
theorem pcfg_same : Cert.Kernel.pcfg0 (F := Bits) = Cert.KernelIdeal.pcfg0 (F := Bits) := rfl

set_option maxHeartbeats 1000000 in
/-- Their body tables are one, -/
theorem defs₀_same : Cert.Kernel.defs₀ (F := Bits) = Cert.KernelIdeal.defs₀ (F := Bits) := by
  refine congrArg Defs.onTc (funext fun ℓ => funext fun a => ?_)
  obtain ⟨n, h⟩ := ℓ
  match n, h, a with
  | 0, _, (t, s) => rfl
  | n + 1, h, _ => exact absurd h (Nat.not_lt.2 (Nat.le_add_left _ _))

set_option maxHeartbeats 1000000 in
/-- and so their label tables. -/
theorem defs_same : Cert.Kernel.defs (F := Bits) = Cert.KernelIdeal.defs (F := Bits) := by
  unfold Cert.Kernel.defs Cert.KernelIdeal.defs
  exact congrArg (Pipeline.defs (Cert.KernelIdeal.pcfgs (F := Bits))) defs₀_same

set_option maxHeartbeats 1000000 in
/-- Their programs are one. -/
theorem main_same : Cert.Kernel.main (F := Bits) = Cert.KernelIdeal.main (F := Bits) := rfl

/-- What every execution of the one satisfies, every execution of the other does. -/
theorem run_same {D D' : Defs Cert.KernelIdeal.nD Cert.KernelIdeal.τ Cert.KernelIdeal.sig (Elt Bits) (Pipeline.Sig Cert.KernelIdeal.Λ₀ (Fin 1) fun p => (Cert.KernelIdeal.pcfgs (F := Bits) p).Adm)}
    {M M' : Dev Cert.KernelIdeal.nD → Prog (TpuEff Cert.KernelIdeal.nD Cert.KernelIdeal.τ Cert.KernelIdeal.sig (Elt Bits) (Pipeline.Sig Cert.KernelIdeal.Λ₀ (Fin 1) fun p => (Cert.KernelIdeal.pcfgs (F := Bits) p).Adm) .tc) PUnit}
    (hD : D = D') (hM : M = M') {s Q} (h : θ_run D' (onTc (τ := Cert.KernelIdeal.τ) M') s Q) : θ_run D (onTc (τ := Cert.KernelIdeal.τ) M) s Q := by
  subst hD; subst hM; exact h

end Cert.Proof

end
-- ==== Proof.Ffn.lean ====
/- The expert's feed-forward of one row, as plain sums over the extended reals, and the kernel's block computation read as it. -/
module

public import proofs.«01_k».proof.Proof.Tables
public import Idealize.ShloMosaic.Lib.MatmulPlain
public import Idealize.ShloMosaic.Lib.ValueLayout

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

/-! ## One row's feed-forward -/

/-- The gate `z · (1 / (1 + e^(−z)))`. -/
def gate (z : EReal) : EReal :=
  z * Ideal.div (Ideal.ofBits .f32 0x3F800000#32) (Ideal.ofBits .f32 0x3F800000#32 + Ideal.exp (-z))

/-- One hidden unit of a row `x`: the gate of its product with `g`, times its product with `u`. -/
def unit (x g u : Fin 1024 → EReal) : EReal := gate (∑ q, x q * g q) * ∑ q, x q * u q

/-- One output of the feed-forward of a row `x`: the hidden units summed against one output column. -/
def swiglu (x : Fin 1024 → EReal) (w1 w3 : Fin 1024 → Fin 3584 → EReal) (w2 : Fin 3584 → EReal) : EReal :=
  ∑ f, unit x (fun q => w1 q f) (fun q => w3 q f) * w2 f

/-- A sum over the hidden axis is its seven chunks of 512 added in order. -/
theorem sum_chunks (G : Fin 3584 → EReal) (c : Fin 7 → EReal)
    (hc : ∀ n : Fin 7, c n = ∑ k : Fin 512, G ⟨512 * n.val + k.val, by have := n.isLt; have := k.isLt; omega⟩) :
    ((((((c 0 + c 1) + c 2) + c 3) + c 4) + c 5) + c 6) = ∑ f, G f := by
  let G' : ℕ → EReal := fun n => if h : n < 3584 then G ⟨n, h⟩ else 0
  have e (n : Fin 7) : c n = ∑ k ∈ Finset.range 512, G' (512 * n.val + k) := by
    rw [hc n, ← Fin.sum_univ_eq_sum_range (fun k => G' (512 * n.val + k))]
    exact Finset.sum_congr rfl fun k _ => by have := n.isLt; have := k.isLt; simp only [G']; rw [dif_pos (by omega)]
  have e' : ∑ f, G f = ∑ k ∈ Finset.range 3584, G' k := by
    rw [← Fin.sum_univ_eq_sum_range G' 3584]
    exact Finset.sum_congr rfl fun k _ => by simp only [G']; rw [dif_pos k.isLt]
  rw [e', show 3584 = 512 + 512 + 512 + 512 + 512 + 512 + 512 from rfl]
  simp only [Finset.sum_range_add, e]
  simp

/-! ## The kernel's chunk and its total, read at an element -/

theorem dot_gate_plain : dot_S512x1024_S1024x512_S512x512_1_0_0_1_n_n = DotDims.plain 512 1024 512 := rfl
theorem dot_down_plain : dot_S512x512_S512x1024_S512x1024_1_0_0_1_n_n = DotDims.plain 512 512 1024 := rfl

/-- A product of the block with a slab of an input projection, at an element. -/
theorem proj_apply (h : FVec Ideal S512x1024 .bf16) (w : FVec Ideal S1x1024x512 .bf16) (i k : Fin 512) :
    matmul dot_S512x1024_S1024x512_S512x512_1_0_0_1_n_n none h (shapeCast S1024x512 w shapeCasts_S1x1024x512_S1024x512) (constant S512x512 .f32 0x00000000#32) (ValueIdx.ix2 i k)
      = ∑ q : Fin 1024, h (ValueIdx.ix2 i q) * w (ValueIdx.ix3 0 q k) := by
  rw [dot_gate_plain]
  refine (Ideal.matmul_plain_apply none _ _ _ i k).trans ?_
  rw [show constant (F := Ideal) S512x512 .f32 0x00000000#32 (ValueIdx.ix2 i k) = 0 from Ideal.ofBits_zero_f32, zero_add]
  exact Finset.sum_congr rfl fun q _ => congrArg _ (ValueIdx.shapeCast_1ab_ab_apply _ _ _ _)

/-- One chunk's share of the block's feed-forward, at an element. -/
theorem pay15_apply (h : FVec Ideal S512x1024 .bf16) (w1 w3 : Vec Ideal S1x1024x512 .bf16) (w2 : Vec Ideal S1x512x1024 .bf16) (i : Fin 512) (j : Fin 1024) :
    k0_pay15 h w1 w3 w2 (ValueIdx.ix2 i j)
      = ∑ k : Fin 512, unit (fun q => h (ValueIdx.ix2 i q)) (fun q => w1 (ValueIdx.ix3 0 q k)) (fun q => w3 (ValueIdx.ix3 0 q k)) * w2 (ValueIdx.ix3 0 k j) := by
  unfold k0_pay15
  rw [dot_down_plain]
  refine (Ideal.matmul_plain_apply none _ _ _ i j).trans ?_
  rw [show constant (F := Ideal) S512x1024 .f32 0x00000000#32 (ValueIdx.ix2 i j) = 0 from Ideal.ofBits_zero_f32, zero_add]
  refine Finset.sum_congr rfl fun k _ => congrArg₂ (· * ·) ?_ (ValueIdx.shapeCast_1ab_ab_apply _ _ _ _)
  unfold unit
  rw [← proj_apply h w1, ← proj_apply h w3]
  unfold gate
  rw [← zero_sub, ← Ideal.ofBits_zero_f32]
  rfl

/-- Chunk `n`'s share, from the slabs themselves. -/
theorem chunk_apply (h : FVec Ideal S512x1024 .bf16) (x1 x2 : Vec Ideal S1x1024x3584 .bf16) (x3 : Vec Ideal S1x3584x1024 .bf16) (n : Fin 7) (o : ℕ) (ho : o = 512 * n.val)
    (hc : ∀ a, (![0, 0, o] : Fin 3 → Nat) a + S1x1024x512.size a ≤ S1x1024x3584.size a) (hr : ∀ a, (![0, o, 0] : Fin 3 → Nat) a + S1x512x1024.size a ≤ S1x3584x1024.size a)
    (i : Fin 512) (j : Fin 1024) :
    chunk h x1 x2 x3 o hc hr (ValueIdx.ix2 i j)
      = ∑ k : Fin 512, (fun f : Fin 3584 => unit (fun q => h (ValueIdx.ix2 i q)) (fun q => x1 (ValueIdx.ix3 0 q f)) (fun q => x2 (ValueIdx.ix3 0 q f)) * x3 (ValueIdx.ix3 0 f j))
          ⟨512 * n.val + k.val, by have := n.isLt; have := k.isLt; omega⟩ := by
  subst ho
  refine (pay15_apply _ _ _ _ i j).trans (Finset.sum_congr rfl fun k _ => ?_)
  have hcol (x : Vec Ideal S1x1024x3584 .bf16) (q : Fin 1024) :
      colBlk x (512 * n.val) hc (ValueIdx.ix3 0 q k) = x (ValueIdx.ix3 0 q ⟨512 * n.val + k.val, by have := n.isLt; have := k.isLt; omega⟩) := by
    refine congrArg x (funext fun a => Fin.ext ?_)
    match a with
    | ⟨0, _⟩ => rfl
    | ⟨1, _⟩ => show 0 + 1 * q.val = q.val; omega
    | ⟨2, _⟩ => show 512 * n.val + 1 * k.val = 512 * n.val + k.val; omega
  have hrow : rowBlk x3 (512 * n.val) hr (ValueIdx.ix3 0 k j) = x3 (ValueIdx.ix3 0 ⟨512 * n.val + k.val, by have := n.isLt; have := k.isLt; omega⟩ j) := by
    refine congrArg x3 (funext fun a => Fin.ext ?_)
    match a with
    | ⟨0, _⟩ => rfl
    | ⟨1, _⟩ => show 512 * n.val + 1 * k.val = 512 * n.val + k.val; omega
    | ⟨2, _⟩ => show 0 + 1 * j.val = j.val; omega
  rw [hrow]
  simp only [hcol]

/-- The block's feed-forward, at an element: the row's, against the slab's weights. -/
theorem total_apply (h : FVec Ideal S512x1024 .bf16) (x1 x2 : Vec Ideal S1x1024x3584 .bf16) (x3 : Vec Ideal S1x3584x1024 .bf16) (i : Fin 512) (j : Fin 1024) :
    total h x1 x2 x3 (ValueIdx.ix2 i j)
      = swiglu (fun q => h (ValueIdx.ix2 i q)) (fun q f => x1 (ValueIdx.ix3 0 q f)) (fun q f => x2 (ValueIdx.ix3 0 q f)) (fun f => x3 (ValueIdx.ix3 0 f j)) := by
  unfold swiglu
  rw [← sum_chunks _ _ (fun n => rfl)]
  unfold total
  simp only [addf]
  rw [chunk_apply h x1 x2 x3 0 0 rfl, chunk_apply h x1 x2 x3 1 512 rfl, chunk_apply h x1 x2 x3 2 1024 rfl, chunk_apply h x1 x2 x3 3 1536 rfl,
    chunk_apply h x1 x2 x3 4 2048 rfl, chunk_apply h x1 x2 x3 5 2560 rfl, chunk_apply h x1 x2 x3 6 3072 rfl]
  rfl

/-- The gathering of the rows is the eight lane chunks side by side. -/
theorem pay6_eq (v : Fin 8 → Vec Ideal S512x128 .f32) (h : Shape.Concatenates ((List.ofFn fun s : Fin 8 => (⟨S512x128, v s⟩ : (s : Shape) × (s.Idx → Ideal .f32))).map (·.1)) S512x1024 1) :
    k0_pay6 (F := Ideal) (v 0) (v 1) (v 2) (v 3) (v 4) (v 5) (v 6) (v 7)
      = truncf .bf16 (concatenate S512x1024 1 (List.ofFn fun s : Fin 8 => (⟨S512x128, v s⟩ : (s : Shape) × (s.Idx → Ideal .f32))) h) bitsLt_bf16_f32 := by
  have g (v' : Fin 8 → Vec Ideal S512x128 .f32) (e : v' = v) :
      truncf (F := Ideal) .bf16 (concatenate S512x1024 1 (List.ofFn fun s : Fin 8 => (⟨S512x128, v' s⟩ : (s : Shape) × (s.Idx → Ideal .f32))) h) bitsLt_bf16_f32
        = truncf .bf16 (concatenate S512x1024 1 (List.ofFn fun s : Fin 8 => (⟨S512x128, v s⟩ : (s : Shape) × (s.Idx → Ideal .f32))) h) bitsLt_bf16_f32 := by
    subst e; rfl
  exact Eq.trans (b := truncf .bf16 (concatenate S512x1024 1 (List.ofFn fun s : Fin 8 => (⟨S512x128, shapeCast S512x128 (v s) shapeCasts_S512x128_S512x128⟩ : (s : Shape) × (s.Idx → Ideal .f32))) h) bitsLt_bf16_f32)
    rfl (g _ (funext fun s => shapeCast_id _ _))

/-- A row of the block, gathered from its tiles: entry `q` is at row `8 i + q / 128`, lane `q % 128`. -/
theorem rows_apply (x : Vec Ideal S4096x128 .f32) (i : Fin 512) (q : Fin 1024) :
    rows (F := Ideal) x (ValueIdx.ix2 i q)
      = x (ValueIdx.ix2 ⟨8 * i.val + q.val / 128, by have := i.isLt; have := q.isLt; omega⟩ ⟨q.val % 128, Nat.mod_lt _ (by decide)⟩) := by
  have hq : q.val / 128 < 8 := by have := q.isLt; omega
  have e := pay6_eq (fun s j => x ((stripe s).toLoadRect.idx j)) concatenates_S512x128_S512x128_S512x128_S512x128_S512x128_S512x128_S512x128_S512x128_S512x1024_d1
  have k := concatenate_ofFn_apply (t := S512x1024) (s₁ := S512x128) 1 (fun (s : Fin 8) j => x ((stripe s).toLoadRect.idx j))
    concatenates_S512x128_S512x128_S512x128_S512x128_S512x128_S512x128_S512x128_S512x128_S512x1024_d1 rfl 128 rfl (ValueIdx.ix2 i q) ⟨q.val / 128, hq⟩ rfl
    (ValueIdx.ix2 i ⟨q.val % 128, Nat.mod_lt _ (by decide)⟩) rfl (fun b hb => by
      match b with
      | ⟨0, _⟩ => rfl
      | ⟨1, _⟩ => exact absurd rfl hb)
  refine ((congrFun e (ValueIdx.ix2 i q)).trans k).trans (congrArg x (funext fun a => Fin.ext ?_))
  match a with
  | ⟨0, _⟩ => show q.val / 128 + 8 * i.val = 8 * i.val + q.val / 128; omega
  | ⟨1, _⟩ => show 0 + 1 * (q.val % 128) = q.val % 128; omega

end Cert.KernelIdeal.Moe

end
-- ==== Proof.KernelValue.lean ====
/- What the grouped expert feed-forward call leaves in the program's result, over the extended reals: each row of a used block is the
   feed-forward of the row by the expert the table names for its block, and the rows of the unused blocks are zero. -/
module

public import proofs.«01_k».proof.Proof.Ffn
public import Idealize.ShloMosaic.Lib.Pipeline.ValueKit.Geometry

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## The result -/

/-- The program's result at row `r`, column `j`: the feed-forward of row `r` of `x` by the expert the table `e` names for the row's
    block of 512, if the block is one of the used ones, otherwise zero. -/
def result (x : FVec Ideal S69632x1024 .f32) (e : IVec S136 32) (u : IVec S1 32) (w1 w3 : FVec Ideal S8x1024x3584 .f32) (w2 : FVec Ideal S8x3584x1024 .f32)
    (r : Fin 69632) (j : Fin 1024) : EReal :=
  let b : Fin 136 := ⟨r.val / 512, by have := r.isLt; omega⟩
  let k : Fin 8 := ⟨(e (ValueIdx.ix1 b)).toNat % 8, Nat.mod_lt _ (by decide)⟩
  if b.val < (u (ValueIdx.ix1 0)).toInt.toNat then
    swiglu (fun q => x (ValueIdx.ix2 r q)) (fun q f => w1 (ValueIdx.ix3 k q f)) (fun q f => w3 (ValueIdx.ix3 k q f)) (fun f => w2 (ValueIdx.ix3 k f j))
  else 0

/-- The result of the launch contents. -/
abbrev resultOf (c : Dev nD) (r : Fin 69632) (j : Fin 1024) : EReal :=
  result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) r j

/-! ## The arrays the call reads -/

/-- The rows, eight tiles of 128 lanes each. -/
theorem rows_in (c : Dev nD) : V m c main_v0 = shapeCast S557056x128 (m ((c : Thread nD τ).loc main_arg0) : FVec Ideal S69632x1024 .f32) shapeCasts_S69632x1024_S557056x128 := by
  unfold V V0
  simp only [hostOps0, List.flatten_cons, List.flatten_nil, List.append_nil, List.cons_append, List.nil_append]
  entry_read
  all_goals rfl
/-- The three weights: over the extended reals the change of format is the identity. -/
theorem gate_in (c : Dev nD) : V m c main_v1 = (m ((c : Thread nD τ).loc main_arg3) : FVec Ideal S8x1024x3584 .f32) := by
  unfold V V0
  simp only [hostOps0, List.flatten_cons, List.flatten_nil, List.append_nil, List.cons_append, List.nil_append]
  entry_read
  all_goals rfl
theorem up_in (c : Dev nD) : V m c main_v2 = (m ((c : Thread nD τ).loc main_arg4) : FVec Ideal S8x1024x3584 .f32) := by
  unfold V V0
  simp only [hostOps0, List.flatten_cons, List.flatten_nil, List.append_nil, List.cons_append, List.nil_append]
  entry_read
  all_goals rfl
theorem down_in (c : Dev nD) : V m c main_v3 = (m ((c : Thread nD τ).loc main_arg5) : FVec Ideal S8x3584x1024 .f32) := by
  unfold V V0
  simp only [hostOps0, List.flatten_cons, List.flatten_nil, List.append_nil, List.cons_append, List.nil_append]
  entry_read
  all_goals rfl

/-- Row `R` of the tiled rows, lane `l`. -/
theorem rows_in_apply (c : Dev nD) (r : Fin 69632) (q : Fin 1024) (R : Fin 557056) (l : Fin 128) (hR : R.val = 8 * r.val + q.val / 128) (hl : l.val = q.val % 128) :
    (V m c main_v0 : FVec Ideal S557056x128 .f32) (ValueIdx.ix2 R l) = (m ((c : Thread nD τ).loc main_arg0) : FVec Ideal S69632x1024 .f32) (ValueIdx.ix2 r q) := by
  rw [rows_in]
  refine shapeCast_apply _ _ _ _ ?_
  refine (Shape.rowMajor_val_two (ValueIdx.ix2 r q)).trans (Eq.trans ?_ (Shape.rowMajor_val_two (ValueIdx.ix2 R l)).symm)
  show r.val * 1024 + q.val = R.val * 128 + l.val
  have := q.isLt
  omega

/-! ## The blocks -/

/-- A grid point's one coordinate is its number. -/
theorem coord_val (t : Fin grid0.N) : (grid0.coords t 0).val = t.val := by
  have h := Pipeline.Grid.coords_val t 0 (S := 1) (B := 136) (by decide) rfl
  have ht : t.val < 136 := t.isLt.trans_eq N_0
  rw [h]; omega

/-- The kernel's comparison: point `i` is live when it is below the number of used blocks. -/
theorem live_iff (i : grid0.Coords) (u : BitVec 32) : live i u = 1#1 ↔ (i 0).val < u.toInt.toNat := by
  have hi : (i 0).val < 136 := (i 0).isLt
  have h1 : (BitVec.ofNat 32 (i 0).val).toInt = (i 0).val := by
    rw [BitVec.toInt, BitVec.toNat_ofNat]; split <;> omega
  have ofBool_eq_one (p : Bool) : (BitVec.ofBool p = 1#1) ↔ p = true := by cases p <;> decide
  unfold live Scalar.cmpi IntOp.cmpi
  simp only [ofBool_eq_one, BitVec.slt, h1, decide_eq_true_eq]
  omega

/-- An element of a window's block sits, on each axis, at the block's index times the block's size plus its own coordinate. -/
theorem emb_at {G : Pipeline.Grid} (w : Window sig G) (t : Fin G.N) (y : (w.xblock (G.coords t)).Idx) (b : Fin w.shape.rank) (hk : w.kind = .blocked)
    (i s n : ℕ) (hi : w.index t b = i) (hs : w.size b = s) (hy : (y b).val = n) : ((w.rect t).emb y b : ℕ) = i * s + n := by
  rw [Pipeline.Window.rect_emb_val w t y b hk, hi, hs, hy]

section Blocks
variable (hO : Ok m) (c : Dev nD) (t : Fin (cfgM m hO).N)

/-- The used word, as the body is handed it. -/
theorem used_tbl : usedOf (F := Ideal) c (tbl m 1) = (m ((c : Thread nD τ).loc main_arg2) : IVec S1 32) (ValueIdx.ix1 0) :=
  ((congrArg (tbl m 1 : IVec S1 32) ((by decide : ∀ v w : S1.Idx, v = w) _ _)).trans (congrFun (tbl_eq m c).2 (ValueIdx.ix1 0)))

/-- The block of rows the call reads at a used point `t` is block `t`. -/
theorem rowBlk_apply (h : Named (tbl m 0) (tbl m 1)) (ht : t.val < (usedWord (tbl m)).toInt.toNat) (a : Fin 4096) (l : Fin 128) (R : Fin 557056) (hR : R.val = 4096 * t.val + a.val) :
    (iblk m hO c 0 t : Vec Ideal S4096x128 .f32) (ValueIdx.ix2 a l) = (V m c main_v0 : FVec Ideal S557056x128 .f32) (ValueIdx.ix2 R l) := by
  have hi : ((cfgM m hO).win 0).index t = ![min (grid0.coords t 0).val ((usedWord (tbl m)).toInt.toNat - 1), 0] := rowBlock_eq (tbl m) h (grid0.coords t)
  have hc := coord_val t
  show (V m c main_v0 : FVec Ideal S557056x128 .f32) ((((cfgM m hO).win 0).rect t).emb (ValueIdx.ix2 a l)) = _
  refine congrArg _ (funext fun b => Fin.ext ?_)
  match b with
  | ⟨0, _⟩ => refine (emb_at ((cfgM m hO).win 0) t (ValueIdx.ix2 a l) (0 : Fin 2) rfl _ 4096 a.val (congrFun hi (0 : Fin 2)) rfl rfl).trans ?_; show min (grid0.coords t 0).val ((usedWord (tbl m)).toInt.toNat - 1) * 4096 + a.val = R.val; omega
  | ⟨1, _⟩ => refine (emb_at ((cfgM m hO).win 0) t (ValueIdx.ix2 a l) (1 : Fin 2) rfl _ 128 l.val (congrFun hi (1 : Fin 2)) rfl rfl).trans ?_; show 0 * 128 + l.val = l.val; omega

/-- The weights the call reads at a point are the slab of the expert its block's word names. -/
theorem gateBlk_apply (k : Fin 8) (hk : k.val = (expertWord (tbl m) (grid0.coords t 0)).toNat) (q : Fin 1024) (f : Fin 3584) :
    (iblk m hO c 1 t : Vec Ideal S1x1024x3584 .bf16) (ValueIdx.ix3 0 q f) = (m ((c : Thread nD τ).loc main_arg3) : FVec Ideal S8x1024x3584 .f32) (ValueIdx.ix3 k q f) := by
  have hi : ((cfgM m hO).win 1).index t = ![(expertWord (tbl m) (grid0.coords t 0)).toNat, 0, 0] := gateBlock_eq (tbl m) (grid0.coords t)
  refine Eq.trans ?_ (congrFun (gate_in m c) (ValueIdx.ix3 k q f))
  show (V m c main_v1 : FVec Ideal S8x1024x3584 .bf16) ((((cfgM m hO).win 1).rect t).emb (ValueIdx.ix3 0 q f)) = _
  refine congrArg _ (funext fun b => Fin.ext ?_)
  match b with
  | ⟨0, _⟩ => refine (emb_at ((cfgM m hO).win 1) t (ValueIdx.ix3 0 q f) (0 : Fin 3) rfl _ 1 0 (congrFun hi (0 : Fin 3)) rfl rfl).trans ?_; show (expertWord (tbl m) (grid0.coords t 0)).toNat * 1 + 0 = k.val; omega
  | ⟨1, _⟩ => refine (emb_at ((cfgM m hO).win 1) t (ValueIdx.ix3 0 q f) (1 : Fin 3) rfl _ 1024 q.val (congrFun hi (1 : Fin 3)) rfl rfl).trans ?_; show 0 * 1024 + q.val = q.val; omega
  | ⟨2, _⟩ => refine (emb_at ((cfgM m hO).win 1) t (ValueIdx.ix3 0 q f) (2 : Fin 3) rfl _ 3584 f.val (congrFun hi (2 : Fin 3)) rfl rfl).trans ?_; show 0 * 3584 + f.val = f.val; omega
theorem upBlk_apply (k : Fin 8) (hk : k.val = (expertWord (tbl m) (grid0.coords t 0)).toNat) (q : Fin 1024) (f : Fin 3584) :
    (iblk m hO c 2 t : Vec Ideal S1x1024x3584 .bf16) (ValueIdx.ix3 0 q f) = (m ((c : Thread nD τ).loc main_arg4) : FVec Ideal S8x1024x3584 .f32) (ValueIdx.ix3 k q f) := by
  have hi : ((cfgM m hO).win 2).index t = ![(expertWord (tbl m) (grid0.coords t 0)).toNat, 0, 0] := upBlock_eq (tbl m) (grid0.coords t)
  refine Eq.trans ?_ (congrFun (up_in m c) (ValueIdx.ix3 k q f))
  show (V m c main_v2 : FVec Ideal S8x1024x3584 .bf16) ((((cfgM m hO).win 2).rect t).emb (ValueIdx.ix3 0 q f)) = _
  refine congrArg _ (funext fun b => Fin.ext ?_)
  match b with
  | ⟨0, _⟩ => refine (emb_at ((cfgM m hO).win 2) t (ValueIdx.ix3 0 q f) (0 : Fin 3) rfl _ 1 0 (congrFun hi (0 : Fin 3)) rfl rfl).trans ?_; show (expertWord (tbl m) (grid0.coords t 0)).toNat * 1 + 0 = k.val; omega
  | ⟨1, _⟩ => refine (emb_at ((cfgM m hO).win 2) t (ValueIdx.ix3 0 q f) (1 : Fin 3) rfl _ 1024 q.val (congrFun hi (1 : Fin 3)) rfl rfl).trans ?_; show 0 * 1024 + q.val = q.val; omega
  | ⟨2, _⟩ => refine (emb_at ((cfgM m hO).win 2) t (ValueIdx.ix3 0 q f) (2 : Fin 3) rfl _ 3584 f.val (congrFun hi (2 : Fin 3)) rfl rfl).trans ?_; show 0 * 3584 + f.val = f.val; omega
theorem downBlk_apply (k : Fin 8) (hk : k.val = (expertWord (tbl m) (grid0.coords t 0)).toNat) (f : Fin 3584) (j : Fin 1024) :
    (iblk m hO c 3 t : Vec Ideal S1x3584x1024 .bf16) (ValueIdx.ix3 0 f j) = (m ((c : Thread nD τ).loc main_arg5) : FVec Ideal S8x3584x1024 .f32) (ValueIdx.ix3 k f j) := by
  have hi : ((cfgM m hO).win 3).index t = ![(expertWord (tbl m) (grid0.coords t 0)).toNat, 0, 0] := downBlock_eq (tbl m) (grid0.coords t)
  refine Eq.trans ?_ (congrFun (down_in m c) (ValueIdx.ix3 k f j))
  show (V m c main_v3 : FVec Ideal S8x3584x1024 .bf16) ((((cfgM m hO).win 3).rect t).emb (ValueIdx.ix3 0 f j)) = _
  refine congrArg _ (funext fun b => Fin.ext ?_)
  match b with
  | ⟨0, _⟩ => refine (emb_at ((cfgM m hO).win 3) t (ValueIdx.ix3 0 f j) (0 : Fin 3) rfl _ 1 0 (congrFun hi (0 : Fin 3)) rfl rfl).trans ?_; show (expertWord (tbl m) (grid0.coords t 0)).toNat * 1 + 0 = k.val; omega
  | ⟨1, _⟩ => refine (emb_at ((cfgM m hO).win 3) t (ValueIdx.ix3 0 f j) (1 : Fin 3) rfl _ 3584 f.val (congrFun hi (1 : Fin 3)) rfl rfl).trans ?_; show 0 * 3584 + f.val = f.val; omega
  | ⟨2, _⟩ => refine (emb_at ((cfgM m hO).win 3) t (ValueIdx.ix3 0 f j) (2 : Fin 3) rfl _ 1024 j.val (congrFun hi (2 : Fin 3)) rfl rfl).trans ?_; show 0 * 1024 + j.val = j.val; omega

/-- What the body leaves at row `a`, lane `l` of the output's block at point `t`: the result at row `512 t + a / 8`, column `128 (a mod 8) + l`. -/
theorem outsAt_apply (h : Named (tbl m 0) (tbl m 1)) (a : Fin 4096) (l : Fin 128) (r : Fin 69632) (j : Fin 1024)
    (hr : r.val = 512 * t.val + a.val / 8) (hj : j.val = 128 * (a.val % 8) + l.val) :
    outsAt m hO c t (ValueIdx.ix2 a l) = resultOf m c r j := by
  have hc := coord_val t
  have hl := l.isLt
  have ha := a.isLt
  have ht : t.val < 136 := t.isLt.trans_eq N_0
  have hb : (⟨r.val / 512, by have := r.isLt; omega⟩ : Fin 136) = grid0.coords t 0 := Fin.ext (by show r.val / 512 = _; omega)
  have he : (m ((c : Thread nD τ).loc main_arg1) : IVec S136 32) = tbl m 0 := (tbl_eq m c).1.symm
  have hu : (m ((c : Thread nD τ).loc main_arg2) : IVec S1 32) (ValueIdx.ix1 0) = usedWord (tbl m) := congrFun (tbl_eq m c).2.symm (ValueIdx.ix1 0)
  have hx := h.expert (ValueIdx.ix1 (grid0.coords t 0))
  unfold outsAt resultOf result
  simp only [hb]
  rw [used_tbl, hu, he]
  by_cases hlive : (grid0.coords t 0).val < (usedWord (tbl m)).toInt.toNat
  · rw [if_pos ((live_iff _ _).mpr hlive), if_pos (by omega)]
    refine (total_apply (rows (F := Ideal) (iblk m hO c 0 t)) (iblk m hO c 1 t) (iblk m hO c 2 t) (iblk m hO c 3 t) ⟨a.val / 8, by omega⟩ ⟨128 * (a.val % 8) + l.val, by omega⟩).trans ?_
    have hk : (tbl m 0 (ValueIdx.ix1 (grid0.coords t 0)) : BitVec 32).toNat % 8 = (expertWord (tbl m) (grid0.coords t 0)).toNat := Nat.mod_eq_of_lt hx
    have hj' : (⟨128 * (a.val % 8) + l.val, by omega⟩ : Fin 1024) = j := Fin.ext hj.symm
    have ht' : t.val < (usedWord (tbl m)).toInt.toNat := by omega
    rw [hj']
    unfold swiglu
    have h1 (q : Fin 1024) (f : Fin 3584) := gateBlk_apply m hO c t ⟨_, Nat.mod_lt _ (by decide)⟩ hk q f
    have h2 (q : Fin 1024) (f : Fin 3584) := upBlk_apply m hO c t ⟨_, Nat.mod_lt _ (by decide)⟩ hk q f
    have h3 (f : Fin 3584) := downBlk_apply m hO c t ⟨_, Nat.mod_lt _ (by decide)⟩ hk f j
    have h0 (q : Fin 1024) : rows (F := Ideal) (iblk m hO c 0 t) (ValueIdx.ix2 ⟨a.val / 8, by omega⟩ q) = (m ((c : Thread nD τ).loc main_arg0) : FVec Ideal S69632x1024 .f32) (ValueIdx.ix2 r q) := by
      have hq := q.isLt
      refine (rows_apply _ _ _).trans ?_
      refine (rowBlk_apply m hO c t h ht' _ _ ⟨4096 * t.val + (8 * (a.val / 8) + q.val / 128), by omega⟩ rfl).trans ?_
      exact rows_in_apply m c r q _ _ (by show 4096 * t.val + (8 * (a.val / 8) + q.val / 128) = _; omega) rfl
    simp only [h0, h1, h2, h3]
  · rw [if_neg (fun hh => hlive ((live_iff _ _).mp hh)), if_neg (by omega)]
    exact Ideal.ofBits_zero_f32
end Blocks

/-! ## The output array, from its blocks -/

/-- The output's block at a point is the point's own. -/
theorem outBlock_eq (hO : Ok m) (t : Fin (cfgM m hO).N) : ((cfgM m hO).win 4).index t = ![t.val, 0] := by
  have hc := coord_val t
  have ht : t.val < 136 := t.isLt.trans_eq N_0
  show ![(BitVec.ofNat 32 (grid0.coords t 0).val).toNat, 0] = _
  rw [hc, BitVec.toNat_ofNat, Nat.mod_eq_of_lt (by omega)]

/-- It is written back at every point. -/
theorem out_flush (hO : Ok m) (t : Fin (cfgM m hO).N) : ((cfgM m hO).win 4).flush t = true := by
  show (true && (decide (t.val + 1 = grid0.N) || decide (∃ h : t.val + 1 < grid0.N, ((cfgM m hO).win 4).index ⟨t.val + 1, h⟩ ≠ ((cfgM m hO).win 4).index t))) = true
  by_cases h : t.val + 1 = grid0.N
  · simp [h]
  · have hlt : t.val + 1 < grid0.N := by have : t.val < grid0.N := t.isLt; omega
    have hne : ((cfgM m hO).win 4).index ⟨t.val + 1, hlt⟩ ≠ ((cfgM m hO).win 4).index t := by
      rw [outBlock_eq, outBlock_eq]
      intro e
      have e0 := congrFun e (0 : Fin 2)
      change t.val + 1 = t.val at e0
      omega
    have hx : ∃ h : t.val + 1 < grid0.N, ((cfgM m hO).win 4).index ⟨t.val + 1, h⟩ ≠ ((cfgM m hO).win 4).index t := ⟨hlt, hne⟩
    rw [decide_eq_true hx, Bool.or_true, Bool.true_and]

/-- What the call's output array holds: row `R` of tile `R mod 8` is the result's row `R / 8`. -/
def tiled (c : Dev nD) : FVec Ideal S557056x128 .f32 := fun y =>
  resultOf m c ⟨(y 0).val / 8, by have := (y 0).isLt; change (y 0).val < 557056 at this; omega⟩
    ⟨128 * ((y 0).val % 8) + (y 1).val, by have := (y 1).isLt; change (y 1).val < 128 at this; omega⟩

/-- The array after the last point. -/
theorem out_array (hO : Ok m) (h : Named (tbl m 0) (tbl m 1)) (c : Dev nD) : (dats m hO 0 c).arrAt 4 (cfgM m hO).N = tiled m c := by
  refine (dats m hO 0 c).arrAt_eq_of_emb (4 : Fin 5) (tiled m c) (fun t _ (y : S4096x128.Idx) => ?_) (fun (i : S557056x128.Idx) => ?_)
  · have hi := outBlock_eq m hO t
    have ht : t.val < 136 := t.isLt.trans_eq N_0
    have h0 : (y 0).val < 4096 := (y 0).isLt
    have h1 : (y 1).val < 128 := (y 1).isLt
    have e0 := emb_at ((cfgM m hO).win 4) t y (0 : Fin 2) rfl _ 4096 (y 0).val (congrFun hi (0 : Fin 2)) rfl rfl
    have e1 := emb_at ((cfgM m hO).win 4) t y (1 : Fin 2) rfl _ 128 (y 1).val (congrFun hi (1 : Fin 2)) rfl rfl
    change _ = t.val * 4096 + (y 0).val at e0
    change _ = 0 * 128 + (y 1).val at e1
    have hy : y = ValueIdx.ix2 ⟨(y 0).val, h0⟩ ⟨(y 1).val, h1⟩ := by
      funext a
      match a with
      | ⟨0, _⟩ => rfl
      | ⟨1, _⟩ => rfl
    show (dats m hO 0 c).after (4 : Fin 5) t y = tiled m c ((((cfgM m hO).win 4).rect t).emb y)
    refine (congrFun (after_4 m hO c t) y).trans ?_
    refine (congrArg (outsAt m hO c t) hy).trans ?_
    unfold tiled
    refine outsAt_apply m hO c t h _ _ _ _ ?_ ?_
    · show (((((cfgM m hO).win 4).rect t).emb y (0 : Fin 2)) : ℕ) / 8 = _
      rw [e0]
      show (t.val * 4096 + (y 0).val) / 8 = 512 * t.val + (y 0).val / 8
      omega
    · show 128 * ((((((cfgM m hO).win 4).rect t).emb y (0 : Fin 2)) : ℕ) % 8) + (((((cfgM m hO).win 4).rect t).emb y (1 : Fin 2)) : ℕ) = _
      rw [e0, e1]
      show 128 * ((t.val * 4096 + (y 0).val) % 8) + (0 * 128 + (y 1).val) = 128 * ((y 0).val % 8) + (y 1).val
      omega
  · have h0 : (i 0).val < 557056 := (i 0).isLt
    have h1 : (i 1).val < 128 := (i 1).isLt
    let t : Fin (cfgM m hO).N := ⟨(i 0).val / 4096, by show _ < grid0.N; rw [N_0]; omega⟩
    refine ⟨t, out_flush m hO t, (Pipeline.Window.emb_mem_blk_iff ((cfgM m hO).win 4) t i rfl).mpr fun a => ?_⟩
    rw [outBlock_eq m hO t]
    match a with
    | ⟨0, _⟩ => exact ⟨show (i 0).val / 4096 * 4096 ≤ (i 0).val by omega, show (i 0).val < (i 0).val / 4096 * 4096 + 4096 by omega⟩
    | ⟨1, _⟩ => exact ⟨show 0 * 128 ≤ (i 1).val by omega, show (i 1).val < 0 * 128 + 128 by omega⟩

/-! ## The program's result -/

/-- The result array: the row and column read off the index. -/
def value (c : Dev nD) : FVec Ideal S69632x1024 .f32 := fun y =>
  resultOf m c ⟨(y 0).val, (y 0).isLt⟩ ⟨(y 1).val, (y 1).isLt⟩

/-- The tiles read as rows of 1024. -/
theorem untile (c : Dev nD) : shapeCast S69632x1024 (tiled m c) shapeCasts_S557056x128_S69632x1024 = value m c := by
  funext y
  have h0 : (y 0).val < 69632 := (y 0).isLt
  have h1 : (y 1).val < 1024 := (y 1).isLt
  refine (shapeCast_apply _ _ y (ValueIdx.ix2 (⟨8 * (y 0).val + (y 1).val / 128, by omega⟩ : Fin 557056) (⟨(y 1).val % 128, by omega⟩ : Fin 128)) ?_).trans ?_
  · refine (Shape.rowMajor_val_two (ValueIdx.ix2 (⟨8 * (y 0).val + (y 1).val / 128, by omega⟩ : Fin 557056) (⟨(y 1).val % 128, by omega⟩ : Fin 128))).trans (Eq.trans ?_ (Shape.rowMajor_val_two y).symm)
    show (8 * (y 0).val + (y 1).val / 128) * 128 + (y 1).val % 128 = (y 0).val * 1024 + (y 1).val
    omega
  · unfold tiled value
    congr 1 <;> apply Fin.ext
    · show (8 * (y 0).val + (y 1).val / 128) / 8 = (y 0).val; omega
    · show 128 * ((8 * (y 0).val + (y 1).val / 128) % 8) + (y 1).val % 128 = (y 1).val; omega

/-- The host line after the call leaves the result array holding `value`. -/
theorem after_tail (hO : Ok m) (h : Named (tbl m 0) (tbl m 1)) (c : Dev nD) :
    Pipeline.afterTail pcfgs (fun _ => adm m hO) (dats m hO) 0 (V0 m) [hostOps1] c main_v5 = value m c := by
  unfold Pipeline.afterTail
  simp only [hostOps1, List.flatten_cons, List.flatten_nil, List.append_nil, StableHlo.after_cons, StableHlo.after_nil]
  refine (StableHlo.reshape_result ..).trans ?_
  refine Eq.trans ?_ (untile m c)
  have e := Pipeline.withArrays_arr spec0 (by decide) c (V0 m c) (fun w => (dats m hO 0 c).arrAt w (cfgM m hO).N) (4 : Fin 5)
  exact congrArg (fun x : FVec Ideal S557056x128 .f32 => shapeCast S69632x1024 x shapeCasts_S557056x128_S69632x1024) (e.trans (out_array m hO h c))

/-- The whole program's run: the result array at `value`, every argument as launched. -/
theorem run_value (hO : Ok m) (h : Named (tbl m 0) (tbl m 1)) : θ_run defs (onTc (τ := τ) (main (F := Ideal))) ⟨m, fun _ => 0, ρ⟩ (fun r => ∀ c : Dev nD,
      r.2.mem ((c.tc : Thread nD τ).loc main_v5) = value m c ∧ ∀ b ∈ args, r.2.mem ((c.tc : Thread nD τ).loc b) = m ((c.tc : Thread nD τ).loc b)) :=
  (θ_run defs (onTc (τ := τ) (main (F := Ideal))) _).mono (fun r hr c =>
    ⟨((hr.1 c).2 main_v5 (by decide : main_v5 ∈ Pipeline.restRefs sig spec0)).trans (after_tail m hO h c), fun b hb => arg_kept m hO r hr.1 c b hb⟩) (run_main m ρ hO)

end Cert.KernelIdeal.Moe

end
-- ==== Proof.RefValue.lean ====
/- The reference's result, over the extended reals, read at an element: the sum over the eight experts is the named expert's feed-forward on
   the rows of the used blocks, and zero on the others. -/
module

public import proofs.«01_k».proof.Proof.KernelValue
public import proofs.«01_k».proof.Proof.Gen.ReferenceIdeal.Run
public import Idealize.ShloMosaic.Lib.StackMember

@[expose] public section

set_option maxRecDepth 16384

noncomputable section

namespace Cert.ReferenceIdeal.Moe

open Cert.ReferenceIdeal Cert.ReferenceIdeal.Gen Cert.ReferenceIdeal.Value
open Idealize.ShloMosaic Idealize.ShloMosaic.TcCoe Idealize.SL.Sem
open Cert.KernelIdeal.Moe (swiglu unit gate result Named)

/-! ## One expert's term -/

/-- One expert's rows, as the reference computes them: its gated products with the weights `e` of the three stacks, weighted by column
    `e` of the routing. -/
def term (e : ℕ) (hc : S69632x8.Slices ![0, e] S69632x1) (hu : S8x1024x3584.Slices ![e, 0, 0] S1x1024x3584) (hd : S8x3584x1024.Slices ![e, 0, 0] S1x3584x1024)
    (c : FVec Ideal S69632x8 .f32) (x : FVec Ideal S69632x1024 .f32) (w1 w3 : FVec Ideal S8x1024x3584 .f32) (w2 : FVec Ideal S8x3584x1024 .f32) : FVec Ideal S69632x1024 .f32 :=
  let up (w : FVec Ideal S8x1024x3584 .f32) : FVec Ideal S69632x3584 .f32 :=
    Host.dotGeneral dot_S69632x1024_S1024x3584_S69632x3584_1_0_0_1_n_n none x (shapeCast _ (extractStridedSlice S1x1024x3584 ![e, 0, 0] w hu) shapeCasts_S1x1024x3584_S1024x3584)
  mulf (broadcastInDim S69632x1024 ![0, 1] bcast_S69632x1_S69632x1024_0_1 (extractStridedSlice S69632x1 ![0, e] c hc))
    (Host.dotGeneral dot_S69632x3584_S3584x1024_S69632x1024_1_0_0_1_n_n none
      (mulf (mulf (up w1) (Host.divf (broadcastInDim S69632x3584 ![] bcast_S_S69632x3584 (constant S_ .f32 0x3F800000#32))
        (addf (broadcastInDim S69632x3584 ![] bcast_S_S69632x3584 (constant S_ .f32 0x3F800000#32)) (Host.exp (Host.negf (up w1)))))) (up w3))
      (shapeCast _ (extractStridedSlice S1x3584x1024 ![e, 0, 0] w2 hd) shapeCasts_S1x3584x1024_S3584x1024))

/-- A member of a stack of matrices, read at an element. -/
theorem member_apply {a b : ℕ} (e : Fin 8) (w : (⟨3, ![8, a, b]⟩ : Shape).Idx → EReal) (hs : (⟨3, ![8, a, b]⟩ : Shape).Slices ![e.val, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![e.val, 0, 0] w hs) hc (ValueIdx.ix2 i j) = w (ValueIdx.ix3 e i j) := by
  refine (ValueIdx.shapeCast_1ab_ab_apply _ _ _ _).trans (extractStridedSlice_apply _ _ _ _ _ fun k => ?_)
  match k with
  | ⟨0, _⟩ => rfl
  | ⟨1, _⟩ => show i.val = 0 + i.val; omega
  | ⟨2, _⟩ => show j.val = 0 + j.val; omega

/-- One expert's term at an element: the routing weight times the row's feed-forward by that expert. -/
theorem term_apply (e : Fin 8) (hc : S69632x8.Slices ![0, e.val] S69632x1) (hu : S8x1024x3584.Slices ![e.val, 0, 0] S1x1024x3584) (hd : S8x3584x1024.Slices ![e.val, 0, 0] S1x3584x1024)
    (c : FVec Ideal S69632x8 .f32) (x : FVec Ideal S69632x1024 .f32) (w1 w3 : FVec Ideal S8x1024x3584 .f32) (w2 : FVec Ideal S8x3584x1024 .f32) (r : Fin 69632) (j : Fin 1024) :
    term e.val hc hu hd c x w1 w3 w2 (ValueIdx.ix2 r j)
      = c (ValueIdx.ix2 r e) * swiglu (fun q => x (ValueIdx.ix2 r q)) (fun q f => w1 (ValueIdx.ix3 e q f)) (fun q f => w3 (ValueIdx.ix3 e q f)) (fun f => w2 (ValueIdx.ix3 e f j)) := by
  have hup (w : FVec Ideal S8x1024x3584 .f32) (f : Fin 3584) :
      Host.dotGeneral (F := Ideal) dot_S69632x1024_S1024x3584_S69632x3584_1_0_0_1_n_n none x (shapeCast _ (extractStridedSlice S1x1024x3584 ![e.val, 0, 0] w hu) shapeCasts_S1x1024x3584_S1024x3584) (ValueIdx.ix2 r f)
        = ∑ q : Fin 1024, x (ValueIdx.ix2 r q) * w (ValueIdx.ix3 e q f) :=
    (StackMember.dotGeneral_plain_apply none _ _ r f).trans (Finset.sum_congr rfl fun q _ => congrArg _ (member_apply e w hu _ q f))
  unfold term
  refine congrArg₂ (· * ·) ?_ ?_
  · refine (broadcastInDim_apply _ _ _ _ (ValueIdx.ix2 r (0 : Fin 1)) fun k => ?_).trans (extractStridedSlice_apply _ _ _ _ _ fun k => ?_)
    · match k with
      | ⟨0, _⟩ => rfl
      | ⟨1, _⟩ => rfl
    · match k with
      | ⟨0, _⟩ => show r.val = 0 + r.val; omega
      | ⟨1, _⟩ => show e.val = e.val + 0; rfl
  · refine (StackMember.dotGeneral_plain_apply none _ _ r j).trans (Finset.sum_congr rfl fun f _ => congrArg₂ (· * ·) ?_ (member_apply e w2 hd _ f j))
    unfold unit gate
    rw [← hup w1 f, ← hup w3 f]
    rfl

/-! ## The routing -/

/-- A per-block vector spread over the blocks' rows, read at row `r`. -/
theorem per_row_apply {α : Type} (x : S136.Idx → α) (r : Fin 69632) (k : Fin 8) :
    broadcastInDim S69632x8 ![0, 1] bcast_S69632x1_S69632x8_0_1 (broadcastInDim S69632x1 ![0] bcast_S69632_S69632x1_0 (shapeCast S69632
      (broadcastInDim S136x512 ![0, 1] bcast_S136x1_S136x512_0_1 (broadcastInDim S136x1 ![0] bcast_S136_S136x1_0 x)) shapeCasts_S136x512_S69632)) (ValueIdx.ix2 r k)
      = x (ValueIdx.ix1 (⟨r.val / 512, by have := r.isLt; omega⟩ : Fin 136)) := by
  have hr := r.isLt
  refine (broadcastInDim_apply _ _ _ _ (ValueIdx.ix2 r (0 : Fin 1)) fun a => ?_).trans
    ((broadcastInDim_apply _ _ _ _ (ValueIdx.ix1 r) fun a => ?_).trans
      ((shapeCast_apply _ _ _ (ValueIdx.ix2 (⟨r.val / 512, by omega⟩ : Fin 136) (⟨r.val % 512, by omega⟩ : Fin 512)) ?_).trans
        ((broadcastInDim_apply _ _ _ _ (ValueIdx.ix2 (⟨r.val / 512, by omega⟩ : Fin 136) (0 : Fin 1)) fun a => ?_).trans
          (broadcastInDim_apply _ _ _ _ (ValueIdx.ix1 (⟨r.val / 512, by omega⟩ : Fin 136)) fun a => ?_))))
  · match a with
    | ⟨0, _⟩ => rfl
    | ⟨1, _⟩ => rfl
  · match a with
    | ⟨0, _⟩ => rfl
  · refine (Shape.rowMajor_val_two (ValueIdx.ix2 (⟨r.val / 512, by omega⟩ : Fin 136) (⟨r.val % 512, by omega⟩ : Fin 512))).trans (Eq.trans ?_ (Shape.rowMajor_val_one (ValueIdx.ix1 r)).symm)
    show r.val / 512 * 512 + r.val % 512 = r.val
    omega
  · match a with
    | ⟨0, _⟩ => rfl
    | ⟨1, _⟩ => rfl
  · match a with
    | ⟨0, _⟩ => rfl

/-- The routing weights, as the reference computes them from the two tables. -/
def routing (e : IVec S136 32) (u : IVec S1 32) : FVec Ideal S69632x8 .f32 :=
  select (broadcastInDim S69632x8 ![0, 1] bcast_S69632x1_S69632x8_0_1 (broadcastInDim S69632x1 ![0] bcast_S69632_S69632x1_0 (shapeCast _ (broadcastInDim S136x512 ![0, 1] bcast_S136x1_S136x512_0_1 (broadcastInDim S136x1 ![0] bcast_S136_S136x1_0 (cmpi .slt (iotaInDim S136 32 0) (broadcastInDim S136 ![] bcast_S_S136 (shapeCast _ u shapeCasts_S1_S_))))) shapeCasts_S136x512_S69632)))
    (uitofp .f32 (cmpi .eq (broadcastInDim S69632x8 ![0, 1] bcast_S69632x1_S69632x8_0_1 (broadcastInDim S69632x1 ![0] bcast_S69632_S69632x1_0 (shapeCast _ (broadcastInDim S136x512 ![0, 1] bcast_S136x1_S136x512_0_1 (broadcastInDim S136x1 ![0] bcast_S136_S136x1_0 e)) shapeCasts_S136x512_S69632))) (broadcastInDim S69632x8 ![0, 1] bcast_S1x8_S69632x8_0_1 (iotaInDim S1x8 32 1))))
    (broadcastInDim S69632x8 ![] bcast_S_S69632x8 (id (constant S_ .f32 0x00000000#32)))

/-- A routing weight: one for the expert the table names for the row's block, if the block is used; otherwise zero. -/
theorem routing_apply (e : IVec S136 32) (u : IVec S1 32) (r : Fin 69632) (k : Fin 8) :
    routing e u (ValueIdx.ix2 r k) = if r.val / 512 < (u (ValueIdx.ix1 0)).toInt.toNat then
      (if (e (ValueIdx.ix1 (⟨r.val / 512, by have := r.isLt; omega⟩ : Fin 136))).toNat = k.val then 1 else 0) else 0 := by
  have hr := r.isLt
  have hk := k.isLt
  have h1 : (BitVec.ofNat 32 (r.val / 512)).toInt = (r.val / 512 : ℕ) := by
    rw [BitVec.toInt, BitVec.toNat_ofNat]; split <;> omega
  have ofBool_eq_one (p : Bool) : (BitVec.ofBool p = 1#1) ↔ p = true := by cases p <;> decide
  have hused := per_row_apply (cmpi .slt (iotaInDim S136 32 0) (broadcastInDim S136 ![] bcast_S_S136 (shapeCast S_ u shapeCasts_S1_S_))) r k
  have hexp := per_row_apply e r k
  have hw : (cmpi .slt (iotaInDim S136 32 0) (broadcastInDim S136 ![] bcast_S_S136 (shapeCast S_ u shapeCasts_S1_S_))) (ValueIdx.ix1 (⟨r.val / 512, by omega⟩ : Fin 136))
      = IntOp.cmpi .slt (BitVec.ofNat 32 (r.val / 512)) (u (ValueIdx.ix1 0)) :=
    congrArg (fun v => IntOp.cmpi .slt (BitVec.ofNat 32 (r.val / 512)) (u v)) ((by decide : ∀ v w : S1.Idx, v = w) _ _)
  have hiota : broadcastInDim S69632x8 ![0, 1] bcast_S1x8_S69632x8_0_1 (iotaInDim S1x8 32 1) (ValueIdx.ix2 r k) = BitVec.ofNat 32 k.val := by
    refine (broadcastInDim_apply _ _ _ _ (ValueIdx.ix2 (0 : Fin 1) k) fun a => ?_).trans rfl
    match a with
    | ⟨0, _⟩ => rfl
    | ⟨1, _⟩ => rfl
  show Scalar.select _ (FloatOps.uitofp (F := Ideal) .f32 (IntOp.cmpi .eq _ _)) (Ideal.ofBits .f32 0x00000000#32) = _
  rw [hused, hw, hexp, hiota, Ideal.ofBits_zero_f32]
  have c1 : (IntOp.cmpi .slt (BitVec.ofNat 32 (r.val / 512)) (u (ValueIdx.ix1 0)) = 1#1) ↔ r.val / 512 < (u (ValueIdx.ix1 0)).toInt.toNat := by
    unfold IntOp.cmpi
    simp only [ofBool_eq_one, BitVec.slt, h1, decide_eq_true_eq]
    omega
  have c2 (w : BitVec 32) : FloatOps.uitofp (F := Ideal) .f32 (IntOp.cmpi .eq w (BitVec.ofNat 32 k.val)) = if w.toNat = k.val then 1 else 0 := by
    have e : (w == BitVec.ofNat 32 k.val) = decide (w.toNat = k.val) := by
      rw [Bool.eq_iff_iff, beq_iff_eq, decide_eq_true_eq, ← BitVec.toNat_inj, BitVec.toNat_ofNat, Nat.mod_eq_of_lt (by omega)]
    show (((IntOp.cmpi .eq w (BitVec.ofNat 32 k.val)).toNat : ℝ) : EReal) = _
    unfold IntOp.cmpi
    simp only [e]
    split <;> simp_all
  rw [c2]
  unfold Scalar.select
  exact if_congr c1 rfl rfl

/-! ## The reference's result -/

/-- A sum over the eight experts weighted by one for the expert `n` and zero for the others is the expert's own term. -/
theorem sum_named (n : Fin 8) (S : Fin 8 → EReal) (c : Fin 8 → EReal) (hc : ∀ k, c k = if n.val = k.val then 1 else 0) :
    0 + c 0 * S 0 + c 1 * S 1 + c 2 * S 2 + c 3 * S 3 + c 4 * S 4 + c 5 * S 5 + c 6 * S 6 + c 7 * S 7 = S n := by
  simp only [hc]
  fin_cases n <;> simp

/-- The reference's result, of the contents it is launched with. -/
def value (x : FVec Ideal S69632x1024 .f32) (e : IVec S136 32) (u : IVec S1 32) (w1 w3 : FVec Ideal S8x1024x3584 .f32) (w2 : FVec Ideal S8x3584x1024 .f32) : FVec Ideal S69632x1024 .f32 :=
  let T (k : ℕ) (hc : S69632x8.Slices ![0, k] S69632x1) (hu : S8x1024x3584.Slices ![k, 0, 0] S1x1024x3584) (hd : S8x3584x1024.Slices ![k, 0, 0] S1x3584x1024) :=
    term k hc hu hd (routing e u) x w1 w3 w2
  addf (addf (addf (addf (addf (addf (addf (addf (broadcastInDim S69632x1024 ![] bcast_S_S69632x1024 (constant S_ .f32 0x00000000#32))
    (T 0 slices_S69632x8_S69632x1_0_0 slices_S8x1024x3584_S1x1024x3584_0_0_0 slices_S8x3584x1024_S1x3584x1024_0_0_0))
    (T 1 slices_S69632x8_S69632x1_0_1 slices_S8x1024x3584_S1x1024x3584_1_0_0 slices_S8x3584x1024_S1x3584x1024_1_0_0))
    (T 2 slices_S69632x8_S69632x1_0_2 slices_S8x1024x3584_S1x1024x3584_2_0_0 slices_S8x3584x1024_S1x3584x1024_2_0_0))
    (T 3 slices_S69632x8_S69632x1_0_3 slices_S8x1024x3584_S1x1024x3584_3_0_0 slices_S8x3584x1024_S1x3584x1024_3_0_0))
    (T 4 slices_S69632x8_S69632x1_0_4 slices_S8x1024x3584_S1x1024x3584_4_0_0 slices_S8x3584x1024_S1x3584x1024_4_0_0))
    (T 5 slices_S69632x8_S69632x1_0_5 slices_S8x1024x3584_S1x1024x3584_5_0_0 slices_S8x3584x1024_S1x3584x1024_5_0_0))
    (T 6 slices_S69632x8_S69632x1_0_6 slices_S8x1024x3584_S1x1024x3584_6_0_0 slices_S8x3584x1024_S1x3584x1024_6_0_0))
    (T 7 slices_S69632x8_S69632x1_0_7 slices_S8x1024x3584_S1x1024x3584_7_0_0 slices_S8x3584x1024_S1x3584x1024_7_0_0)

/-- It is the named expert's feed-forward on the rows of the used blocks and zero on the others. -/
theorem value_apply (x : FVec Ideal S69632x1024 .f32) (e : IVec S136 32) (u : IVec S1 32) (w1 w3 : FVec Ideal S8x1024x3584 .f32) (w2 : FVec Ideal S8x3584x1024 .f32)
    (h : Named e u) (r : Fin 69632) (j : Fin 1024) : value x e u w1 w3 w2 (ValueIdx.ix2 r j) = result x e u w1 w3 w2 r j := by
  let S (k : Fin 8) : EReal := swiglu (fun q => x (ValueIdx.ix2 r q)) (fun q f => w1 (ValueIdx.ix3 k q f)) (fun q f => w3 (ValueIdx.ix3 k q f)) (fun f => w2 (ValueIdx.ix3 k f j))
  have e0 : value x e u w1 w3 w2 (ValueIdx.ix2 r j) = 0 + routing e u (ValueIdx.ix2 r 0) * S 0 + routing e u (ValueIdx.ix2 r 1) * S 1 + routing e u (ValueIdx.ix2 r 2) * S 2
      + routing e u (ValueIdx.ix2 r 3) * S 3 + routing e u (ValueIdx.ix2 r 4) * S 4 + routing e u (ValueIdx.ix2 r 5) * S 5 + routing e u (ValueIdx.ix2 r 6) * S 6
      + routing e u (ValueIdx.ix2 r 7) * S 7 := by
    refine congrArg₂ (· + ·) (congrArg₂ (· + ·) (congrArg₂ (· + ·) (congrArg₂ (· + ·) (congrArg₂ (· + ·) (congrArg₂ (· + ·) (congrArg₂ (· + ·) (congrArg₂ (· + ·) Ideal.ofBits_zero_f32
      (term_apply 0 _ _ _ _ _ _ _ _ r j)) (term_apply 1 _ _ _ _ _ _ _ _ r j)) (term_apply 2 _ _ _ _ _ _ _ _ r j)) (term_apply 3 _ _ _ _ _ _ _ _ r j))
      (term_apply 4 _ _ _ _ _ _ _ _ r j)) (term_apply 5 _ _ _ _ _ _ _ _ r j)) (term_apply 6 _ _ _ _ _ _ _ _ r j)) (term_apply 7 _ _ _ _ _ _ _ _ r j)
  rw [e0]
  unfold result
  dsimp only
  by_cases hu : r.val / 512 < (u (ValueIdx.ix1 0)).toInt.toNat
  · rw [if_pos hu]
    refine sum_named ⟨(e (ValueIdx.ix1 (⟨r.val / 512, by have := r.isLt; omega⟩ : Fin 136))).toNat % 8, Nat.mod_lt _ (by decide)⟩ S (fun k => routing e u (ValueIdx.ix2 r k)) fun k => ?_
    rw [routing_apply, if_pos hu]
    have hm := Nat.mod_eq_of_lt (h.expert (ValueIdx.ix1 (⟨r.val / 512, by have := r.isLt; omega⟩ : Fin 136)))
    refine if_congr ?_ rfl rfl
    dsimp only
    omega
  · rw [if_neg hu]
    simp only [routing_apply, if_neg hu, zero_mul, add_zero]

open Idealize.ShloMosaic.StableHlo in
/-- The reference's run: its result array at `value`, every argument as launched. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v133) = value (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs (onTc (τ := τ) (main (F := Ideal))) _).mono (fun r h c => ⟨((h c).1).trans (by
    simp only [res_main_v88, res_main_v12, res_main_v21, res_main_v36, res_main_v51, res_main_v66, res_main_v81, res_main_v96, res_main_v111, res_main_v126]
    rfl), (h c).2⟩) (Cert.ReferenceIdeal.Value.run m ρ)

end Cert.ReferenceIdeal.Moe

end
-- ==== Proof.OutRow.lean ====
/- The end of the first layer for one row, as plain sums over the extended reals, and the operations of the kernel's body read as it: the
   normalised and gated heads, the output projection with its residual, the modulated norm, and the feed-forward in chunks. -/
module

public import proofs.«01_k».proof.Proof.Ffn
public import proofs.«01_k».proof.Proof.Gen.Kernel2Ideal.Skeleton

@[expose] public section

set_option maxRecDepth 16384

noncomputable section

namespace Cert.Kernel2Ideal.Out

open Cert.Kernel2Ideal Cert.Kernel2Ideal.Gen
open Idealize.ShloMosaic hiding ix1 ix2 ix3 ix4
open Cert.KernelIdeal.Moe (gate unit)
open ValueIdx (ix1 ix2 ix3 ix4)

open scoped BigOperators

/-! ## One row -/

/-- The factor a row is normalised by: one over the root of its mean square and the small constant. `d` is the word of its length. -/
def rmsFactor {n : ℕ} (d : BitVec 32) (x : Fin n → EReal) : EReal :=
  Ideal.rsqrt (Ideal.div (∑ q, x q * x q) (Ideal.ofBits .f32 d) + Ideal.ofBits .f32 0x358637BD#32)

/-- Channel `q` of the four heads' output: the head's row `o` normalised over its 128 channels, scaled by `w`, gated by `g`. -/
def head (o g : Fin 512 → EReal) (w : Fin 128 → EReal) (q : Fin 512) : EReal :=
  ((o q * rmsFactor 0x43000000#32 (fun k : Fin 128 => o ⟨128 * (q.val / 128) + k.val, by have := q.isLt; have := k.isLt; omega⟩))
    * w ⟨q.val % 128, Nat.mod_lt _ (by decide)⟩) * gate (g q)

/-- The mixed row: the Fourier half `y`, then the heads. -/
def mix (y o g : Fin 512 → EReal) (w : Fin 128 → EReal) (q : Fin 1024) : EReal :=
  if h : q.val < 512 then y ⟨q.val, h⟩ else head o g w ⟨q.val - 512, by have := q.isLt; omega⟩

/-- The residual after the output projection. -/
def resid (a : Fin 1024 → EReal) (wo : Fin 1024 → Fin 1024 → EReal) (x g1 : Fin 1024 → EReal) (j : Fin 1024) : EReal :=
  x j + g1 j * ∑ q, a q * wo q j

/-- The norm of the row, scaled and shifted. -/
def modul (x nw sh sc : Fin 1024 → EReal) (j : Fin 1024) : EReal :=
  (x j * rmsFactor 0x44800000#32 x) * (nw j * (Ideal.ofBits .f32 0x3F800000#32 + sc j)) + sh j

/-- The feed-forward of a row, one output. -/
def dense (h : Fin 1024 → EReal) (w1 w3 : Fin 1024 → Fin 2816 → EReal) (w2 : Fin 2816 → EReal) : EReal :=
  ∑ f, unit h (fun q => w1 q f) (fun q => w3 q f) * w2 f

/-- The layer's end: the residual `x` with the gated feed-forward of its modulated norm. -/
def layerEnd (x nw sh sc g2 : Fin 1024 → EReal) (w1 w3 : Fin 1024 → Fin 2816 → EReal) (w2 : Fin 2816 → Fin 1024 → EReal) (j : Fin 1024) : EReal :=
  x j + g2 j * dense (modul x nw sh sc) w1 w3 (fun f => w2 f j)

/-- A sum over the hidden axis is the sum of its eleven chunks of 256. -/
theorem sum_chunks (G : Fin 2816 → EReal) :
    ∑ n : Fin 11, ∑ k : Fin 256, G ⟨256 * n.val + k.val, by have := n.isLt; have := k.isLt; omega⟩ = ∑ f, G f := by
  rw [← Fintype.sum_prod_type']
  exact Fintype.sum_equiv (finProdFinEquiv (m := 11) (n := 256)) _ _ fun p => congrArg G (Fin.ext (Nat.add_comm _ _))

/-! ## The body's operations at an element -/

/-- The normalising factor of each row, spread over the row. -/
theorem rms_apply {n : ℕ} (d : BitVec 32) (x : FVec Ideal ⟨2, ![512, n]⟩ .f32) (hr : (⟨2, ![512, n]⟩ : Shape).Reduces [1] S512)
    (hb : S512x1.Broadcasts ⟨2, ![512, n]⟩) (i : Fin 512) (j : Fin n) :
    broadcastTo ⟨2, ![512, n]⟩ (rsqrt (addf (divf (shapeCast S512x1 (multiReduction .add [1] S512 (mulf x x) 0x00000000#32 hr (.inl rfl) rfl) shapeCasts_S512_S512x1)
      (broadcast S512x1 (Scalar.ofBits (F := Ideal) .f32 d))) (broadcast S512x1 (Scalar.ofBits (F := Ideal) .f32 0x358637BD#32)))) hb (ix2 i j)
      = rmsFactor d (fun q => x (ix2 i q)) := by
  refine (broadcastTo_apply _ _ _ (ix2 i (0 : Fin 1)) fun a => ?_).trans ?_
  · match a with
    | ⟨0, _⟩ => rfl
    | ⟨1, _⟩ => rfl
  · have e : shapeCast S512x1 (multiReduction .add [1] S512 (mulf x x) 0x00000000#32 hr (.inl rfl) rfl) shapeCasts_S512_S512x1 (ix2 i (0 : Fin 1))
        = ∑ q, x (ix2 i q) * x (ix2 i q) := by
      refine (shapeCast_apply _ _ _ (ix1 i) ?_).trans ?_
      · refine (Shape.rowMajor_val_one (ix1 i)).trans (Eq.trans ?_ (Shape.rowMajor_val_two (ix2 i (0 : Fin 1))).symm)
        show i.val = i.val * 1 + 0
        omega
      · refine (Ideal.multiReduction_add_single _ _ hr (.inl rfl) rfl (ix1 i)).trans (Finset.sum_congr rfl fun q _ => ?_)
        have : hr.lift (ix1 i) q = ix2 i q := by
          funext a
          match a with
          | ⟨0, _⟩ => rfl
          | ⟨1, _⟩ => rfl
        rw [this]; rfl
    unfold rmsFactor
    rw [← e]
    rfl

/-- One head of the body: columns `o` to `o + 127` of the heads' rows, normalised, scaled and gated. -/
def headBlk (o : ℕ) (h : S512x512.Slices ![0, o] S512x128) (a g : FVec Ideal S512x512 .f32) (w : Vec Ideal S1x128 .f32) : FVec Ideal S512x128 .f32 :=
  let s : FVec Ideal S512x128 .f32 := extractStridedSlice S512x128 ![0, o] a h
  mulf (mulf (mulf s (broadcastTo S512x128 (rsqrt (addf (divf (shapeCast S512x1 (multiReduction .add [1] S512 (mulf s s) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128))
    (broadcastTo S512x128 (shapeCast S1x128 w shapeCasts_S1x128_S1x128) broadcasts_S1x128_S512x128)) (extractStridedSlice S512x128 ![0, o] g h)

/-- A head at an element. -/
theorem headBlk_apply (n : Fin 4) (o : ℕ) (ho : o = 128 * n.val) (h : S512x512.Slices ![0, o] S512x128) (a g g' : FVec Ideal S512x512 .f32) (w : Vec Ideal S1x128 .f32)
    (hg : ∀ i q, g (ix2 i q) = gate (g' (ix2 i q))) (i : Fin 512) (l : Fin 128) (q : Fin 512) (hq : q.val = 128 * n.val + l.val) :
    headBlk o h a g w (ix2 i l) = head (fun k => a (ix2 i k)) (fun k => g' (ix2 i k)) (fun k => w (ix2 (0 : Fin 1) k)) q := by
  subst ho
  have hn := n.isLt
  have hl := l.isLt
  have hs (x : FVec Ideal S512x512 .f32) (k : Fin 128) : extractStridedSlice S512x128 ![0, 128 * n.val] x h (ix2 i k) = x (ix2 i ⟨128 * n.val + k.val, by have := k.isLt; omega⟩) :=
    ValueIdx.slice2_axis1_apply (128 * n.val) x h i k _ rfl
  have hq' : (⟨128 * n.val + l.val, by omega⟩ : Fin 512) = q := Fin.ext hq.symm
  have hd : q.val / 128 = n.val := by omega
  have hm : q.val % 128 = l.val := by omega
  unfold head headBlk
  refine congrArg₂ (· * ·) (congrArg₂ (· * ·) (congrArg₂ (· * ·) ?_ ?_) ?_) ?_
  · rw [hs, hq']
  · refine (rms_apply _ _ _ _ i l).trans (congrArg _ (funext fun k => ?_))
    rw [hs]
    exact congrArg (fun z => a (ix2 i z)) (Fin.ext (by show 128 * n.val + k.val = 128 * (q.val / 128) + k.val; rw [hd]))
  · rw [shapeCast_id]
    refine (ValueIdx.broadcastTo_1b_ab_apply _ _ i l).trans (congrArg (fun z => w (ix2 (0 : Fin 1) z)) (Fin.ext hm.symm))
  · rw [hs, hq', hg]

/-- The gate of the body's heads. -/
theorem pay7_apply (g : Vec Ideal S1x512x512 .bf16) (i q : Fin 512) : k0_pay7 g (ix2 i q) = gate (g (ix3 (0 : Fin 1) i q)) := by
  unfold k0_pay7 gate
  rw [← zero_sub, ← Ideal.ofBits_zero_f32, ← ValueIdx.shapeCast_1ab_ab_apply g shapeCasts_S1x512x512_S512x512 i q]
  rfl
/-- The heads' rows: the two directions added. -/
theorem pay6_apply (a b : Vec Ideal S1x512x512 .bf16) (i q : Fin 512) : k0_pay6 a b (ix2 i q) = (a (ix3 (0 : Fin 1) i q) + b (ix3 (0 : Fin 1) i q) : EReal) := by
  unfold k0_pay6
  rw [← ValueIdx.shapeCast_1ab_ab_apply a shapeCasts_S1x512x512_S512x512 i q, ← ValueIdx.shapeCast_1ab_ab_apply b shapeCasts_S1x512x512_S512x512 i q]
  rfl

/-- The eight runs of 64 rows of a channel group, stacked. -/
theorem pay8_apply (v : Fin 8 → Vec Ideal S1x1x64x128 .f32) (i : Fin 512) (l : Fin 128) :
    k0_pay8 (v 0) (v 1) (v 2) (v 3) (v 4) (v 5) (v 6) (v 7) (ix2 i l)
      = v ⟨i.val / 64, by have := i.isLt; omega⟩ (ix4 (0 : Fin 1) (0 : Fin 1) ⟨i.val % 64, Nat.mod_lt _ (by decide)⟩ l) := by
  let f : Fin 8 → (S64x128.Idx → Ideal .f32) := fun s => shapeCast S64x128 (v s) shapeCasts_S1x1x64x128_S64x128
  have hi := i.isLt
  have k := concatenate_ofFn_apply (t := S512x128) (s₁ := S64x128) 0 f
    concatenates_S64x128_S64x128_S64x128_S64x128_S64x128_S64x128_S64x128_S64x128_S512x128_d0 rfl 64 rfl (ix2 i l) ⟨i.val / 64, by omega⟩ rfl
    (ix2 ⟨i.val % 64, Nat.mod_lt _ (by decide)⟩ l) rfl (fun b hb => by
      match b with
      | ⟨0, _⟩ => exact absurd rfl hb
      | ⟨1, _⟩ => rfl)
  refine Eq.trans (b := concatenate S512x128 0 (List.ofFn fun n : Fin 8 => (⟨S64x128, f n⟩ : (s : Shape) × (s.Idx → Ideal .f32)))
    concatenates_S64x128_S64x128_S64x128_S64x128_S64x128_S64x128_S64x128_S64x128_S512x128_d0 (ix2 i l)) rfl (k.trans ?_)
  refine shapeCast_apply _ _ _ _ ?_
  refine (Shape.rowMajor_val_four _).trans (Eq.trans ?_ (Shape.rowMajor_val_two _).symm)
  show ((0 * 1 + 0) * 64 + i.val % 64) * 128 + l.val = i.val % 64 * 128 + l.val
  omega

theorem dot_out_plain : dot_S512x1024_S1024x1024_S512x1024_1_0_0_1_n_n = DotDims.plain 512 1024 1024 := rfl
theorem dot_up_plain : dot_S512x1024_S1024x256_S512x256_1_0_0_1_n_n = DotDims.plain 512 1024 256 := rfl
theorem dot_down_plain : dot_S512x256_S256x1024_S512x1024_1_0_0_1_n_n = DotDims.plain 512 256 1024 := rfl

/-- The output projection of the eight groups of 128 channels side by side. -/
def mixedBlk (v : Fin 8 → FVec Ideal S512x128 .f32) (w : FVec Ideal S1024x1024 .bf16) : FVec Ideal S512x1024 .f32 :=
  matmul dot_S512x1024_S1024x1024_S512x1024_1_0_0_1_n_n none
    (truncf .bf16 (concatenate S512x1024 1 [⟨S512x128, v 0⟩, ⟨S512x128, v 1⟩, ⟨S512x128, v 2⟩, ⟨S512x128, v 3⟩, ⟨S512x128, v 4⟩, ⟨S512x128, v 5⟩, ⟨S512x128, v 6⟩, ⟨S512x128, v 7⟩]
      concatenates_S512x128_S512x128_S512x128_S512x128_S512x128_S512x128_S512x128_S512x128_S512x1024_d1) bitsLt_bf16_f32)
    (shapeCast S1024x1024 w shapeCasts_S1024x1024_S1024x1024) (constant S512x1024 .f32 0x00000000#32)

theorem mixedBlk_apply (v : Fin 8 → FVec Ideal S512x128 .f32) (w : FVec Ideal S1024x1024 .bf16) (i : Fin 512) (j : Fin 1024) :
    mixedBlk v w (ix2 i j) = ∑ q : Fin 1024, v ⟨q.val / 128, by have := q.isLt; omega⟩ (ix2 i ⟨q.val % 128, Nat.mod_lt _ (by decide)⟩) * w (ix2 q j) := by
  unfold mixedBlk
  rw [dot_out_plain, shapeCast_id]
  refine (Ideal.matmul_plain_apply none _ _ _ i j).trans ?_
  rw [show constant (F := Ideal) S512x1024 .f32 0x00000000#32 (ix2 i j) = 0 from Ideal.ofBits_zero_f32, zero_add]
  refine Finset.sum_congr rfl fun q _ => congrArg (· * _) ?_
  have hq := q.isLt
  have k := concatenate_ofFn_apply (t := S512x1024) (s₁ := S512x128) 1 v
    concatenates_S512x128_S512x128_S512x128_S512x128_S512x128_S512x128_S512x128_S512x128_S512x1024_d1 rfl 128 rfl (ix2 i q) ⟨q.val / 128, by omega⟩ rfl
    (ix2 i ⟨q.val % 128, Nat.mod_lt _ (by decide)⟩) rfl (fun b hb => by
      match b with
      | ⟨0, _⟩ => rfl
      | ⟨1, _⟩ => exact absurd rfl hb)
  exact Eq.trans (b := concatenate S512x1024 1 (List.ofFn fun n : Fin 8 => (⟨S512x128, v n⟩ : (s : Shape) × (s.Idx → Ideal .f32)))
    concatenates_S512x128_S512x128_S512x128_S512x128_S512x128_S512x128_S512x128_S512x128_S512x1024_d1 (ix2 i q)) rfl k

/-- A `[1, 1, n]` row spread over the block's rows. -/
theorem row_apply (g : Vec Ideal S1x1x1024 .f32) (i : Fin 512) (j : Fin 1024) :
    broadcastTo S512x1024 (shapeCast S1x1024 g shapeCasts_S1x1x1024_S1x1024) broadcasts_S1x1024_S512x1024 (ix2 i j) = g (ix3 (0 : Fin 1) (0 : Fin 1) j) :=
  (ValueIdx.broadcastTo_1b_ab_apply _ _ i j).trans (ValueIdx.shapeCast_1ab_ab_apply _ _ _ _)

/-- The residual of the block at an element. -/
theorem pay27_apply (a x : FVec Ideal S512x1024 .f32) (g : Vec Ideal S1x1x1024 .f32) (i : Fin 512) (j : Fin 1024) :
    k0_pay27 a x g (ix2 i j) = (x (ix2 i j) + g (ix3 (0 : Fin 1) (0 : Fin 1) j) * a (ix2 i j) : EReal) := by
  unfold k0_pay27
  rw [← row_apply g i j]
  rfl

/-- The modulated norm of the block at an element. -/
theorem pay28_apply (a x : FVec Ideal S512x1024 .f32) (g : Vec Ideal S1x1x1024 .f32) (nw : Vec Ideal S1x1024 .f32) (sc sh : Vec Ideal S1x1x1024 .f32) (i : Fin 512) (j : Fin 1024) :
    k0_pay28 a x g nw sc sh (ix2 i j)
      = modul (fun q => k0_pay27 a x g (ix2 i q)) (fun q => nw (ix2 (0 : Fin 1) q)) (fun q => sh (ix3 (0 : Fin 1) (0 : Fin 1) q)) (fun q => sc (ix3 (0 : Fin 1) (0 : Fin 1) q)) j := by
  unfold k0_pay28 modul
  refine congrArg₂ (· + ·) (congrArg₂ (· * ·) (congrArg₂ (· * ·) rfl (rms_apply _ _ _ _ i j)) ?_) (row_apply sh i j)
  refine (ValueIdx.broadcastTo_1b_ab_apply _ _ i j).trans ?_
  rw [shapeCast_id]
  exact congrArg (_ * ·) (congrArg (_ + ·) (ValueIdx.shapeCast_1ab_ab_apply _ _ _ _))

/-- A product of the block with a slab of an input projection, at an element. -/
theorem proj_apply (h : FVec Ideal S512x1024 .bf16) (w : FVec Ideal S1024x256 .bf16) (i : Fin 512) (k : Fin 256) :
    matmul dot_S512x1024_S1024x256_S512x256_1_0_0_1_n_n none h (shapeCast S1024x256 w shapeCasts_S1024x256_S1024x256) (constant S512x256 .f32 0x00000000#32) (ix2 i k)
      = ∑ q : Fin 1024, h (ix2 i q) * w (ix2 q k) := by
  rw [dot_up_plain, shapeCast_id]
  refine (Ideal.matmul_plain_apply none _ _ _ i k).trans ?_
  rw [show constant (F := Ideal) S512x256 .f32 0x00000000#32 (ix2 i k) = 0 from Ideal.ofBits_zero_f32, zero_add]

/-- One chunk's share of the block's feed-forward, at an element. -/
theorem pay54_apply (h : FVec Ideal S512x1024 .bf16) (w1 w3 : FVec Ideal S1024x256 .bf16) (w2 : FVec Ideal S256x1024 .bf16) (i : Fin 512) (j : Fin 1024) :
    k0_pay54 h w1 w3 w2 (ix2 i j)
      = ∑ k : Fin 256, unit (fun q => h (ix2 i q)) (fun q => w1 (ix2 q k)) (fun q => w3 (ix2 q k)) * w2 (ix2 k j) := by
  unfold k0_pay54
  rw [dot_down_plain]
  refine (Ideal.matmul_plain_apply none _ _ _ i j).trans ?_
  rw [show constant (F := Ideal) S512x1024 .f32 0x00000000#32 (ix2 i j) = 0 from Ideal.ofBits_zero_f32, zero_add]
  refine Finset.sum_congr rfl fun k _ => congrArg₂ (· * ·) ?_ (congrFun (shapeCast_id _ _) _)
  unfold unit
  rw [← proj_apply h w1, ← proj_apply h w3]
  unfold gate
  rw [← zero_sub, ← Ideal.ofBits_zero_f32]
  rfl

/-- The block the body stores, at an element. -/
theorem pay2_apply (x : FVec Ideal S512x1024 .f32) (g : Vec Ideal S1x1x1024 .f32) (a : Vec Ideal S512x1024 .f32) (i : Fin 512) (j : Fin 1024) :
    k0_pay2 x g a (ix3 (0 : Fin 1) i j) = (x (ix2 i j) + g (ix3 (0 : Fin 1) (0 : Fin 1) j) * a (ix2 i j) : EReal) := by
  unfold k0_pay2
  refine (ValueIdx.shapeCast_ab_1ab_apply _ _ _ i j).trans ?_
  rw [← row_apply g i j]
  rfl

end Cert.Kernel2Ideal.Out

end
-- ==== Proof.OutBlock.lean ====
/- What one run of the body leaves in its four outputs' blocks: the layer's end for the block's 512 rows, and the three weight slabs cast.
   Stated over the extended reals. -/
module

public import proofs.«01_k».proof.Proof.OutRow
public import proofs.«01_k».proof.Proof.Gen.Kernel2Ideal.Frame
public import Idealize.ShloMosaic.Lib.WholeRead
public import Idealize.ShloMosaic.Lib.VecWindow

@[expose] public section

set_option maxRecDepth 16384

noncomputable section

namespace Cert.Kernel2Ideal.Out

open Cert.Kernel2Ideal Cert.Kernel2Ideal.Gen
open Idealize.ShloMosaic hiding ix1 ix2 ix3 ix4
open Cert.KernelIdeal.Moe (gate unit)
open ValueIdx (ix1 ix2 ix3 ix4)

/-! ## The block as a function of the input blocks -/

/-- Run `a` of 64 rows of channel group `n` of the Fourier half. -/
def run64 (x : Vec Ideal S1x4x576x128 .f32) (n : Fin 4) (a : Fin 8) : Vec Ideal S1x1x64x128 .f32 := fun j =>
  x (ix4 (0 : Fin 1) n ⟨72 * a.val + (j 2).val, by have := a.isLt; have : (j 2).val < 64 := (j 2).isLt; omega⟩ (j 3))

/-- Channel group `n` of the Fourier half. -/
def plane (x : Vec Ideal S1x4x576x128 .f32) (n : Fin 4) : FVec Ideal S512x128 .f32 :=
  k0_pay8 (run64 x n 0) (run64 x n 1) (run64 x n 2) (run64 x n 3) (run64 x n 4) (run64 x n 5) (run64 x n 6) (run64 x n 7)

/-- The eight channel groups of the mixed rows: four of the Fourier half, four heads. -/
def parts (x0 : Vec Ideal S1x4x576x128 .f32) (x1 x2 x3 : Vec Ideal S1x512x512 .bf16) (x5 : Vec Ideal S1x128 .f32) : Fin 8 → FVec Ideal S512x128 .f32 :=
  ![plane x0 0, plane x0 1, plane x0 2, plane x0 3,
    headBlk 0 slices_S512x512_o0_0_S512x128 (k0_pay6 x1 x2) (k0_pay7 x3) x5, headBlk 128 slices_S512x512_o0_128_S512x128 (k0_pay6 x1 x2) (k0_pay7 x3) x5,
    headBlk 256 slices_S512x512_o0_256_S512x128 (k0_pay6 x1 x2) (k0_pay7 x3) x5, headBlk 384 slices_S512x512_o0_384_S512x128 (k0_pay6 x1 x2) (k0_pay7 x3) x5]

/-- Columns `o` to `o + 255` of an input projection. -/
def colBlk (x : Vec Ideal S1024x2816 .bf16) (o : ℕ) (h : ∀ a, (![0, o] : Fin 2 → ℕ) a + S1024x256.size a ≤ S1024x2816.size a) : Vec Ideal S1024x256 .bf16 :=
  fun j => x ((Rect.unit (s := S1024x2816) ![0, o] S1024x256.size h).toLoadRect.idx j)
/-- Rows `o` to `o + 255` of the output projection. -/
def rowBlk (x : Vec Ideal S2816x1024 .bf16) (o : ℕ) (h : ∀ a, (![o, 0] : Fin 2 → ℕ) a + S256x1024.size a ≤ S2816x1024.size a) : Vec Ideal S256x1024 .bf16 :=
  fun j => x ((Rect.unit (s := S2816x1024) ![o, 0] S256x1024.size h).toLoadRect.idx j)

/-- One chunk's share of the feed-forward. -/
def chunk (h : FVec Ideal S512x1024 .bf16) (x1 x2 : Vec Ideal S1024x2816 .bf16) (x3 : Vec Ideal S2816x1024 .bf16) (o : ℕ)
    (hc : ∀ a, (![0, o] : Fin 2 → ℕ) a + S1024x256.size a ≤ S1024x2816.size a)
    (hr : ∀ a, (![o, 0] : Fin 2 → ℕ) a + S256x1024.size a ≤ S2816x1024.size a) : FVec Ideal S512x1024 .f32 :=
  k0_pay54 h (colBlk x1 o hc) (colBlk x2 o hc) (rowBlk x3 o hr)

/-- The eleven chunks added up. -/
def total (h : FVec Ideal S512x1024 .bf16) (x1 x2 : Vec Ideal S1024x2816 .bf16) (x3 : Vec Ideal S2816x1024 .bf16) : FVec Ideal S512x1024 .f32 :=
  addf (addf (addf (addf (addf (addf (addf (addf (addf (addf
    (chunk h x1 x2 x3 0 inb_S1024x2816_S1024x256_0_0 inb_S2816x1024_S256x1024_0_0)
    (chunk h x1 x2 x3 256 inb_S1024x2816_S1024x256_0_256 inb_S2816x1024_S256x1024_256_0))
    (chunk h x1 x2 x3 512 inb_S1024x2816_S1024x256_0_512 inb_S2816x1024_S256x1024_512_0))
    (chunk h x1 x2 x3 768 inb_S1024x2816_S1024x256_0_768 inb_S2816x1024_S256x1024_768_0))
    (chunk h x1 x2 x3 1024 inb_S1024x2816_S1024x256_0_1024 inb_S2816x1024_S256x1024_1024_0))
    (chunk h x1 x2 x3 1280 inb_S1024x2816_S1024x256_0_1280 inb_S2816x1024_S256x1024_1280_0))
    (chunk h x1 x2 x3 1536 inb_S1024x2816_S1024x256_0_1536 inb_S2816x1024_S256x1024_1536_0))
    (chunk h x1 x2 x3 1792 inb_S1024x2816_S1024x256_0_1792 inb_S2816x1024_S256x1024_1792_0))
    (chunk h x1 x2 x3 2048 inb_S1024x2816_S1024x256_0_2048 inb_S2816x1024_S256x1024_2048_0))
    (chunk h x1 x2 x3 2304 inb_S1024x2816_S1024x256_0_2304 inb_S2816x1024_S256x1024_2304_0))
    (chunk h x1 x2 x3 2560 inb_S1024x2816_S1024x256_0_2560 inb_S2816x1024_S256x1024_2560_0)

/-- The residual of the block, -/
def residBlk (x0 : Vec Ideal S1x4x576x128 .f32) (x1 x2 x3 : Vec Ideal S1x512x512 .bf16) (x4 : Vec Ideal S1x512x1024 .f32) (x5 : Vec Ideal S1x128 .f32)
    (x6 : Vec Ideal S1024x1024 .bf16) (x7 : Vec Ideal S1x1x1024 .f32) : FVec Ideal S512x1024 .f32 :=
  k0_pay27 (mixedBlk (parts x0 x1 x2 x3 x5) x6) (k0_pay26 x4) x7
/-- its modulated norm, -/
def modBlk (x0 : Vec Ideal S1x4x576x128 .f32) (x1 x2 x3 : Vec Ideal S1x512x512 .bf16) (x4 : Vec Ideal S1x512x1024 .f32) (x5 : Vec Ideal S1x128 .f32)
    (x6 : Vec Ideal S1024x1024 .bf16) (x7 : Vec Ideal S1x1x1024 .f32) (x8 : Vec Ideal S1x1024 .f32) (x9 x10 : Vec Ideal S1x1x1024 .f32) : FVec Ideal S512x1024 .bf16 :=
  k0_pay28 (mixedBlk (parts x0 x1 x2 x3 x5) x6) (k0_pay26 x4) x7 x8 x10 x9

/-! ## The body's spellings of a chunk, all the same function -/

theorem pay32_eq (a b : FVec Ideal S512x1024 .f32) (d : Vec Ideal S1x1x1024 .f32) (e : Vec Ideal S1x1024 .f32) (f g : Vec Ideal S1x1x1024 .f32)
    (w1 w3 : Vec Ideal S1024x256 .bf16) (w2 : Vec Ideal S256x1024 .bf16) :
    k0_pay32 (k0_pay29 a b d e f g w1) (k0_pay30 a b d e f g w3) (k0_pay31 a b d e f g w1) kernelRun0_A.sl.cst_189 w2 = k0_pay54 (k0_pay28 a b d e f g) w1 w3 w2 := by
  unfold k0_pay32 k0_pay31 k0_pay30 k0_pay29 k0_pay54; exact shapeCast_id _ _
theorem pay33_eq (h : FVec Ideal S512x1024 .bf16) (w1 w3 : Vec Ideal S1024x256 .bf16) (w2 : Vec Ideal S256x1024 .bf16) (a : Vec Ideal S512x1024 .f32) :
    k0_pay33 h w1 w3 w2 a = addf a (k0_pay54 h w1 w3 w2) := by unfold k0_pay33  k0_pay54; exact shapeCast_id _ _
theorem pay34_eq (h : FVec Ideal S512x1024 .bf16) (w1 w3 : Vec Ideal S1024x256 .bf16) (w2 : Vec Ideal S256x1024 .bf16) (a : Vec Ideal S512x1024 .f32) :
    k0_pay34 h w1 w3 w2 a = addf a (k0_pay54 h w1 w3 w2) := by unfold k0_pay34  k0_pay54; exact shapeCast_id _ _
theorem pay39_eq (h : FVec Ideal S512x1024 .bf16) (w1 w3 : Vec Ideal S1024x256 .bf16) (w2 : Vec Ideal S256x1024 .bf16) (a : Vec Ideal S512x1024 .f32) :
    k0_pay39 (k0_pay35 h w1) (k0_pay36 h w3) (k0_pay37 h w1) k0_pay38 w2 a = addf a (k0_pay54 h w1 w3 w2) := by unfold k0_pay39 k0_pay38 k0_pay37 k0_pay36 k0_pay35 k0_pay54; exact shapeCast_id _ _
theorem pay40_eq (h : FVec Ideal S512x1024 .bf16) (w1 w3 : Vec Ideal S1024x256 .bf16) (w2 : Vec Ideal S256x1024 .bf16) (a : Vec Ideal S512x1024 .f32) :
    k0_pay40 h w1 w3 w2 a = addf a (k0_pay54 h w1 w3 w2) := by unfold k0_pay40  k0_pay54; exact shapeCast_id _ _
theorem pay41_eq (h : FVec Ideal S512x1024 .bf16) (w1 w3 : Vec Ideal S1024x256 .bf16) (w2 : Vec Ideal S256x1024 .bf16) (a : Vec Ideal S512x1024 .f32) :
    k0_pay41 h w1 w3 w2 a = addf a (k0_pay54 h w1 w3 w2) := by unfold k0_pay41  k0_pay54; exact shapeCast_id _ _
theorem pay46_eq (h : FVec Ideal S512x1024 .bf16) (w1 w3 : Vec Ideal S1024x256 .bf16) (w2 : Vec Ideal S256x1024 .bf16) (a : Vec Ideal S512x1024 .f32) :
    k0_pay46 (k0_pay42 h w1) (k0_pay43 h w3) (k0_pay44 h w1) k0_pay45 w2 a = addf a (k0_pay54 h w1 w3 w2) := by unfold k0_pay46 k0_pay45 k0_pay44 k0_pay43 k0_pay42 k0_pay54; exact shapeCast_id _ _
theorem pay48_eq (h : FVec Ideal S512x1024 .bf16) (w1 w3 : Vec Ideal S1024x256 .bf16) (w2 : Vec Ideal S256x1024 .bf16) (a : Vec Ideal S512x1024 .f32) :
    k0_pay48 (k0_pay47 h w1 w3 w2 a) = addf a (k0_pay54 h w1 w3 w2) := by unfold k0_pay48 k0_pay47 k0_pay54; exact shapeCast_id _ _
theorem pay49_eq (h : FVec Ideal S512x1024 .bf16) (w1 w3 : Vec Ideal S1024x256 .bf16) (w2 : Vec Ideal S256x1024 .bf16) (a : Vec Ideal S512x1024 .f32) :
    k0_pay49 h w1 w3 w2 a = addf a (k0_pay54 h w1 w3 w2) := by unfold k0_pay49  k0_pay54; exact shapeCast_id _ _
theorem pay53_eq (h : FVec Ideal S512x1024 .bf16) (w1 w3 : Vec Ideal S1024x256 .bf16) (w2 : Vec Ideal S256x1024 .bf16) (a : Vec Ideal S512x1024 .f32) :
    k0_pay53 (k0_pay50 h w1) (k0_pay51 h w3) (k0_pay52 h w1) w2 a = addf a (k0_pay54 h w1 w3 w2) := by unfold k0_pay53 k0_pay52 k0_pay51 k0_pay50 k0_pay54; exact shapeCast_id _ _
theorem pay1_eq (h : FVec Ideal S512x1024 .bf16) (w1 w3 : Vec Ideal S1024x256 .bf16) (w2 : Vec Ideal S256x1024 .bf16) (a : Vec Ideal S512x1024 .f32) :
    k0_pay1 (k0_pay54 h w1 w3 w2) a = addf a (k0_pay54 h w1 w3 w2) := by unfold k0_pay1  k0_pay54; exact shapeCast_id _ _

section After
variable (c : Dev nD) (i : grid0.Coords)
  (arg2 : Memref sig .tc .vmem S1x4x576x128 .f32) (harg2 : arg2.IsWhole) (arg3 : Memref sig .tc .vmem S1x512x512 .bf16) (harg3 : arg3.IsWhole) (arg4 : Memref sig .tc .vmem S1x512x512 .bf16) (harg4 : arg4.IsWhole)
  (arg5 : Memref sig .tc .vmem S1x512x512 .bf16) (harg5 : arg5.IsWhole) (arg6 : Memref sig .tc .vmem S1x512x1024 .f32) (harg6 : arg6.IsWhole) (arg7 : Memref sig .tc .vmem S1x128 .f32) (harg7 : arg7.IsWhole)
  (arg8 : Memref sig .tc .vmem S1024x1024 .bf16) (harg8 : arg8.IsWhole) (arg9 : Memref sig .tc .vmem S1x1x1024 .f32) (harg9 : arg9.IsWhole) (arg10 : Memref sig .tc .vmem S1x1024 .f32) (harg10 : arg10.IsWhole)
  (arg11 : Memref sig .tc .vmem S1x1x1024 .f32) (harg11 : arg11.IsWhole) (arg12 : Memref sig .tc .vmem S1x1x1024 .f32) (harg12 : arg12.IsWhole) (arg13 : Memref sig .tc .vmem S1x1x1024 .f32) (harg13 : arg13.IsWhole)
  (arg14 : Memref sig .tc .vmem S1024x2816 .bf16) (harg14 : arg14.IsWhole) (arg15 : Memref sig .tc .vmem S1024x2816 .bf16) (harg15 : arg15.IsWhole) (arg16 : Memref sig .tc .vmem S2816x1024 .bf16) (harg16 : arg16.IsWhole)
  (arg17 : Memref sig .tc .vmem S128x3584 .f32) (harg17 : arg17.IsWhole) (arg18 : Memref sig .tc .vmem S128x3584 .f32) (harg18 : arg18.IsWhole) (arg19 : Memref sig .tc .vmem S448x1024 .f32) (harg19 : arg19.IsWhole)
  (arg20 : Memref sig .tc .vmem S1x512x1024 .f32) (harg20 : arg20.IsWhole) (arg21 : Memref sig .tc .vmem S128x3584 .bf16) (harg21 : arg21.IsWhole) (arg22 : Memref sig .tc .vmem S128x3584 .bf16) (harg22 : arg22.IsWhole)
  (arg23 : Memref sig .tc .vmem S448x1024 .bf16) (harg23 : arg23.IsWhole) (arg24 : Memref sig .tc .vmem S512x1024 .f32) (harg24 : arg24.IsWhole)
  (x0 : Vec Ideal S1x4x576x128 .f32) (x1 : Vec Ideal S1x512x512 .bf16) (x2 : Vec Ideal S1x512x512 .bf16) (x3 : Vec Ideal S1x512x512 .bf16) (x4 : Vec Ideal S1x512x1024 .f32) (x5 : Vec Ideal S1x128 .f32)
  (x6 : Vec Ideal S1024x1024 .bf16) (x7 : Vec Ideal S1x1x1024 .f32) (x8 : Vec Ideal S1x1024 .f32) (x9 : Vec Ideal S1x1x1024 .f32) (x10 : Vec Ideal S1x1x1024 .f32) (x11 : Vec Ideal S1x1x1024 .f32)
  (x12 : Vec Ideal S1024x2816 .bf16) (x13 : Vec Ideal S1024x2816 .bf16) (x14 : Vec Ideal S2816x1024 .bf16) (x15 : Vec Ideal S128x3584 .f32) (x16 : Vec Ideal S128x3584 .f32) (x17 : Vec Ideal S448x1024 .f32)

/-- A load of columns of an input projection, -/
theorem ld_col (a : Memref sig .tc .vmem S1024x2816 .bf16) (ha : a.IsWhole) (x : Vec Ideal S1024x2816 .bf16) (o : ℕ)
    (h : ∀ b, (![0, o] : Fin 2 → ℕ) b + S1024x256.size b ≤ S1024x2816.size b) :
    View.readAt (Elt Ideal) a.view (Rect.unit (s := S1024x2816) ![0, o] S1024x256.size h).toLoadRect (ha.unread x) = colBlk x o h :=
  funext fun j => ha.readAt_unread x _ j
/-- of rows of the output projection, -/
theorem ld_row (a : Memref sig .tc .vmem S2816x1024 .bf16) (ha : a.IsWhole) (x : Vec Ideal S2816x1024 .bf16) (o : ℕ)
    (h : ∀ b, (![o, 0] : Fin 2 → ℕ) b + S256x1024.size b ≤ S2816x1024.size b) :
    View.readAt (Elt Ideal) a.view (Rect.unit (s := S2816x1024) ![o, 0] S256x1024.size h).toLoadRect (ha.unread x) = rowBlk x o h :=
  funext fun j => ha.readAt_unread x _ j
/-- of 64 rows of a channel group, -/
theorem ld_run (x : Vec Ideal S1x4x576x128 .f32) (n : Fin 4) (a : Fin 8) (o p : ℕ) (hn : o = n.val) (hp : p = 72 * a.val)
    (h : ∀ b, (![0, o, p, 0] : Fin 4 → ℕ) b + S1x1x64x128.size b ≤ S1x4x576x128.size b) :
    View.readAt (Elt Ideal) arg2.view (Rect.unit (s := S1x4x576x128) ![0, o, p, 0] S1x1x64x128.size h).toLoadRect (harg2.unread x) = run64 x n a := by
  subst hn hp
  refine funext fun j => (harg2.readAt_unread x _ j).trans (congrArg x (funext fun b => Fin.ext ?_))
  have h0 : (j 0).val < 1 := (j 0).isLt
  have h1 : (j 1).val < 1 := (j 1).isLt
  match b with
  | ⟨0, _⟩ => show 0 + 1 * (j 0).val = 0; omega
  | ⟨1, _⟩ => show n.val + 1 * (j 1).val = n.val; omega
  | ⟨2, _⟩ => show 72 * a.val + 1 * (j 2).val = 72 * a.val + (j 2).val; omega
  | ⟨3, _⟩ => show 0 + 1 * (j 3).val = (j 3).val; omega
/-- and of a whole block. -/
theorem ld_full {s : Shape} {e : EltTy} (a : Memref sig .tc .vmem s e) (ha : a.IsWhole) (x : Vec Ideal s e) {off : Fin s.rank → ℕ} (h : ∀ b, off b + s.size b ≤ s.size b) :
    View.readAt (Elt Ideal) a.view (Rect.unit off s.size h).toLoadRect (ha.unread x) = x :=
  (View.readAt_full _ _ _).trans (ha.read_unread x)

/-- The four channel groups, from their runs of 64 rows. -/
theorem plane_eq : kernelRun0_A.sl.r_2 c arg2 harg2 x0 = plane x0 0 ∧ kernelRun0_A.sl.r_5 c arg2 harg2 x0 = plane x0 1
    ∧ kernelRun0_A.sl.r_10 c arg2 harg2 x0 = plane x0 2 ∧ kernelRun0_A.sl.r_16 c arg2 harg2 x0 = plane x0 3 := by
  have e := ld_run arg2 harg2 x0
  refine ⟨?_, ?_, ?_, ?_⟩
  · unfold plane
    rw [← e 0 0 0 0 rfl rfl inb_S1x4x576x128_S1x1x64x128_0_0_0_0, ← e 0 1 0 72 rfl rfl inb_S1x4x576x128_S1x1x64x128_0_0_72_0, ← e 0 2 0 144 rfl rfl inb_S1x4x576x128_S1x1x64x128_0_0_144_0, ← e 0 3 0 216 rfl rfl inb_S1x4x576x128_S1x1x64x128_0_0_216_0, ← e 0 4 0 288 rfl rfl inb_S1x4x576x128_S1x1x64x128_0_0_288_0, ← e 0 5 0 360 rfl rfl inb_S1x4x576x128_S1x1x64x128_0_0_360_0, ← e 0 6 0 432 rfl rfl inb_S1x4x576x128_S1x1x64x128_0_0_432_0, ← e 0 7 0 504 rfl rfl inb_S1x4x576x128_S1x1x64x128_0_0_504_0]
    rfl
  · unfold plane
    rw [← e 1 0 1 0 rfl rfl inb_S1x4x576x128_S1x1x64x128_0_1_0_0, ← e 1 1 1 72 rfl rfl inb_S1x4x576x128_S1x1x64x128_0_1_72_0, ← e 1 2 1 144 rfl rfl inb_S1x4x576x128_S1x1x64x128_0_1_144_0, ← e 1 3 1 216 rfl rfl inb_S1x4x576x128_S1x1x64x128_0_1_216_0, ← e 1 4 1 288 rfl rfl inb_S1x4x576x128_S1x1x64x128_0_1_288_0, ← e 1 5 1 360 rfl rfl inb_S1x4x576x128_S1x1x64x128_0_1_360_0, ← e 1 6 1 432 rfl rfl inb_S1x4x576x128_S1x1x64x128_0_1_432_0, ← e 1 7 1 504 rfl rfl inb_S1x4x576x128_S1x1x64x128_0_1_504_0]
    rfl
  · unfold plane
    rw [← e 2 0 2 0 rfl rfl inb_S1x4x576x128_S1x1x64x128_0_2_0_0, ← e 2 1 2 72 rfl rfl inb_S1x4x576x128_S1x1x64x128_0_2_72_0, ← e 2 2 2 144 rfl rfl inb_S1x4x576x128_S1x1x64x128_0_2_144_0, ← e 2 3 2 216 rfl rfl inb_S1x4x576x128_S1x1x64x128_0_2_216_0, ← e 2 4 2 288 rfl rfl inb_S1x4x576x128_S1x1x64x128_0_2_288_0, ← e 2 5 2 360 rfl rfl inb_S1x4x576x128_S1x1x64x128_0_2_360_0, ← e 2 6 2 432 rfl rfl inb_S1x4x576x128_S1x1x64x128_0_2_432_0, ← e 2 7 2 504 rfl rfl inb_S1x4x576x128_S1x1x64x128_0_2_504_0]
    rfl
  · unfold plane
    rw [← e 3 0 3 0 rfl rfl inb_S1x4x576x128_S1x1x64x128_0_3_0_0, ← e 3 1 3 72 rfl rfl inb_S1x4x576x128_S1x1x64x128_0_3_72_0, ← e 3 2 3 144 rfl rfl inb_S1x4x576x128_S1x1x64x128_0_3_144_0, ← e 3 3 3 216 rfl rfl inb_S1x4x576x128_S1x1x64x128_0_3_216_0, ← e 3 4 3 288 rfl rfl inb_S1x4x576x128_S1x1x64x128_0_3_288_0, ← e 3 5 3 360 rfl rfl inb_S1x4x576x128_S1x1x64x128_0_3_360_0, ← e 3 6 3 432 rfl rfl inb_S1x4x576x128_S1x1x64x128_0_3_432_0, ← e 3 7 3 504 rfl rfl inb_S1x4x576x128_S1x1x64x128_0_3_504_0]
    rfl

/-- The block's output projection, -/
theorem r20_eq : kernelRun0_A.sl.r_20 c arg2 harg2 arg3 harg3 arg4 harg4 arg5 harg5 arg7 harg7 arg8 harg8 x0 x1 x2 x3 x5 x6 = mixedBlk (parts x0 x1 x2 x3 x5) x6 := by
  obtain ⟨e0, e1, e2, e3⟩ := plane_eq c arg2 harg2 x0
  unfold kernelRun0_A.sl.r_20 kernelRun0_A.sl.r_17 kernelRun0_A.sl.r_18 kernelRun0_A.sl.r_19 kernelRun0_A.sl.r kernelRun0_A.sl.r_1
  rw [e0, e1, e2, e3, ld_full arg3 harg3 x1, ld_full arg4 harg4 x2, ld_full arg5 harg5 x3, ld_full arg7 harg7 x5, ld_full arg8 harg8 x6]
  rfl
/-- its residual, -/
theorem r23_eq : kernelRun0_A.sl.r_23 c arg2 harg2 arg3 harg3 arg4 harg4 arg5 harg5 arg6 harg6 arg7 harg7 arg8 harg8 arg9 harg9 x0 x1 x2 x3 x4 x5 x6 x7 = residBlk x0 x1 x2 x3 x4 x5 x6 x7 := by
  unfold kernelRun0_A.sl.r_23 kernelRun0_A.sl.r_21 kernelRun0_A.sl.r_22 residBlk
  rw [r20_eq, ld_full arg6 harg6 x4, ld_full arg9 harg9 x7]
/-- and the norm. -/
theorem r24_eq : kernelRun0_A.sl.r_24 c arg2 harg2 arg3 harg3 arg4 harg4 arg5 harg5 arg6 harg6 arg7 harg7 arg8 harg8 arg9 harg9 arg10 harg10 arg11 harg11 arg12 harg12 x0 x1 x2 x3 x4 x5 x6 x7 x8 x9 x10 = modBlk x0 x1 x2 x3 x4 x5 x6 x7 x8 x9 x10 := by
  unfold kernelRun0_A.sl.r_24 kernelRun0_A.sl.r_21 kernelRun0_A.sl.r_22 modBlk
  rw [r20_eq, ld_full arg6 harg6 x4, ld_full arg9 harg9 x7, ld_full arg10 harg10 x8, ld_full arg11 harg11 x9, ld_full arg12 harg12 x10]

/-- What the accumulator holds after the last chunk. -/
theorem v466_eq : kernelRun0_A.sl.v466 c arg2 harg2 arg3 harg3 arg4 harg4 arg5 harg5 arg6 harg6 arg7 harg7 arg8 harg8 arg9 harg9 arg10 harg10 arg11 harg11 arg12 harg12 arg14 harg14 arg15 harg15 arg16 harg16 arg24 x0 x1 x2 x3 x4 x5 x6 x7 x8 x9 x10 x12 x13 x14
    = total (modBlk x0 x1 x2 x3 x4 x5 x6 x7 x8 x9 x10) x12 x13 x14 := by
  unfold total chunk
  rw [← r24_eq c arg2 harg2 arg3 harg3 arg4 harg4 arg5 harg5 arg6 harg6 arg7 harg7 arg8 harg8 arg9 harg9 arg10 harg10 arg11 harg11 arg12 harg12 x0 x1 x2 x3 x4 x5 x6 x7 x8 x9 x10]
  simp only [← ld_col arg14 harg14 x12, ← ld_col arg15 harg15 x13, ← ld_row arg16 harg16 x14]
  unfold kernelRun0_A.sl.v466 kernelRun0_A.sl.HS0_11
  rw [View.readCov_full]
  unfold kernelRun0_A.sl.r_39
  refine (pay1_eq _ _ _ _ _).trans (congrArg (fun a => addf a _) ?_)
  unfold kernelRun0_A.sl.v459 kernelRun0_A.sl.HS0_10
  rw [View.readCov_full]
  unfold kernelRun0_A.sl.r_36 kernelRun0_A.sl.r_37 kernelRun0_A.sl.r_38
  refine (pay53_eq _ _ _ _ _).trans (congrArg (fun a => addf a _) ?_)
  unfold kernelRun0_A.sl.v435 kernelRun0_A.sl.HS0_9
  rw [View.readCov_full]
  refine (pay49_eq _ _ _ _ _).trans (congrArg (fun a => addf a _) ?_)
  unfold kernelRun0_A.sl.v411 kernelRun0_A.sl.HS0_8
  rw [View.readCov_full]
  unfold kernelRun0_A.sl.r_35
  refine (pay48_eq _ _ _ _ _).trans (congrArg (fun a => addf a _) ?_)
  unfold kernelRun0_A.sl.v387 kernelRun0_A.sl.HS0_7
  rw [View.readCov_full]
  unfold kernelRun0_A.sl.r_32 kernelRun0_A.sl.r_33 kernelRun0_A.sl.r_34
  refine (pay46_eq _ _ _ _ _).trans (congrArg (fun a => addf a _) ?_)
  unfold kernelRun0_A.sl.v363 kernelRun0_A.sl.HS0_6
  rw [View.readCov_full]
  refine (pay41_eq _ _ _ _ _).trans (congrArg (fun a => addf a _) ?_)
  unfold kernelRun0_A.sl.v339 kernelRun0_A.sl.HS0_5
  rw [View.readCov_full]
  unfold kernelRun0_A.sl.r_31
  refine (pay40_eq _ _ _ _ _).trans (congrArg (fun a => addf a _) ?_)
  unfold kernelRun0_A.sl.v315 kernelRun0_A.sl.HS0_4
  rw [View.readCov_full]
  unfold kernelRun0_A.sl.r_28 kernelRun0_A.sl.r_29 kernelRun0_A.sl.r_30
  refine (pay39_eq _ _ _ _ _).trans (congrArg (fun a => addf a _) ?_)
  unfold kernelRun0_A.sl.v291 kernelRun0_A.sl.HS0_3
  rw [View.readCov_full]
  refine (pay34_eq _ _ _ _ _).trans (congrArg (fun a => addf a _) ?_)
  unfold kernelRun0_A.sl.v267 kernelRun0_A.sl.HS0_2
  rw [View.readCov_full]
  refine (pay33_eq _ _ _ _ _).trans (congrArg (fun a => addf a _) ?_)
  unfold kernelRun0_A.sl.v243 kernelRun0_A.sl.HS0_1
  rw [View.readCov_full]
  unfold kernelRun0_A.sl.r_25 kernelRun0_A.sl.r_26 kernelRun0_A.sl.r_27 kernelRun0_A.sl.r_24
  exact pay32_eq _ _ _ _ _ _ _ _ _

/-- What the body leaves in the first output's block. -/
theorem out18_eq : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17
    = k0_pay2 (residBlk x0 x1 x2 x3 x4 x5 x6 x7) x11 (total (modBlk x0 x1 x2 x3 x4 x5 x6 x7 x8 x9 x10) x12 x13 x14) := by
  unfold out0_A_18 kernelRun0_A
  refine (View.read_writes_full _ _ _ _ _).trans ?_
  rw [v466_eq, r23_eq, ld_full arg13 harg13 x11]
/-- What it leaves in the cast slabs' blocks. -/
theorem out19_eq : out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 = x15 := by
  unfold out0_A_19 kernelRun0_A
  refine (View.read_writes_full _ _ _ _ _).trans ?_
  rw [ld_full arg17 harg17 x15]
  unfold k0_pay3
  simp only [shapeCast_id]
  rfl
theorem out20_eq : out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 = x16 := by
  unfold out0_A_20 kernelRun0_A
  refine (View.read_writes_full _ _ _ _ _).trans ?_
  rw [ld_full arg18 harg18 x16]
  unfold k0_pay4
  simp only [shapeCast_id]
  rfl
theorem out21_eq : out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 = x17 := by
  unfold out0_A_21 kernelRun0_A
  refine (View.read_writes_full _ _ _ _ _).trans ?_
  rw [ld_full arg19 harg19 x17]
  unfold k0_pay5
  simp only [shapeCast_id]
  rfl
end After

end Cert.Kernel2Ideal.Out

end
-- ==== Proof.OutTile.lean ====
/- The block the body leaves in the first output, read at an element: the layer's end for the block's row, in terms of the input blocks. -/
module

public import proofs.«01_k».proof.Proof.OutBlock

@[expose] public section

set_option maxRecDepth 16384

noncomputable section

namespace Cert.Kernel2Ideal.Out

open Cert.Kernel2Ideal Cert.Kernel2Ideal.Gen
open Idealize.ShloMosaic hiding ix1 ix2 ix3 ix4
open Cert.KernelIdeal.Moe (gate unit)
open ValueIdx (ix1 ix2 ix3 ix4)

open scoped BigOperators

/-- Row `i` of the Fourier half, in the layout it comes in: groups of 128 channels, runs of 64 rows with 8 more after each. -/
def fourierRow (x : Vec Ideal S1x4x576x128 .f32) (i q : Fin 512) : EReal :=
  x (ix4 (0 : Fin 1) ⟨q.val / 128, by have := q.isLt; omega⟩ ⟨72 * (i.val / 64) + i.val % 64, by have := i.isLt; omega⟩ ⟨q.val % 128, Nat.mod_lt _ (by decide)⟩)

/-- A channel group of the Fourier half at an element. -/
theorem plane_apply (x : Vec Ideal S1x4x576x128 .f32) (n : Fin 4) (i : Fin 512) (l : Fin 128) (q : Fin 512) (hq : q.val = 128 * n.val + l.val) :
    plane x n (ix2 i l) = fourierRow x i q := by
  have hl := l.isLt
  have hn := n.isLt
  refine (pay8_apply (run64 x n) i l).trans (congrArg x (funext fun a => Fin.ext ?_))
  match a with
  | ⟨0, _⟩ => rfl
  | ⟨1, _⟩ => show n.val = q.val / 128; omega
  | ⟨2, _⟩ => rfl
  | ⟨3, _⟩ => show l.val = q.val % 128; omega

/-- The channel groups side by side are the mixed row. -/
theorem parts_apply (x0 : Vec Ideal S1x4x576x128 .f32) (x1 x2 x3 : Vec Ideal S1x512x512 .bf16) (x5 : Vec Ideal S1x128 .f32) (i : Fin 512) (q : Fin 1024) :
    parts x0 x1 x2 x3 x5 ⟨q.val / 128, by have := q.isLt; omega⟩ (ix2 i ⟨q.val % 128, Nat.mod_lt _ (by decide)⟩)
      = mix (fourierRow x0 i) (fun k => x1 (ix3 (0 : Fin 1) i k) + x2 (ix3 (0 : Fin 1) i k)) (fun k => x3 (ix3 (0 : Fin 1) i k)) (fun k => x5 (ix2 (0 : Fin 1) k)) q := by
  have hq := q.isLt
  have lo (n : Fin 4) : parts x0 x1 x2 x3 x5 ⟨n.val, by have := n.isLt; omega⟩ = plane x0 n := by
    match n with
    | 0 => rfl
    | 1 => rfl
    | 2 => rfl
    | 3 => rfl
  have hi (n : Fin 4) : ∃ h, parts x0 x1 x2 x3 x5 ⟨4 + n.val, by have := n.isLt; omega⟩ = headBlk (128 * n.val) h (k0_pay6 x1 x2) (k0_pay7 x3) x5 := by
    match n with
    | 0 => exact ⟨_, rfl⟩
    | 1 => exact ⟨_, rfl⟩
    | 2 => exact ⟨_, rfl⟩
    | 3 => exact ⟨_, rfl⟩
  unfold mix
  by_cases h : q.val < 512
  · rw [dif_pos h]
    refine (congrFun (lo ⟨q.val / 128, by omega⟩) _).trans (plane_apply x0 _ i _ _ ?_)
    show q.val = 128 * (q.val / 128) + q.val % 128
    omega
  · rw [dif_neg h]
    obtain ⟨hs, e⟩ := hi ⟨q.val / 128 - 4, by omega⟩
    have e' : parts x0 x1 x2 x3 x5 ⟨q.val / 128, by omega⟩ = _ := (congrArg (parts x0 x1 x2 x3 x5) (Fin.ext (by show q.val / 128 = 4 + (q.val / 128 - 4); omega))).trans e
    refine (congrFun e' _).trans ((headBlk_apply ⟨q.val / 128 - 4, by omega⟩ _ rfl hs (k0_pay6 x1 x2) (k0_pay7 x3)
      (fun z => x3 (ix3 (0 : Fin 1) (z 0) (z 1))) x5 (fun i k => pay7_apply x3 i k) i _ ⟨q.val - 512, by omega⟩ ?_).trans ?_)
    · show q.val - 512 = 128 * (q.val / 128 - 4) + q.val % 128
      omega
    · simp only [pay6_apply]

/-- The block's residual at an element. -/
theorem residBlk_apply (x0 : Vec Ideal S1x4x576x128 .f32) (x1 x2 x3 : Vec Ideal S1x512x512 .bf16) (x4 : Vec Ideal S1x512x1024 .f32) (x5 : Vec Ideal S1x128 .f32)
    (x6 : Vec Ideal S1024x1024 .bf16) (x7 : Vec Ideal S1x1x1024 .f32) (i : Fin 512) (j : Fin 1024) :
    residBlk x0 x1 x2 x3 x4 x5 x6 x7 (ix2 i j)
      = resid (mix (fourierRow x0 i) (fun k => x1 (ix3 (0 : Fin 1) i k) + x2 (ix3 (0 : Fin 1) i k)) (fun k => x3 (ix3 (0 : Fin 1) i k)) (fun k => x5 (ix2 (0 : Fin 1) k)))
          (fun q j => x6 (ix2 q j)) (fun j => x4 (ix3 (0 : Fin 1) i j)) (fun j => x7 (ix3 (0 : Fin 1) (0 : Fin 1) j)) j := by
  unfold residBlk resid
  refine (pay27_apply _ _ _ i j).trans (congrArg₂ (· + ·) (ValueIdx.shapeCast_1ab_ab_apply _ _ _ _) (congrArg (_ * ·) ?_))
  refine (mixedBlk_apply _ _ i j).trans (Finset.sum_congr rfl fun q _ => congrArg (· * _) (parts_apply x0 x1 x2 x3 x5 i q))

/-- Its modulated norm at an element. -/
theorem modBlk_apply (x0 : Vec Ideal S1x4x576x128 .f32) (x1 x2 x3 : Vec Ideal S1x512x512 .bf16) (x4 : Vec Ideal S1x512x1024 .f32) (x5 : Vec Ideal S1x128 .f32)
    (x6 : Vec Ideal S1024x1024 .bf16) (x7 : Vec Ideal S1x1x1024 .f32) (x8 : Vec Ideal S1x1024 .f32) (x9 x10 : Vec Ideal S1x1x1024 .f32) (i : Fin 512) (j : Fin 1024) :
    modBlk x0 x1 x2 x3 x4 x5 x6 x7 x8 x9 x10 (ix2 i j)
      = modul (fun q => residBlk x0 x1 x2 x3 x4 x5 x6 x7 (ix2 i q)) (fun q => x8 (ix2 (0 : Fin 1) q)) (fun q => x9 (ix3 (0 : Fin 1) (0 : Fin 1) q))
          (fun q => x10 (ix3 (0 : Fin 1) (0 : Fin 1) q)) j :=
  pay28_apply _ _ _ _ _ _ i j

/-- A chunk at an element. -/
theorem chunk_apply (h : FVec Ideal S512x1024 .bf16) (x1 x2 : Vec Ideal S1024x2816 .bf16) (x3 : Vec Ideal S2816x1024 .bf16) (n : Fin 11) (o : ℕ) (ho : o = 256 * n.val)
    (hc : ∀ a, (![0, o] : Fin 2 → ℕ) a + S1024x256.size a ≤ S1024x2816.size a)
    (hr : ∀ a, (![o, 0] : Fin 2 → ℕ) a + S256x1024.size a ≤ S2816x1024.size a) (i : Fin 512) (j : Fin 1024) :
    chunk h x1 x2 x3 o hc hr (ix2 i j) = ∑ k : Fin 256, (fun f : Fin 2816 => unit (fun q => h (ix2 i q)) (fun q => x1 (ix2 q f)) (fun q => x2 (ix2 q f)) * x3 (ix2 f j))
      ⟨256 * n.val + k.val, by have := n.isLt; have := k.isLt; omega⟩ := by
  subst ho
  refine (pay54_apply _ _ _ _ i j).trans (Finset.sum_congr rfl fun k _ => ?_)
  have hcol (x : Vec Ideal S1024x2816 .bf16) (q : Fin 1024) :
      colBlk x (256 * n.val) hc (ix2 q k) = x (ix2 q ⟨256 * n.val + k.val, by have := n.isLt; have := k.isLt; omega⟩) := by
    refine congrArg x (funext fun a => Fin.ext ?_)
    match a with
    | ⟨0, _⟩ => show 0 + 1 * q.val = q.val; omega
    | ⟨1, _⟩ => show 256 * n.val + 1 * k.val = 256 * n.val + k.val; omega
  have hrow : rowBlk x3 (256 * n.val) hr (ix2 k j) = x3 (ix2 ⟨256 * n.val + k.val, by have := n.isLt; have := k.isLt; omega⟩ j) := by
    refine congrArg x3 (funext fun a => Fin.ext ?_)
    match a with
    | ⟨0, _⟩ => show 256 * n.val + 1 * k.val = 256 * n.val + k.val; omega
    | ⟨1, _⟩ => show 0 + 1 * j.val = j.val; omega
  rw [hrow]
  simp only [hcol]

/-- The block's feed-forward at an element: the row's. -/
theorem total_apply (h : FVec Ideal S512x1024 .bf16) (x1 x2 : Vec Ideal S1024x2816 .bf16) (x3 : Vec Ideal S2816x1024 .bf16) (i : Fin 512) (j : Fin 1024) :
    total h x1 x2 x3 (ix2 i j) = dense (fun q => h (ix2 i q)) (fun q f => x1 (ix2 q f)) (fun q f => x2 (ix2 q f)) (fun f => x3 (ix2 f j)) := by
  unfold dense
  rw [← sum_chunks]
  unfold total
  simp only [addf]
  rw [chunk_apply h x1 x2 x3 0 0 rfl, chunk_apply h x1 x2 x3 1 256 rfl, chunk_apply h x1 x2 x3 2 512 rfl, chunk_apply h x1 x2 x3 3 768 rfl,
    chunk_apply h x1 x2 x3 4 1024 rfl, chunk_apply h x1 x2 x3 5 1280 rfl, chunk_apply h x1 x2 x3 6 1536 rfl, chunk_apply h x1 x2 x3 7 1792 rfl,
    chunk_apply h x1 x2 x3 8 2048 rfl, chunk_apply h x1 x2 x3 9 2304 rfl, chunk_apply h x1 x2 x3 10 2560 rfl]
  simp only [Fin.sum_univ_succ (n := 10), Fin.sum_univ_succ (n := 9), Fin.sum_univ_succ (n := 8), Fin.sum_univ_succ (n := 7), Fin.sum_univ_succ (n := 6), Fin.sum_univ_succ (n := 5), Fin.sum_univ_succ (n := 4),
    Fin.sum_univ_succ (n := 3), Fin.sum_univ_succ (n := 2), Fin.sum_univ_succ (n := 1), Fin.sum_univ_succ (n := 0), Fin.sum_univ_zero, add_zero, ← add_assoc]
  rfl

/-- The block the body stores, at an element: the layer's end for row `i`. -/
theorem out_apply (x0 : Vec Ideal S1x4x576x128 .f32) (x1 x2 x3 : Vec Ideal S1x512x512 .bf16) (x4 : Vec Ideal S1x512x1024 .f32) (x5 : Vec Ideal S1x128 .f32)
    (x6 : Vec Ideal S1024x1024 .bf16) (x7 : Vec Ideal S1x1x1024 .f32) (x8 : Vec Ideal S1x1024 .f32) (x9 x10 x11 : Vec Ideal S1x1x1024 .f32)
    (x12 x13 : Vec Ideal S1024x2816 .bf16) (x14 : Vec Ideal S2816x1024 .bf16) (i : Fin 512) (j : Fin 1024) :
    k0_pay2 (residBlk x0 x1 x2 x3 x4 x5 x6 x7) x11 (total (modBlk x0 x1 x2 x3 x4 x5 x6 x7 x8 x9 x10) x12 x13 x14) (ix3 (0 : Fin 1) i j)
      = layerEnd (resid (mix (fourierRow x0 i) (fun k => x1 (ix3 (0 : Fin 1) i k) + x2 (ix3 (0 : Fin 1) i k)) (fun k => x3 (ix3 (0 : Fin 1) i k)) (fun k => x5 (ix2 (0 : Fin 1) k)))
          (fun q j => x6 (ix2 q j)) (fun j => x4 (ix3 (0 : Fin 1) i j)) (fun j => x7 (ix3 (0 : Fin 1) (0 : Fin 1) j)))
        (fun q => x8 (ix2 (0 : Fin 1) q)) (fun q => x9 (ix3 (0 : Fin 1) (0 : Fin 1) q)) (fun q => x10 (ix3 (0 : Fin 1) (0 : Fin 1) q)) (fun q => x11 (ix3 (0 : Fin 1) (0 : Fin 1) q))
        (fun q f => x12 (ix2 q f)) (fun q f => x13 (ix2 q f)) (fun f j => x14 (ix2 f j)) j := by
  unfold layerEnd
  refine (pay2_apply _ _ _ i j).trans (congrArg₂ (· + ·) (residBlk_apply x0 x1 x2 x3 x4 x5 x6 x7 i j) (congrArg (_ * ·) ?_))
  refine (total_apply _ _ _ _ i j).trans ?_
  simp only [modBlk_apply, residBlk_apply]

end Cert.Kernel2Ideal.Out

end
-- ==== Proof.OutIn.lean ====
/- What the layer-end call reads: the arrays the host lines before it leave, and each window's block at a grid point, as elements of the program's arguments. -/
module

public import proofs.«01_k».proof.Proof.OutTile
public import proofs.«01_k».proof.Proof.Gen.Kernel2Ideal.Value
public import Idealize.ShloMosaic.Lib.Pipeline.ValueKit.Geometry
public import Idealize.ShloMosaic.Lib.KernelVsHost

@[expose] public section

set_option maxRecDepth 16384

noncomputable section

namespace Cert.Kernel2Ideal.Out

open Cert.Kernel2Ideal Cert.Kernel2Ideal.Gen
open Idealize.ShloMosaic hiding ix1 ix2 ix3 ix4 ix5
open Idealize.ShloMosaic.TcCoe Idealize.ShloMosaic.Tactic
open Idealize.SL.Sem
open Idealize.ShloMosaic.Pipeline (Dat Cfg Window)
open ValueIdx (ix1 ix2 ix3 ix4 ix5)

variable (m : (ℓ : Loc nD τ sig) → Buf (Elt Ideal) ℓ)

/-! ## The arrays the call reads -/

/-- The lines that cast a weight or a row array to bf16 leave it as it was: over the extended reals the change of format is the identity. -/
theorem cast_in (c : Dev nD) :
    (V m c main_v4 = (m ((c : Thread nD τ).loc main_arg1) : FVec Ideal S8x4096x512 .f32) ∧ V m c main_v5 = (m ((c : Thread nD τ).loc main_arg2) : FVec Ideal S8x4096x512 .f32)
      ∧ V m c main_v6 = (m ((c : Thread nD τ).loc main_arg3) : FVec Ideal S8x4096x512 .f32))
    ∧ V m c main_v8 = (m ((c : Thread nD τ).loc main_arg6) : FVec Ideal S1024x1024 .f32) ∧ V m c main_v10 = (m ((c : Thread nD τ).loc main_arg12) : FVec Ideal S1024x2816 .f32)
    ∧ V m c main_v11 = (m ((c : Thread nD τ).loc main_arg13) : FVec Ideal S1024x2816 .f32) ∧ V m c main_v12 = (m ((c : Thread nD τ).loc main_arg14) : FVec Ideal S2816x1024 .f32) := by
  refine ⟨⟨?_, ?_, ?_⟩, ?_, ?_, ?_, ?_⟩ <;>
  · unfold V
    simp only [hostOps0, hostOps0_1, hostOps0_2, List.flatten_cons, List.flatten_nil, List.append_nil, List.cons_append, List.nil_append]
    entry_read
    all_goals rfl

/-- The two weight rows and the three expert arrays come reshaped. -/
theorem shape_in (c : Dev nD) :
    (V m c main_v7 = shapeCast S1x128 (m ((c : Thread nD τ).loc main_arg5) : FVec Ideal S128 .f32) shapeCasts_S128_S1x128
      ∧ V m c main_v9 = shapeCast S1x1024 (m ((c : Thread nD τ).loc main_arg8) : FVec Ideal S1024 .f32) shapeCasts_S1024_S1x1024)
    ∧ V m c main_v13 = shapeCast S8192x3584 (m ((c : Thread nD τ).loc main_arg15) : FVec Ideal S8x1024x3584 .f32) shapeCasts_S8x1024x3584_S8192x3584
    ∧ V m c main_v14 = shapeCast S8192x3584 (m ((c : Thread nD τ).loc main_arg16) : FVec Ideal S8x1024x3584 .f32) shapeCasts_S8x1024x3584_S8192x3584
    ∧ V m c main_v15 = shapeCast S28672x1024 (m ((c : Thread nD τ).loc main_arg17) : FVec Ideal S8x3584x1024 .f32) shapeCasts_S8x3584x1024_S28672x1024 := by
  refine ⟨⟨?_, ?_⟩, ?_, ?_, ?_⟩ <;>
  · unfold V
    simp only [hostOps0, hostOps0_1, hostOps0_2, List.flatten_cons, List.flatten_nil, List.append_nil, List.cons_append, List.nil_append]
    entry_read
    all_goals rfl

/-- The Fourier half: split in rows of 64 tokens and groups of 128 channels, the groups first, 8 zero rows after each 64, and the rows joined again. -/
theorem fourier_in (c : Dev nD) : V m c main_v3
    = shapeCast S8x4x4608x128 (pad S8x4x64x72x128 ![0, 0, 0, 0, 0] ![0, 0, 0, 8, 0] ![0, 0, 0, 0, 0]
        (transpose S8x4x64x64x128 [0, 3, 1, 2, 4] (shapeCast S8x64x64x4x128 (m ((c : Thread nD τ).loc main_arg0) : FVec Ideal S8x4096x512 .f32) shapeCasts_S8x4096x512_S8x64x64x4x128)
          transposes_S8x64x64x4x128_S8x4x64x64x128_0_3_1_2_4) (sitofp (F := Ideal) .f32 (constantI S_ 32 0#32)) pads_S8x4x64x64x128_S8x4x64x72x128_000_000_000_080_000 h_S_) shapeCasts_S8x4x64x72x128_S8x4x4608x128 := by
  unfold V
  simp only [hostOps0, hostOps0_1, hostOps0_2, List.flatten_cons, List.flatten_nil, List.append_nil, List.cons_append, List.nil_append]
  entry_read
  all_goals rfl

/-- The Fourier half at the place of token `p`, channel `q`. -/
theorem fourier_in_apply (c : Dev nD) (b : Fin 8) (p : Fin 4096) (q : Fin 512) (n : Fin 4) (R : Fin 4608) (l : Fin 128)
    (hn : n.val = q.val / 128) (hR : R.val = 72 * (p.val / 64) + p.val % 64) (hl : l.val = q.val % 128) :
    (V m c main_v3 : FVec Ideal S8x4x4608x128 .f32) (ix4 b n R l) = (m ((c : Thread nD τ).loc main_arg0) : FVec Ideal S8x4096x512 .f32) (ix3 b p q) := by
  have hp := p.isLt
  have hq := q.isLt
  have hb := b.isLt
  rw [fourier_in]
  refine (shapeCast_apply _ _ (ix4 b n R l) (ix5 b n (⟨p.val / 64, by omega⟩ : Fin 64) (⟨p.val % 64, by omega⟩ : Fin 72) l) ?_).trans ?_
  · refine (Shape.rowMajor_val_five (ix5 b n (⟨p.val / 64, by omega⟩ : Fin 64) (⟨p.val % 64, by omega⟩ : Fin 72) l)).trans (Eq.trans ?_ (Shape.rowMajor_val_four (ix4 b n R l)).symm)
    show (((b.val * 4 + n.val) * 64 + p.val / 64) * 72 + p.val % 64) * 128 + l.val = ((b.val * 4 + n.val) * 4608 + R.val) * 128 + l.val
    omega
  refine (pad_apply_of_inside _ _ _ _ _ _ _ _ (ix5 b n (⟨p.val / 64, by omega⟩ : Fin 64) (⟨p.val % 64, by omega⟩ : Fin 64) l) (fun a => ?_)).trans ?_
  · match a with
    | ⟨0, _⟩ => show b.val = 0 + b.val * (0 + 1); omega
    | ⟨1, _⟩ => show n.val = 0 + n.val * (0 + 1); omega
    | ⟨2, _⟩ => show p.val / 64 = 0 + p.val / 64 * (0 + 1); omega
    | ⟨3, _⟩ => show p.val % 64 = 0 + p.val % 64 * (0 + 1); omega
    | ⟨4, _⟩ => show l.val = 0 + l.val * (0 + 1); omega
  refine (transpose_apply _ _ _ _ (ix5 b (⟨p.val / 64, by omega⟩ : Fin 64) (⟨p.val % 64, by omega⟩ : Fin 64) n l) (fun a => ?_)).trans ?_
  · match a with
    | ⟨0, _⟩ => rfl
    | ⟨1, _⟩ => rfl
    | ⟨2, _⟩ => rfl
    | ⟨3, _⟩ => rfl
    | ⟨4, _⟩ => rfl
  refine shapeCast_apply _ _ _ _ ?_
  refine (Shape.rowMajor_val_three (ix3 b p q)).trans (Eq.trans ?_ (Shape.rowMajor_val_five (ix5 b (⟨p.val / 64, by omega⟩ : Fin 64) (⟨p.val % 64, by omega⟩ : Fin 64) n l)).symm)
  show (b.val * 4096 + p.val) * 512 + q.val = (((b.val * 64 + p.val / 64) * 64 + p.val % 64) * 4 + n.val) * 128 + l.val
  omega

/-! ## The blocks at a grid point -/

/-- A block's element, from its place: on each axis the block's index times the block's size plus the element's own coordinate. -/
theorem emb_eq (w : Window sig grid0) (t : Fin grid0.N) (s : Fin w.shape.rank → ℕ) (hk : w.kind = .blocked) (hi : w.index t = s) (y : (w.xblock (grid0.coords t)).Idx) (x : w.shape.Idx)
    (h : ∀ b, (x b : ℕ) = s b * w.size b + (y b).val) : (w.rect t).emb y = x :=
  funext fun b => Fin.ext ((Pipeline.Window.rect_emb_val w t y b hk).trans ((congrArg (fun k : ℕ => k * w.size b + (y b).val) (congrFun hi b)).trans (h b).symm))

/-- The windows over rows: point `t` is batch `t / 8`, tile `t mod 8`. -/
theorem idx_rows : ∀ t : Fin grid0.N, win0_0.index t = ![t.val / 8, 0, t.val % 8, 0] ∧ win0_1.index t = ![t.val / 8, t.val % 8, 0] ∧ win0_2.index t = ![t.val / 8, t.val % 8, 0]
    ∧ win0_3.index t = ![t.val / 8, t.val % 8, 0] ∧ win0_4.index t = ![t.val / 8, t.val % 8, 0] := by decide +kernel
/-- The windows over the batch's rows of modulation. -/
theorem idx_batch : ∀ t : Fin grid0.N, win0_7.index t = ![t.val / 8, 0, 0] ∧ win0_9.index t = ![t.val / 8, 0, 0] ∧ win0_10.index t = ![t.val / 8, 0, 0]
    ∧ win0_11.index t = ![t.val / 8, 0, 0] := by decide +kernel
/-- The windows over a whole array. -/
theorem idx_whole : ∀ t : Fin grid0.N, win0_5.index t = ![0, 0] ∧ win0_6.index t = ![0, 0] ∧ win0_8.index t = ![0, 0] ∧ win0_12.index t = ![0, 0] ∧ win0_13.index t = ![0, 0]
    ∧ win0_14.index t = ![0, 0] := by decide +kernel
/-- The windows over the expert arrays' slabs, in and out. -/
theorem idx_slab : ∀ t : Fin grid0.N, win0_15.index t = ![t.val, 0] ∧ win0_16.index t = ![t.val, 0] ∧ win0_17.index t = ![t.val, 0] ∧ win0_19.index t = ![t.val, 0]
    ∧ win0_20.index t = ![t.val, 0] ∧ win0_21.index t = ![t.val, 0] := by decide +kernel
/-- The window over the layer's result. -/
theorem idx_out : ∀ t : Fin grid0.N, win0_18.index t = ![t.val / 8, t.val % 8, 0] := by decide +kernel

section Blocks
variable (c : Dev nD) (t : Fin cfg0.N)

/-- Row `i` of the blocks over rows is token `p = 512 (t mod 8) + i` of batch `t / 8`. -/
theorem rows_blk (b : Fin 8) (p : Fin 4096) (i : Fin 512) (hb : b.val = t.val / 8) (hp : p.val = 512 * (t.val % 8) + i.val) :
    (∀ q, (iblk m c 1 t : Vec Ideal S1x512x512 .bf16) (ix3 (0 : Fin 1) i q) = (m ((c : Thread nD τ).loc main_arg1) : FVec Ideal S8x4096x512 .f32) (ix3 b p q))
    ∧ (∀ q, (iblk m c 2 t : Vec Ideal S1x512x512 .bf16) (ix3 (0 : Fin 1) i q) = (m ((c : Thread nD τ).loc main_arg2) : FVec Ideal S8x4096x512 .f32) (ix3 b p q))
    ∧ (∀ q, (iblk m c 3 t : Vec Ideal S1x512x512 .bf16) (ix3 (0 : Fin 1) i q) = (m ((c : Thread nD τ).loc main_arg3) : FVec Ideal S8x4096x512 .f32) (ix3 b p q))
    ∧ (∀ j, (iblk m c 4 t : Vec Ideal S1x512x1024 .f32) (ix3 (0 : Fin 1) i j) = (m ((c : Thread nD τ).loc main_arg4) : FVec Ideal S8x4096x1024 .f32) (ix3 b p j)) := by
  have h0 : b.val = t.val / 8 * 1 + 0 := by omega
  have h1 : p.val = t.val % 8 * 512 + i.val := by omega
  have h2 (n : ℕ) (q : Fin n) : q.val = 0 * n + q.val := by omega
  obtain ⟨-, i1, i2, i3, i4⟩ := idx_rows t
  obtain ⟨⟨e1, e2, e3⟩, -⟩ := cast_in m c
  refine ⟨fun q => ?_, fun q => ?_, fun q => ?_, fun j => ?_⟩
  · refine Eq.trans ?_ (congrFun e1 (ix3 b p q))
    show (V m c main_v4 : FVec Ideal S8x4096x512 .bf16) ((win0_1.rect t).emb (ix3 (0 : Fin 1) i q)) = _
    exact congrArg (V m c main_v4 : FVec Ideal S8x4096x512 .bf16) (emb_eq win0_1 t _ rfl i1 (ix3 (0 : Fin 1) i q) (ix3 b p q) fun | ⟨0, _⟩ => h0 | ⟨1, _⟩ => h1 | ⟨2, _⟩ => h2 512 q)
  · refine Eq.trans ?_ (congrFun e2 (ix3 b p q))
    show (V m c main_v5 : FVec Ideal S8x4096x512 .bf16) ((win0_2.rect t).emb (ix3 (0 : Fin 1) i q)) = _
    exact congrArg (V m c main_v5 : FVec Ideal S8x4096x512 .bf16) (emb_eq win0_2 t _ rfl i2 (ix3 (0 : Fin 1) i q) (ix3 b p q) fun | ⟨0, _⟩ => h0 | ⟨1, _⟩ => h1 | ⟨2, _⟩ => h2 512 q)
  · refine Eq.trans ?_ (congrFun e3 (ix3 b p q))
    show (V m c main_v6 : FVec Ideal S8x4096x512 .bf16) ((win0_3.rect t).emb (ix3 (0 : Fin 1) i q)) = _
    exact congrArg (V m c main_v6 : FVec Ideal S8x4096x512 .bf16) (emb_eq win0_3 t _ rfl i3 (ix3 (0 : Fin 1) i q) (ix3 b p q) fun | ⟨0, _⟩ => h0 | ⟨1, _⟩ => h1 | ⟨2, _⟩ => h2 512 q)
  · refine Eq.trans ?_ (congrFun (V_main_arg4 m c) (ix3 b p j))
    show (V m c main_arg4 : FVec Ideal S8x4096x1024 .f32) ((win0_4.rect t).emb (ix3 (0 : Fin 1) i j)) = _
    exact congrArg (V m c main_arg4 : FVec Ideal S8x4096x1024 .f32) (emb_eq win0_4 t _ rfl i4 (ix3 (0 : Fin 1) i j) (ix3 b p j) fun | ⟨0, _⟩ => h0 | ⟨1, _⟩ => h1 | ⟨2, _⟩ => h2 1024 j)

/-- The Fourier window's block read at an element is the array at the element's place, whatever the arrays hold. -/
theorem fourier_read (X : (b : Ref sig .tc) → Buf (Elt Ideal) ((c : Thread nD τ).loc b)) (n : Fin 4) (S : Fin 576) (l : Fin 128) :
    (((cfg0.win 0).blk t).view.read (Elt Ideal) (X (Pipeline.arrRef spec0 0)) : Vec Ideal S1x4x576x128 .f32) (ix4 (0 : Fin 1) n S l)
      = (X main_v3 : FVec Ideal S8x4x4608x128 .f32) ((win0_0.rect t).emb (ix4 (0 : Fin 1) n S l)) := rfl

/-- An element of the Fourier half's block: the batch's channel groups whole, rows `576 (t mod 8)` on. -/
theorem fourier_place (b : Fin 8) (n : Fin 4) (S : Fin 576) (R : Fin 4608) (l : Fin 128) (hb : b.val = t.val / 8) (hR : R.val = t.val % 8 * 576 + S.val) :
    (iblk m c 0 t : Vec Ideal S1x4x576x128 .f32) (ix4 (0 : Fin 1) n S l) = (V m c main_v3 : FVec Ideal S8x4x4608x128 .f32) (ix4 b n R l) := by
  have h0 : b.val = t.val / 8 * 1 + 0 := by omega
  have h1 : n.val = 0 * 4 + n.val := by omega
  have h3 : l.val = 0 * 128 + l.val := by omega
  have h : (win0_0.rect t).emb (ix4 (0 : Fin 1) n S l) = (ix4 b n R l : S8x4x4608x128.Idx) :=
    emb_eq win0_0 t _ rfl (idx_rows t).1 (ix4 (0 : Fin 1) n S l) (ix4 b n R l) fun | ⟨0, _⟩ => h0 | ⟨1, _⟩ => h1 | ⟨2, _⟩ => hR | ⟨3, _⟩ => h3
  unfold iblk
  generalize V m c = X
  exact (fourier_read c t X n S l).trans (congrArg (X main_v3 : FVec Ideal S8x4x4608x128 .f32) h)

/-- Row `i` of the Fourier half's block is that token's. -/
theorem fourier_blk (b : Fin 8) (p : Fin 4096) (i q : Fin 512) (hb : b.val = t.val / 8) (hp : p.val = 512 * (t.val % 8) + i.val) :
    fourierRow (iblk m c 0 t : Vec Ideal S1x4x576x128 .f32) i q = (m ((c : Thread nD τ).loc main_arg0) : FVec Ideal S8x4096x512 .f32) (ix3 b p q) := by
  have hi := i.isLt
  have hq := q.isLt
  unfold fourierRow
  generalize hn : (⟨q.val / 128, _⟩ : Fin 4) = n
  generalize hS : (⟨72 * (i.val / 64) + i.val % 64, _⟩ : Fin 576) = S
  generalize hl : (⟨q.val % 128, _⟩ : Fin 128) = l
  have hS' : 72 * (i.val / 64) + i.val % 64 = S.val := congrArg Fin.val hS
  obtain ⟨R, hR⟩ : ∃ R : Fin 4608, R.val = t.val % 8 * 576 + S.val := ⟨⟨t.val % 8 * 576 + S.val, by omega⟩, rfl⟩
  exact (fourier_place m c t b n S R l hb hR).trans (fourier_in_apply m c b p q n R l (congrArg Fin.val hn).symm (by omega) (congrArg Fin.val hl).symm)

/-- The rows of modulation are the batch's. -/
theorem batch_blk (b : Fin 8) (hb : b.val = t.val / 8) (j : Fin 1024) :
    (iblk m c 7 t : Vec Ideal S1x1x1024 .f32) (ix3 (0 : Fin 1) (0 : Fin 1) j) = (m ((c : Thread nD τ).loc main_arg7) : FVec Ideal S8x1x1024 .f32) (ix3 b (0 : Fin 1) j)
    ∧ (iblk m c 9 t : Vec Ideal S1x1x1024 .f32) (ix3 (0 : Fin 1) (0 : Fin 1) j) = (m ((c : Thread nD τ).loc main_arg9) : FVec Ideal S8x1x1024 .f32) (ix3 b (0 : Fin 1) j)
    ∧ (iblk m c 10 t : Vec Ideal S1x1x1024 .f32) (ix3 (0 : Fin 1) (0 : Fin 1) j) = (m ((c : Thread nD τ).loc main_arg10) : FVec Ideal S8x1x1024 .f32) (ix3 b (0 : Fin 1) j)
    ∧ (iblk m c 11 t : Vec Ideal S1x1x1024 .f32) (ix3 (0 : Fin 1) (0 : Fin 1) j) = (m ((c : Thread nD τ).loc main_arg11) : FVec Ideal S8x1x1024 .f32) (ix3 b (0 : Fin 1) j) := by
  have h0 : b.val = t.val / 8 * 1 + 0 := by omega
  have h2 : j.val = 0 * 1024 + j.val := by omega
  obtain ⟨i1, i2, i3, i4⟩ := idx_batch t
  refine ⟨?_, ?_, ?_, ?_⟩
  · refine Eq.trans ?_ (congrFun (V_main_arg7 m c) (ix3 b (0 : Fin 1) j))
    show (V m c main_arg7 : FVec Ideal S8x1x1024 .f32) ((win0_7.rect t).emb (ix3 (0 : Fin 1) (0 : Fin 1) j)) = _
    exact congrArg (V m c main_arg7 : FVec Ideal S8x1x1024 .f32) (emb_eq win0_7 t _ rfl i1 (ix3 (0 : Fin 1) (0 : Fin 1) j) (ix3 b (0 : Fin 1) j) fun | ⟨0, _⟩ => h0 | ⟨1, _⟩ => rfl | ⟨2, _⟩ => h2)
  · refine Eq.trans ?_ (congrFun (V_main_arg9 m c) (ix3 b (0 : Fin 1) j))
    show (V m c main_arg9 : FVec Ideal S8x1x1024 .f32) ((win0_9.rect t).emb (ix3 (0 : Fin 1) (0 : Fin 1) j)) = _
    exact congrArg (V m c main_arg9 : FVec Ideal S8x1x1024 .f32) (emb_eq win0_9 t _ rfl i2 (ix3 (0 : Fin 1) (0 : Fin 1) j) (ix3 b (0 : Fin 1) j) fun | ⟨0, _⟩ => h0 | ⟨1, _⟩ => rfl | ⟨2, _⟩ => h2)
  · refine Eq.trans ?_ (congrFun (V_main_arg10 m c) (ix3 b (0 : Fin 1) j))
    show (V m c main_arg10 : FVec Ideal S8x1x1024 .f32) ((win0_10.rect t).emb (ix3 (0 : Fin 1) (0 : Fin 1) j)) = _
    exact congrArg (V m c main_arg10 : FVec Ideal S8x1x1024 .f32) (emb_eq win0_10 t _ rfl i3 (ix3 (0 : Fin 1) (0 : Fin 1) j) (ix3 b (0 : Fin 1) j) fun | ⟨0, _⟩ => h0 | ⟨1, _⟩ => rfl | ⟨2, _⟩ => h2)
  · refine Eq.trans ?_ (congrFun (V_main_arg11 m c) (ix3 b (0 : Fin 1) j))
    show (V m c main_arg11 : FVec Ideal S8x1x1024 .f32) ((win0_11.rect t).emb (ix3 (0 : Fin 1) (0 : Fin 1) j)) = _
    exact congrArg (V m c main_arg11 : FVec Ideal S8x1x1024 .f32) (emb_eq win0_11 t _ rfl i4 (ix3 (0 : Fin 1) (0 : Fin 1) j) (ix3 b (0 : Fin 1) j) fun | ⟨0, _⟩ => h0 | ⟨1, _⟩ => rfl | ⟨2, _⟩ => h2)

/-- A row read as one of one. -/
theorem row_in {n : ℕ} (x : (⟨1, ![n]⟩ : Shape).Idx → EReal) (h : (⟨1, ![n]⟩ : Shape).ShapeCasts ⟨2, ![1, n]⟩) (k : Fin n) :
    shapeCast ⟨2, ![1, n]⟩ x h (ix2 (0 : Fin 1) k) = x (ix1 k) := by
  refine shapeCast_apply _ _ _ _ ?_
  refine (Shape.rowMajor_val_one (ix1 k)).trans (Eq.trans ?_ (Shape.rowMajor_val_two (ix2 (0 : Fin 1) k)).symm)
  show k.val = 0 * n + k.val
  omega

/-- The whole weights are the arguments. -/
theorem whole_blk :
    (∀ k, (iblk m c 5 t : Vec Ideal S1x128 .f32) (ix2 (0 : Fin 1) k) = (m ((c : Thread nD τ).loc main_arg5) : FVec Ideal S128 .f32) (ix1 k))
    ∧ (∀ q j, (iblk m c 6 t : Vec Ideal S1024x1024 .bf16) (ix2 q j) = (m ((c : Thread nD τ).loc main_arg6) : FVec Ideal S1024x1024 .f32) (ix2 q j))
    ∧ (∀ k, (iblk m c 8 t : Vec Ideal S1x1024 .f32) (ix2 (0 : Fin 1) k) = (m ((c : Thread nD τ).loc main_arg8) : FVec Ideal S1024 .f32) (ix1 k))
    ∧ (∀ q f, (iblk m c 12 t : Vec Ideal S1024x2816 .bf16) (ix2 q f) = (m ((c : Thread nD τ).loc main_arg12) : FVec Ideal S1024x2816 .f32) (ix2 q f))
    ∧ (∀ q f, (iblk m c 13 t : Vec Ideal S1024x2816 .bf16) (ix2 q f) = (m ((c : Thread nD τ).loc main_arg13) : FVec Ideal S1024x2816 .f32) (ix2 q f))
    ∧ (∀ f j, (iblk m c 14 t : Vec Ideal S2816x1024 .bf16) (ix2 f j) = (m ((c : Thread nD τ).loc main_arg14) : FVec Ideal S2816x1024 .f32) (ix2 f j)) := by
  have h (n : ℕ) {k : ℕ} (q : Fin k) : q.val = 0 * n + q.val := by omega
  obtain ⟨i5, i6, i8, i12, i13, i14⟩ := idx_whole t
  obtain ⟨-, e6, e12, e13, e14⟩ := cast_in m c
  obtain ⟨⟨e5, e8⟩, -⟩ := shape_in m c
  refine ⟨fun k => ?_, fun q j => ?_, fun k => ?_, fun q f => ?_, fun q f => ?_, fun f j => ?_⟩
  · refine Eq.trans ?_ ((congrFun e5 (ix2 (0 : Fin 1) k)).trans (row_in _ _ k))
    show (V m c main_v7 : FVec Ideal S1x128 .f32) ((win0_5.rect t).emb (ix2 (0 : Fin 1) k)) = _
    exact congrArg (V m c main_v7 : FVec Ideal S1x128 .f32) (emb_eq win0_5 t _ rfl i5 (ix2 (0 : Fin 1) k) (ix2 (0 : Fin 1) k) fun | ⟨0, _⟩ => rfl | ⟨1, _⟩ => h 128 k)
  · refine Eq.trans ?_ (congrFun e6 (ix2 q j))
    show (V m c main_v8 : FVec Ideal S1024x1024 .bf16) ((win0_6.rect t).emb (ix2 q j)) = _
    exact congrArg (V m c main_v8 : FVec Ideal S1024x1024 .bf16) (emb_eq win0_6 t _ rfl i6 (ix2 q j) (ix2 q j) fun | ⟨0, _⟩ => h 1024 q | ⟨1, _⟩ => h 1024 j)
  · refine Eq.trans ?_ ((congrFun e8 (ix2 (0 : Fin 1) k)).trans (row_in _ _ k))
    show (V m c main_v9 : FVec Ideal S1x1024 .f32) ((win0_8.rect t).emb (ix2 (0 : Fin 1) k)) = _
    exact congrArg (V m c main_v9 : FVec Ideal S1x1024 .f32) (emb_eq win0_8 t _ rfl i8 (ix2 (0 : Fin 1) k) (ix2 (0 : Fin 1) k) fun | ⟨0, _⟩ => rfl | ⟨1, _⟩ => h 1024 k)
  · refine Eq.trans ?_ (congrFun e12 (ix2 q f))
    show (V m c main_v10 : FVec Ideal S1024x2816 .bf16) ((win0_12.rect t).emb (ix2 q f)) = _
    exact congrArg (V m c main_v10 : FVec Ideal S1024x2816 .bf16) (emb_eq win0_12 t _ rfl i12 (ix2 q f) (ix2 q f) fun | ⟨0, _⟩ => h 1024 q | ⟨1, _⟩ => h 2816 f)
  · refine Eq.trans ?_ (congrFun e13 (ix2 q f))
    show (V m c main_v11 : FVec Ideal S1024x2816 .bf16) ((win0_13.rect t).emb (ix2 q f)) = _
    exact congrArg (V m c main_v11 : FVec Ideal S1024x2816 .bf16) (emb_eq win0_13 t _ rfl i13 (ix2 q f) (ix2 q f) fun | ⟨0, _⟩ => h 1024 q | ⟨1, _⟩ => h 2816 f)
  · refine Eq.trans ?_ (congrFun e14 (ix2 f j))
    show (V m c main_v12 : FVec Ideal S2816x1024 .bf16) ((win0_14.rect t).emb (ix2 f j)) = _
    exact congrArg (V m c main_v12 : FVec Ideal S2816x1024 .bf16) (emb_eq win0_14 t _ rfl i14 (ix2 f j) (ix2 f j) fun | ⟨0, _⟩ => h 2816 f | ⟨1, _⟩ => h 1024 j)

end Blocks

end Cert.Kernel2Ideal.Out

end
-- ==== Proof.OutArrays.lean ====
/- What the layer-end call leaves in its four results, over the extended reals: the layer's end for every token, and the three expert arrays as they were. -/
module

public import proofs.«01_k».proof.Proof.OutIn

@[expose] public section

set_option maxRecDepth 16384

noncomputable section

namespace Cert.Kernel2Ideal.Out

open Cert.Kernel2Ideal Cert.Kernel2Ideal.Gen
open Idealize.ShloMosaic hiding ix1 ix2 ix3 ix4 ix5
open Idealize.ShloMosaic.TcCoe Idealize.ShloMosaic.Tactic
open Idealize.SL.Sem
open Idealize.ShloMosaic.Pipeline (Dat Cfg Window)
open ValueIdx (ix1 ix2 ix3 ix4)

variable (m : (ℓ : Loc nD τ sig) → Buf (Elt Ideal) ℓ) (ρ : Dev nD → PrngReg)

/-- The layer's end for token `p` of batch `b`, column `j`, from the fifteen arrays it depends on. -/
def layer (y o1 o2 g : FVec Ideal S8x4096x512 .f32) (x : FVec Ideal S8x4096x1024 .f32) (gw : FVec Ideal S128 .f32) (wo : FVec Ideal S1024x1024 .f32) (g1 : FVec Ideal S8x1x1024 .f32)
    (nw : FVec Ideal S1024 .f32) (sh sc g2 : FVec Ideal S8x1x1024 .f32) (w1 w3 : FVec Ideal S1024x2816 .f32) (w2 : FVec Ideal S2816x1024 .f32) (b : Fin 8) (p : Fin 4096) (j : Fin 1024) : EReal :=
  layerEnd (resid (mix (fun q => y (ix3 b p q)) (fun k => o1 (ix3 b p k) + o2 (ix3 b p k)) (fun k => g (ix3 b p k)) (fun k => gw (ix1 k))) (fun q j => wo (ix2 q j))
      (fun j => x (ix3 b p j)) (fun j => g1 (ix3 b (0 : Fin 1) j)))
    (fun q => nw (ix1 q)) (fun q => sh (ix3 b (0 : Fin 1) q)) (fun q => sc (ix3 b (0 : Fin 1) q)) (fun q => g2 (ix3 b (0 : Fin 1) q))
    (fun q f => w1 (ix2 q f)) (fun q f => w3 (ix2 q f)) (fun f j => w2 (ix2 f j)) j

/-- The layer's end of the launch contents, as an array. -/
def layerOf (c : Dev nD) : FVec Ideal S8x4096x1024 .f32 := fun i =>
  layer (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) ⟨(i 0).val, (i 0).isLt⟩ ⟨(i 1).val, (i 1).isLt⟩ ⟨(i 2).val, (i 2).isLt⟩

/-- What the body leaves at row `i`, column `j` of the first output's block at point `t`. -/
theorem block_layer (c : Dev nD) (t : Fin cfg0.N) (b : Fin 8) (p : Fin 4096) (i : Fin 512) (j : Fin 1024) (hb : b.val = t.val / 8) (hp : p.val = 512 * (t.val % 8) + i.val) :
    (outsAt0 m c t).1 (ix3 (0 : Fin 1) i j) = layerOf m c (ix3 b p j) := by
  have e1 := fun q => fourier_blk m c t b p i q hb hp
  obtain ⟨e2, e3, e4, e5⟩ := rows_blk m c t b p i hb hp
  have e6 := fun j => (batch_blk m c t b hb j).1
  have e7 := fun j => (batch_blk m c t b hb j).2.1
  have e8 := fun j => (batch_blk m c t b hb j).2.2.1
  have e9 := fun j => (batch_blk m c t b hb j).2.2.2
  obtain ⟨f5, f6, f8, f12, f13, f14⟩ := whole_blk m c t
  unfold outsAt0
  dsimp only
  rw [out18_eq]
  generalize iblk m c 0 t = x0 at *
  generalize iblk m c 1 t = x1 at *
  generalize iblk m c 2 t = x2 at *
  generalize iblk m c 3 t = x3 at *
  generalize iblk m c 4 t = x4 at *
  generalize iblk m c 5 t = x5 at *
  generalize iblk m c 6 t = x6 at *
  generalize iblk m c 7 t = x7 at *
  generalize iblk m c 8 t = x8 at *
  generalize iblk m c 9 t = x9 at *
  generalize iblk m c 10 t = x10 at *
  generalize iblk m c 11 t = x11 at *
  generalize iblk m c 12 t = x12 at *
  generalize iblk m c 13 t = x13 at *
  generalize iblk m c 14 t = x14 at *
  refine (out_apply x0 x1 x2 x3 x4 x5 x6 x7 x8 x9 x10 x11 x12 x13 x14 i j).trans ?_
  rw [show fourierRow x0 i = _ from funext e1]
  simp only [e2, e3, e4, e5, e6, e7, e8, e9, f5, f6, f8, f12, f13, f14]
  rfl

/-! ## The output arrays, from their blocks -/

/-- Every output is written back at every point. -/
theorem flushes : ∀ t : Fin grid0.N, win0_18.flush t = true ∧ win0_19.flush t = true ∧ win0_20.flush t = true ∧ win0_21.flush t = true := by decide +kernel

/-- The first result after the last point. -/
theorem array18 (c : Dev nD) : (dats m 0 c).arrAt 18 cfg0.N = layerOf m c := by
  refine (dats m 0 c).arrAt_eq_of_emb (18 : Fin 22) (layerOf m c) (fun t _ (y : S1x512x1024.Idx) => ?_) (fun (i : S8x4096x1024.Idx) => ?_)
  · have ht : t.val < 64 := t.isLt.trans_eq N_0
    have h1 : (y 1).val < 512 := (y 1).isLt
    have h2 : (y 2).val < 1024 := (y 2).isLt
    have hy : y = ix3 (0 : Fin 1) ⟨(y 1).val, h1⟩ ⟨(y 2).val, h2⟩ := by
      funext a
      match a with
      | ⟨0, _⟩ => exact Fin.ext (by have : (y 0).val < 1 := (y 0).isLt; show (y 0).val = 0; omega)
      | ⟨1, _⟩ => rfl
      | ⟨2, _⟩ => rfl
    obtain ⟨b, hb⟩ : ∃ b : Fin 8, b.val = t.val / 8 := ⟨⟨t.val / 8, by omega⟩, rfl⟩
    obtain ⟨p, hp⟩ : ∃ p : Fin 4096, p.val = 512 * (t.val % 8) + (y 1).val := ⟨⟨512 * (t.val % 8) + (y 1).val, by omega⟩, rfl⟩
    obtain ⟨i, hi⟩ : ∃ i : Fin 512, i.val = (y 1).val := ⟨⟨(y 1).val, h1⟩, rfl⟩
    obtain ⟨j, hj⟩ : ∃ j : Fin 1024, j.val = (y 2).val := ⟨⟨(y 2).val, h2⟩, rfl⟩
    have hy' : y = ix3 (0 : Fin 1) i j := hy.trans (by rw [show i = ⟨(y 1).val, h1⟩ from Fin.ext hi, show j = ⟨(y 2).val, h2⟩ from Fin.ext hj])
    have h0 : b.val = t.val / 8 * 1 + 0 := by omega
    have hp' : p.val = t.val % 8 * 512 + i.val := by omega
    have h3 : j.val = 0 * 1024 + j.val := by omega
    have he : (win0_18.rect t).emb (ix3 (0 : Fin 1) i j) = ix3 b p j :=
      emb_eq win0_18 t _ rfl (idx_out t) (ix3 (0 : Fin 1) i j) (ix3 b p j) fun | ⟨0, _⟩ => h0 | ⟨1, _⟩ => hp' | ⟨2, _⟩ => h3
    subst hy'
    refine (congrFun (after0_18 m c t) _).trans ?_
    refine (block_layer m c t b p i j hb (by omega)).trans ?_
    exact congrArg (layerOf m c) he.symm
  · have h0 : (i 0).val < 8 := (i 0).isLt
    have h1 : (i 1).val < 4096 := (i 1).isLt
    have h2 : (i 2).val < 1024 := (i 2).isLt
    obtain ⟨t, ht⟩ : ∃ t : Fin grid0.N, t.val = 8 * (i 0).val + (i 1).val / 512 := ⟨⟨8 * (i 0).val + (i 1).val / 512, by rw [N_0]; omega⟩, rfl⟩
    refine ⟨t, (flushes t).1, (Pipeline.Window.emb_mem_blk_iff win0_18 t i rfl).mpr fun a => ?_⟩
    rw [idx_out t]
    match a with
    | ⟨0, _⟩ => exact ⟨show t.val / 8 * 1 ≤ (i 0).val by omega, show (i 0).val < t.val / 8 * 1 + 1 by omega⟩
    | ⟨1, _⟩ => exact ⟨show t.val % 8 * 512 ≤ (i 1).val by omega, show (i 1).val < t.val % 8 * 512 + 512 by omega⟩
    | ⟨2, _⟩ => exact ⟨show 0 * 1024 ≤ (i 2).val by omega, show (i 2).val < 0 * 1024 + 1024 by omega⟩

/-- Each cast result after the last point: its slabs are the cast slabs of the array, so it is the array. -/
theorem array19 (c : Dev nD) : (dats m 0 c).arrAt 19 cfg0.N = (V m c main_v13 : FVec Ideal S8192x3584 .f32) := by
  refine (dats m 0 c).arrAt_eq_of_emb (19 : Fin 22) (V m c main_v13 : FVec Ideal S8192x3584 .f32) (fun t _ (y : S128x3584.Idx) => ?_) (fun (i : S8192x3584.Idx) => ?_)
  · refine (congrFun (after0_19 m c t) _).trans ?_
    unfold outsAt0
    dsimp only
    rw [out19_eq]
    have he : (win0_15.rect t).emb y = (win0_19.rect t).emb y := emb_eq win0_15 t _ rfl (idx_slab t).1 y _ fun b =>
      (Pipeline.Window.rect_emb_val win0_19 t y b rfl).trans (congrArg (fun k : ℕ => k * win0_19.size b + (y b).val) (congrFun (idx_slab t).2.2.2.1 b))
    unfold iblk
    generalize V m c = X
    exact congrArg (X main_v13 : FVec Ideal S8192x3584 .f32) he
  · have h0 : (i 0).val < 8192 := (i 0).isLt
    have h1 : (i 1).val < 3584 := (i 1).isLt
    obtain ⟨t, ht⟩ : ∃ t : Fin grid0.N, t.val = (i 0).val / 128 := ⟨⟨(i 0).val / 128, by rw [N_0]; omega⟩, rfl⟩
    refine ⟨t, (flushes t).2.1, (Pipeline.Window.emb_mem_blk_iff win0_19 t i rfl).mpr fun a => ?_⟩
    rw [(idx_slab t).2.2.2.1]
    match a with
    | ⟨0, _⟩ => exact ⟨show t.val * 128 ≤ (i 0).val by omega, show (i 0).val < t.val * 128 + 128 by omega⟩
    | ⟨1, _⟩ => exact ⟨show 0 * 3584 ≤ (i 1).val by omega, show (i 1).val < 0 * 3584 + 3584 by omega⟩

theorem array20 (c : Dev nD) : (dats m 0 c).arrAt 20 cfg0.N = (V m c main_v14 : FVec Ideal S8192x3584 .f32) := by
  refine (dats m 0 c).arrAt_eq_of_emb (20 : Fin 22) (V m c main_v14 : FVec Ideal S8192x3584 .f32) (fun t _ (y : S128x3584.Idx) => ?_) (fun (i : S8192x3584.Idx) => ?_)
  · refine (congrFun (after0_20 m c t) _).trans ?_
    unfold outsAt0
    dsimp only
    rw [out20_eq]
    have he : (win0_16.rect t).emb y = (win0_20.rect t).emb y := emb_eq win0_16 t _ rfl (idx_slab t).2.1 y _ fun b =>
      (Pipeline.Window.rect_emb_val win0_20 t y b rfl).trans (congrArg (fun k : ℕ => k * win0_20.size b + (y b).val) (congrFun (idx_slab t).2.2.2.2.1 b))
    unfold iblk
    generalize V m c = X
    exact congrArg (X main_v14 : FVec Ideal S8192x3584 .f32) he
  · have h0 : (i 0).val < 8192 := (i 0).isLt
    have h1 : (i 1).val < 3584 := (i 1).isLt
    obtain ⟨t, ht⟩ : ∃ t : Fin grid0.N, t.val = (i 0).val / 128 := ⟨⟨(i 0).val / 128, by rw [N_0]; omega⟩, rfl⟩
    refine ⟨t, (flushes t).2.2.1, (Pipeline.Window.emb_mem_blk_iff win0_20 t i rfl).mpr fun a => ?_⟩
    rw [(idx_slab t).2.2.2.2.1]
    match a with
    | ⟨0, _⟩ => exact ⟨show t.val * 128 ≤ (i 0).val by omega, show (i 0).val < t.val * 128 + 128 by omega⟩
    | ⟨1, _⟩ => exact ⟨show 0 * 3584 ≤ (i 1).val by omega, show (i 1).val < 0 * 3584 + 3584 by omega⟩

theorem array21 (c : Dev nD) : (dats m 0 c).arrAt 21 cfg0.N = (V m c main_v15 : FVec Ideal S28672x1024 .f32) := by
  refine (dats m 0 c).arrAt_eq_of_emb (21 : Fin 22) (V m c main_v15 : FVec Ideal S28672x1024 .f32) (fun t _ (y : S448x1024.Idx) => ?_) (fun (i : S28672x1024.Idx) => ?_)
  · refine (congrFun (after0_21 m c t) _).trans ?_
    unfold outsAt0
    dsimp only
    rw [out21_eq]
    have he : (win0_17.rect t).emb y = (win0_21.rect t).emb y := emb_eq win0_17 t _ rfl (idx_slab t).2.2.1 y _ fun b =>
      (Pipeline.Window.rect_emb_val win0_21 t y b rfl).trans (congrArg (fun k : ℕ => k * win0_21.size b + (y b).val) (congrFun (idx_slab t).2.2.2.2.2 b))
    unfold iblk
    generalize V m c = X
    exact congrArg (X main_v15 : FVec Ideal S28672x1024 .f32) he
  · have h0 : (i 0).val < 28672 := (i 0).isLt
    have h1 : (i 1).val < 1024 := (i 1).isLt
    obtain ⟨t, ht⟩ : ∃ t : Fin grid0.N, t.val = (i 0).val / 448 := ⟨⟨(i 0).val / 448, by rw [N_0]; omega⟩, rfl⟩
    refine ⟨t, (flushes t).2.2.2, (Pipeline.Window.emb_mem_blk_iff win0_21 t i rfl).mpr fun a => ?_⟩
    rw [(idx_slab t).2.2.2.2.2]
    match a with
    | ⟨0, _⟩ => exact ⟨show t.val * 448 ≤ (i 0).val by omega, show (i 0).val < t.val * 448 + 448 by omega⟩
    | ⟨1, _⟩ => exact ⟨show 0 * 1024 ≤ (i 1).val by omega, show (i 1).val < 0 * 1024 + 1024 by omega⟩

end Cert.Kernel2Ideal.Out

end
-- ==== Proof.OutRef.lean ====
/- The layer-end call's reference, over the extended reals, read at an element: the first result is the layer's end for the token. -/
module

public import proofs.«01_k».proof.Proof.OutArrays
public import proofs.«01_k».proof.Proof.Gen.Reference2Ideal.Read

@[expose] public section

set_option maxRecDepth 16384

noncomputable section

namespace Cert.Reference2Ideal.Out

open Cert.Reference2Ideal Cert.Reference2Ideal.Gen Cert.Reference2Ideal.Read
open Idealize.ShloMosaic hiding ix1 ix2 ix3 ix4 ix5
open Idealize.ShloMosaic.TcCoe Idealize.SL.Sem
open Cert.KernelIdeal.Moe (gate unit)
open Cert.Kernel2Ideal.Out (rmsFactor head mix resid modul dense layerEnd layer)
open ValueIdx (ix1 ix2 ix3 ix4)

open scoped BigOperators

/-- The host's normalising factor is the row's. -/
theorem factor_eq {n : ℕ} (d : BitVec 32) (f : Fin n → EReal) :
    FloatOps.hostUnary (F := Ideal) (φ := .f32) .rsqrt (FloatOps.addf (F := Ideal) (φ := .f32) (FloatOps.hostDivf (F := Ideal) (φ := .f32) (FloatOps.ofBits (F := Ideal) .f32 0x00000000#32 + ∑ k, f k * f k : EReal)
      (FloatOps.ofBits .f32 d)) (FloatOps.ofBits .f32 0x358637BD#32)) = rmsFactor d f := by
  have e : (FloatOps.ofBits (F := Ideal) .f32 0x00000000#32 + ∑ k, f k * f k : EReal) = ∑ k, f k * f k :=
    (congrArg (· + ∑ k, f k * f k) Ideal.ofBits_zero_f32).trans (zero_add _)
  rw [e]
  rfl

/-- The host's gate. -/
theorem gate_eq (z : EReal) :
    FloatOps.mulf (F := Ideal) (φ := .f32) z (FloatOps.hostDivf (F := Ideal) (φ := .f32) (FloatOps.ofBits (F := Ideal) .f32 0x3F800000#32)
      (FloatOps.addf (F := Ideal) (φ := .f32) (FloatOps.ofBits (F := Ideal) .f32 0x3F800000#32) (FloatOps.hostUnary (F := Ideal) (φ := .f32) .exp (FloatOps.hostNegf (F := Ideal) (φ := .f32) z)))) = gate z := rfl

section Stages
variable (x0 x1 x2 x3 : (⟨S8x4096x512, .f32⟩ : BufTy).Contents (Elt Ideal)) (x4 : (⟨S8x4096x1024, .f32⟩ : BufTy).Contents (Elt Ideal)) (x5 : (⟨S128, .f32⟩ : BufTy).Contents (Elt Ideal))
  (x6 : (⟨S1024x1024, .f32⟩ : BufTy).Contents (Elt Ideal)) (x7 : (⟨S8x1x1024, .f32⟩ : BufTy).Contents (Elt Ideal)) (x8 : (⟨S1024, .f32⟩ : BufTy).Contents (Elt Ideal))
  (x9 x10 x11 : (⟨S8x1x1024, .f32⟩ : BufTy).Contents (Elt Ideal)) (x12 x13 : (⟨S1024x2816, .f32⟩ : BufTy).Contents (Elt Ideal)) (x14 : (⟨S2816x1024, .f32⟩ : BufTy).Contents (Elt Ideal))
  (b : Fin 8) (p : Fin 4096)

/-- The two directions added, by head and channel. -/
theorem sum_heads (n : Fin 4) (l : Fin 128) (q : Fin 512) (hq : q.val = 128 * n.val + l.val) :
    val_main_v2 (F := Ideal) x1 x2 (ix4 b p n l) = (x1 (ix3 b p q) + x2 (ix3 b p q) : EReal) := by
  have hb := b.isLt
  have hp := p.isLt
  have hn := n.isLt
  have hl := l.isLt
  have e : idx_main_v0 (ix4 b p n l) = ix3 b p q := by
    funext a
    apply Fin.ext
    match a with
    | ⟨0, _⟩ => show (((b.val * 4096 + p.val) * 4 + n.val) * 128 + l.val) / 2097152 = b.val; omega
    | ⟨1, _⟩ => show (((b.val * 4096 + p.val) * 4 + n.val) * 128 + l.val) / 512 % 4096 = p.val; omega
    | ⟨2, _⟩ => show (((b.val * 4096 + p.val) * 4 + n.val) * 128 + l.val) % 512 = q.val; omega
  rw [val_main_v2_apply, val_main_v0_apply, val_main_v1_apply]
  rw [show idx_main_v1 (ix4 b p n l) = ix3 b p q from e, e]
  rfl

/-- One head's row, normalised and scaled. -/
theorem head_norm (n : Fin 4) (l : Fin 128) (q : Fin 512) (hq : q.val = 128 * n.val + l.val) :
    val_main_v15 (F := Ideal) x1 x2 x5 (ix4 b p n l)
      = (((x1 (ix3 b p q) + x2 (ix3 b p q)) * rmsFactor 0x43000000#32 (fun k : Fin 128 => (fun z : Fin 512 => (x1 (ix3 b p z) + x2 (ix3 b p z) : EReal)) ⟨128 * (q.val / 128) + k.val, by have := q.isLt; have := k.isLt; omega⟩))
          * x5 (ix1 l) : EReal) := by
  have hl := l.isLt
  have e4 (k : Fin 128) : idx_main_v4 (idx_main_v5 (idx_main_v11 (ix4 b p n l))) k = ix4 b p n k := by
    funext a
    match a with
    | ⟨0, _⟩ => rfl
    | ⟨1, _⟩ => rfl
    | ⟨2, _⟩ => rfl
    | ⟨3, _⟩ => rfl
  have e5 : idx_main_v13 (idx_main_v14 (ix4 b p n l)) = ix1 l := by
    funext a
    match a with
    | ⟨0, _⟩ => rfl
  rw [val_main_v15_apply, val_main_v12_apply, val_main_v14_apply, val_main_v13_apply, val_main_v11_apply, val_main_v10_apply, val_main_v9_apply, val_main_v7_apply, val_main_v8_apply,
    val_main_v6_apply, val_main_v5_apply, val_main_v4_apply, val_main_cst_apply, val_main_cst_0_apply, val_main_cst_1_apply, e5, sum_heads x1 x2 b p n l q hq]
  refine congrArg₂ (fun u v : EReal => u * v) (congrArg (fun v : EReal => (x1 (ix3 b p q) + x2 (ix3 b p q)) * v) ?_) rfl
  refine Eq.trans ?_ (factor_eq 0x43000000#32 _)
  have es (k : Fin 128) : val_main_v3 (F := Ideal) x1 x2 (idx_main_v4 (idx_main_v5 (idx_main_v11 (ix4 b p n l))) k)
      = ((fun z : Fin 512 => (x1 (ix3 b p z) + x2 (ix3 b p z) : EReal)) ⟨128 * (q.val / 128) + k.val, by have := q.isLt; have := k.isLt; omega⟩
        * (fun z : Fin 512 => (x1 (ix3 b p z) + x2 (ix3 b p z) : EReal)) ⟨128 * (q.val / 128) + k.val, by have := q.isLt; have := k.isLt; omega⟩ : EReal) := by
    rw [e4, val_main_v3_apply, sum_heads x1 x2 b p n k ⟨128 * (q.val / 128) + k.val, by have := q.isLt; have := k.isLt; omega⟩ (by show 128 * (q.val / 128) + k.val = 128 * n.val + k.val; omega)]
    rfl
  rw [Finset.sum_congr rfl fun k _ => es k]

/-- The heads' half of the mixed row. -/
theorem head_row (q : Fin 512) : val_main_v18 (F := Ideal) x1 x2 x3 x5 (ix3 b p q)
    = head (fun k => x1 (ix3 b p k) + x2 (ix3 b p k)) (fun k => x3 (ix3 b p k)) (fun k => x5 (ix1 k)) q := by
  have hb := b.isLt
  have hp := p.isLt
  have hq := q.isLt
  have e : idx_main_v16 (ix3 b p q) = ix4 b p (⟨q.val / 128, by omega⟩ : Fin 4) (⟨q.val % 128, by omega⟩ : Fin 128) := by
    funext a
    apply Fin.ext
    match a with
    | ⟨0, _⟩ => show ((b.val * 4096 + p.val) * 512 + q.val) / 2097152 = b.val; omega
    | ⟨1, _⟩ => show ((b.val * 4096 + p.val) * 512 + q.val) / 512 % 4096 = p.val; omega
    | ⟨2, _⟩ => show ((b.val * 4096 + p.val) * 512 + q.val) / 128 % 4 = q.val / 128; omega
    | ⟨3, _⟩ => show ((b.val * 4096 + p.val) * 512 + q.val) % 128 = q.val % 128; omega
  rw [val_main_v18_apply, val_main_v16_apply, e, head_norm x1 x2 x5 b p _ _ q (by show q.val = 128 * (q.val / 128) + q.val % 128; omega), val_main_v17_apply, val_main_call0_v5_apply,
    val_main_call0_v4_apply, val_main_call0_v3_apply, val_main_call0_v2_apply, val_main_call0_v1_apply, val_main_call0_v0_apply, val_main_call0_cst_apply, val_main_call0_cst_0_apply, gate_eq]
  rfl

/-- The mixed row. -/
theorem mix_row (q : Fin 1024) : val_main_v19 (F := Ideal) x0 x1 x2 x3 x5 (ix3 b p q)
    = mix (fun q => x0 (ix3 b p q)) (fun k => x1 (ix3 b p k) + x2 (ix3 b p k)) (fun k => x3 (ix3 b p k)) (fun k => x5 (ix1 k)) q := by
  unfold mix val_main_v19
  by_cases h : q.val < 512
  · rw [dif_pos h]
    refine concatenate_pair_apply_left 2 x0 (val_main_v18 (F := Ideal) x1 x2 x3 x5) _ (ix3 b p q) rfl (ix3 b p ⟨q.val, h⟩ : S8x4096x512.Idx) fun a => ?_
    match a with
    | ⟨0, _⟩ => rfl
    | ⟨1, _⟩ => rfl
    | ⟨2, _⟩ => rfl
  · rw [dif_neg h]
    have hq := q.isLt
    refine (concatenate_pair_apply_right 2 x0 (val_main_v18 (F := Ideal) x1 x2 x3 x5) _ (ix3 b p q) rfl rfl (ix3 b p ⟨q.val - 512, by omega⟩ : S8x4096x512.Idx) (fun a ha => ?_) ?_).trans (head_row x1 x2 x3 x5 b p _)
    · match a with
      | ⟨0, _⟩ => rfl
      | ⟨1, _⟩ => rfl
      | ⟨2, _⟩ => exact absurd rfl ha
    · show q.val - 512 + 512 = q.val
      omega

/-- The residual after the output projection. -/
theorem resid_row (j : Fin 1024) : val_main_v23 (F := Ideal) x0 x1 x2 x3 x4 x5 x6 x7 (ix3 b p j)
    = resid (mix (fun q => x0 (ix3 b p q)) (fun k => x1 (ix3 b p k) + x2 (ix3 b p k)) (fun k => x3 (ix3 b p k)) (fun k => x5 (ix1 k)))
        (fun q j => x6 (ix2 q j)) (fun j => x4 (ix3 b p j)) (fun j => x7 (ix3 b (0 : Fin 1) j)) j := by
  have el (k : Fin 1024) : lidx_main_v20 (ix3 b p j) k = ix3 b p k := by
    funext a
    match a with
    | ⟨0, _⟩ => rfl
    | ⟨1, _⟩ => rfl
    | ⟨2, _⟩ => rfl
  have er (k : Fin 1024) : ridx_main_v20 (ix3 b p j) k = ix2 k j := by
    funext a
    match a with
    | ⟨0, _⟩ => rfl
    | ⟨1, _⟩ => rfl
  have eg : idx_main_v21 (ix3 b p j) = ix3 b (0 : Fin 1) j := by
    funext a
    match a with
    | ⟨0, _⟩ => rfl
    | ⟨1, _⟩ => rfl
    | ⟨2, _⟩ => rfl
  rw [val_main_v23_apply, val_main_v22_apply, val_main_v21_apply, val_main_v20_apply, eg]
  simp only [el, er, mix_row]
  rfl

/-- Its modulated norm. -/
theorem modul_row (j : Fin 1024) : val_main_v42 (F := Ideal) x0 x1 x2 x3 x4 x5 x6 x7 x8 x9 x10 (ix3 b p j)
    = modul (fun q => val_main_v23 (F := Ideal) x0 x1 x2 x3 x4 x5 x6 x7 (ix3 b p q)) (fun q => x8 (ix1 q)) (fun q => x9 (ix3 b (0 : Fin 1) q)) (fun q => x10 (ix3 b (0 : Fin 1) q)) j := by
  have e25 (k : Fin 1024) : idx_main_v25 (idx_main_v26 (idx_main_v32 (ix3 b p j))) k = ix3 b p k := by
    funext a
    match a with
    | ⟨0, _⟩ => rfl
    | ⟨1, _⟩ => rfl
    | ⟨2, _⟩ => rfl
  have e34 : idx_main_v34 (idx_main_v35 (ix3 b p j)) = ix1 j := by
    funext a
    match a with
    | ⟨0, _⟩ => rfl
  have e39 : idx_main_v39 (ix3 b p j) = ix3 b (0 : Fin 1) j := by
    funext a
    match a with
    | ⟨0, _⟩ => rfl
    | ⟨1, _⟩ => rfl
    | ⟨2, _⟩ => rfl
  have e41 : idx_main_v41 (ix3 b p j) = ix3 b (0 : Fin 1) j := e39
  rw [val_main_v42_apply, val_main_v41_apply, val_main_v40_apply, val_main_v39_apply, val_main_v38_apply, val_main_v37_apply, val_main_cst_5_apply, val_main_v36_apply, val_main_v35_apply,
    val_main_v34_apply, val_main_v33_apply, val_main_v32_apply, val_main_v31_apply, val_main_v30_apply, val_main_v29_apply, val_main_v28_apply, val_main_v27_apply, val_main_v26_apply,
    val_main_v25_apply, val_main_cst_2_apply, val_main_cst_3_apply, val_main_cst_4_apply, e34, e39, e41]
  simp only [e25, val_main_v24_apply]
  generalize val_main_v23 (F := Ideal) x0 x1 x2 x3 x4 x5 x6 x7 = X
  unfold modul
  rw [← mul_assoc, ← factor_eq]
  rfl

/-- The hidden units of the feed-forward. -/
theorem unit_row (f : Fin 2816) : val_main_v46 (F := Ideal) x0 x1 x2 x3 x4 x5 x6 x7 x8 x9 x10 x12 x13 (ix3 b p f)
    = unit (fun q => val_main_v42 (F := Ideal) x0 x1 x2 x3 x4 x5 x6 x7 x8 x9 x10 (ix3 b p q)) (fun q => x12 (ix2 q f)) (fun q => x13 (ix2 q f)) := by
  have el (k : Fin 1024) : lidx_main_v43 (ix3 b p f) k = ix3 b p k := by
    funext a
    match a with
    | ⟨0, _⟩ => rfl
    | ⟨1, _⟩ => rfl
    | ⟨2, _⟩ => rfl
  have er (k : Fin 1024) : ridx_main_v43 (ix3 b p f) k = ix2 k f := by
    funext a
    match a with
    | ⟨0, _⟩ => rfl
    | ⟨1, _⟩ => rfl
  have el' (k : Fin 1024) : lidx_main_v45 (ix3 b p f) k = ix3 b p k := el k
  have er' (k : Fin 1024) : ridx_main_v45 (ix3 b p f) k = ix2 k f := er k
  rw [val_main_v46_apply, val_main_v45_apply, val_main_v44_apply, val_main_call1_v5_apply,
    val_main_call1_v4_apply, val_main_call1_v3_apply, val_main_call1_v2_apply, val_main_call1_v1_apply, val_main_call1_v0_apply, val_main_call1_cst_apply, val_main_call1_cst_0_apply, gate_eq,
    val_main_v43_apply]
  simp only [el, er, el', er']
  rfl

/-- The reference's first result at an element. -/
theorem layer_row (j : Fin 1024) : val_main_v50 (F := Ideal) x0 x1 x2 x3 x4 x5 x6 x7 x8 x9 x10 x11 x12 x13 x14 (ix3 b p j)
    = layer x0 x1 x2 x3 x4 x5 x6 x7 x8 x9 x10 x11 x12 x13 x14 b p j := by
  have el (k : Fin 2816) : lidx_main_v47 (ix3 b p j) k = ix3 b p k := by
    funext a
    match a with
    | ⟨0, _⟩ => rfl
    | ⟨1, _⟩ => rfl
    | ⟨2, _⟩ => rfl
  have er (k : Fin 2816) : ridx_main_v47 (ix3 b p j) k = ix2 k j := by
    funext a
    match a with
    | ⟨0, _⟩ => rfl
    | ⟨1, _⟩ => rfl
  have eg : idx_main_v48 (ix3 b p j) = ix3 b (0 : Fin 1) j := by
    funext a
    match a with
    | ⟨0, _⟩ => rfl
    | ⟨1, _⟩ => rfl
    | ⟨2, _⟩ => rfl
  rw [val_main_v50_apply, val_main_v49_apply, val_main_v48_apply, val_main_v47_apply, eg]
  simp only [el, er, unit_row, modul_row, resid_row]
  rfl

end Stages

end Cert.Reference2Ideal.Out

end
-- ==== Proof.ProjRow.lean ====
/- The input projections of one token, as plain sums over the extended reals, and the operations of the call's body read as them:
   the modulated norm, its product with a slab of the weight, and the two decay gates with their logarithm of a sigmoid. -/
module

public import proofs.«01_k».proof.Proof.OutRow
public import proofs.«01_k».proof.Proof.Gen.Kernel3Ideal.Frame
public import Idealize.ShloMosaic.Lib.IdealHost

@[expose] public section

set_option maxRecDepth 16384

noncomputable section

namespace Cert.Kernel3Ideal.Proj

open Cert.Kernel3Ideal Cert.Kernel3Ideal.Gen
open Idealize.ShloMosaic hiding ix1 ix2 ix3 ix4
open Cert.Kernel2Ideal.Out (modul rmsFactor)
open ValueIdx (ix1 ix2 ix3)

open scoped BigOperators

/-! ## One token -/

/-- The logarithm of the sigmoid, over the normaliser 16. -/
def logGate (z : EReal) : EReal :=
  Ideal.div (min z 0 - Ideal.log (1 + Ideal.exp (0 - max z (-z)))) (Ideal.ofBits .f32 0x41800000#32)

/-- The logarithm of one plus an exponential is not minus infinity. -/
theorem log_one_exp (z : EReal) : Ideal.log (1 + Ideal.exp z) ≠ ⊥ := by
  induction z with
  | bot =>
    show Ideal.log (1 + 0) ≠ ⊥
    rw [add_zero]
    show (if (1 : ℝ) ≤ 0 then (⊥ : EReal) else (Real.log 1 : EReal)) ≠ ⊥
    rw [if_neg (by norm_num)]
    exact EReal.coe_ne_bot _
  | top =>
    show Ideal.log (1 + ⊤) ≠ ⊥
    rw [show (1 : EReal) + ⊤ = ⊤ from EReal.coe_add_top 1]
    exact top_ne_bot
  | coe r =>
    have hr := Real.exp_pos r
    show Ideal.log ((1 : ℝ) + (Real.exp r : ℝ) : EReal) ≠ ⊥
    rw [← EReal.coe_add]
    show (if (1 + Real.exp r : ℝ) ≤ 0 then (⊥ : EReal) else (Real.log (1 + Real.exp r) : EReal)) ≠ ⊥
    rw [if_neg (by linarith)]
    exact EReal.coe_ne_bot _

/-- The negative of the larger of `-z` and zero is the smaller of `z` and zero. -/
theorem neg_max_neg (z : EReal) : -(max (-z) 0) = min z 0 := by
  rcases le_total z 0 with h | h
  · rw [min_eq_left h, max_eq_left (EReal.neg_nonneg.mpr h), neg_neg]
  · rw [min_eq_right h, max_eq_right (by simpa using EReal.neg_le_neg_iff.mpr h), neg_zero]

/-- The softplus of the negative, negated, is the logarithm of the sigmoid. -/
theorem neg_softplus (z : EReal) :
    -(max (-z) 0 + Ideal.log1p (Ideal.exp (-(max (-z - 0) (-(-z - 0)))))) = min z 0 - Ideal.log (1 + Ideal.exp (0 - max z (-z))) := by
  rw [sub_zero, neg_neg, max_comm (-z) z, zero_sub]
  unfold Ideal.log1p
  have h0 : max (-z) 0 ≠ ⊥ := fun h => absurd (h ▸ le_max_right (-z) (0 : EReal)) (by simp)
  rw [EReal.neg_add (.inl h0) (.inr (log_one_exp _)), neg_max_neg]

/-- A sum of products scaled by a nonnegative real is the sum of the products with one factor scaled. -/
theorem sum_scale {n : ℕ} (c : EReal) (h0 : 0 ≤ c) (h1 : c ≠ ⊤) (f : Fin n → EReal) : ∑ q, f q * c = (∑ q, f q) * c := by
  induction n with
  | zero => simp
  | succ n ih => rw [Fin.sum_univ_succ, Fin.sum_univ_succ, ih, EReal.right_distrib_of_nonneg_of_ne_top h0 h1]

/-- The word of one eighth is a nonnegative real. -/
theorem eighth : 0 ≤ Ideal.ofBits .f32 0x3E000000#32 ∧ Ideal.ofBits .f32 0x3E000000#32 ≠ ⊤ := by
  have e : Ideal.ofBits .f32 0x3E000000#32 = ((1 / 8 : ℝ) : EReal) := by
    simp [Ideal.ofBits, Ideal.ieee, -EReal.coe_mul]; norm_num
  rw [e]
  exact ⟨EReal.coe_nonneg.mpr (by norm_num), EReal.coe_ne_top _⟩

/-! ## The body's operations at an element -/

/-- The modulated norm of the block at an element. -/
theorem pay5_apply (x : Vec Ideal S1x512x1024 .f32) (nw : Vec Ideal S1x1024 .f32) (sc sh : Vec Ideal S1x1x1024 .f32) (i : Fin 512) (j : Fin 1024) :
    k0_pay5 x nw sc sh (ix2 i j)
      = modul (fun q => x (ix3 (0 : Fin 1) i q)) (fun q => nw (ix2 (0 : Fin 1) q)) (fun q => sh (ix3 (0 : Fin 1) (0 : Fin 1) q)) (fun q => sc (ix3 (0 : Fin 1) (0 : Fin 1) q)) j := by
  unfold k0_pay5
  have hx (q : Fin 1024) : shapeCast S512x1024 x shapeCasts_S1x512x1024_S512x1024 (ix2 i q) = x (ix3 (0 : Fin 1) i q) := ValueIdx.shapeCast_1ab_ab_apply _ _ _ _
  rw [← funext hx]
  unfold modul
  refine congrArg₂ (· + ·) (congrArg₂ (· * ·) (congrArg₂ (· * ·) rfl (Cert.Kernel2Ideal.Out.rms_apply _ _ _ _ i j)) ?_) (Cert.Kernel2Ideal.Out.row_apply sh i j)
  refine (ValueIdx.broadcastTo_1b_ab_apply _ _ i j).trans ?_
  rw [shapeCast_id]
  exact congrArg (_ * ·) (congrArg (_ + ·) (ValueIdx.shapeCast_1ab_ab_apply _ _ _ _))

theorem dot_wide_plain : dot_S512x1024_S1024x512_S512x512_1_0_0_1_n_n = DotDims.plain 512 1024 512 := rfl
theorem dot_half_plain : dot_S512x1024_S1024x256_S512x256_1_0_0_1_n_n = DotDims.plain 512 1024 256 := rfl
theorem dot_low_plain : dot_S512x1024_S1024x32_S512x32_1_0_0_1_n_n = DotDims.plain 512 1024 32 := rfl
theorem dot_gate_plain : dot_S512x32_S32x512_S512x512_1_0_0_1_n_n = DotDims.plain 512 32 512 := rfl

/-- A product of the block with 512 columns of the weight, at an element. -/
theorem pay9_apply (h : FVec Ideal S512x1024 .bf16) (w : Vec Ideal S1024x512 .bf16) (i j : Fin 512) :
    k0_pay9 h w (ix3 (0 : Fin 1) i j) = ∑ q : Fin 1024, h (ix2 i q) * w (ix2 q j) := by
  unfold k0_pay9
  refine (ValueIdx.shapeCast_ab_1ab_apply _ _ _ i j).trans ?_
  rw [dot_wide_plain, shapeCast_id]
  refine (Ideal.matmul_plain_apply (φ₁ := .bf16) (φ₂ := .bf16) none h w _ i j).trans ?_
  rw [show constant (F := Ideal) S512x512 .f32 0x00000000#32 (ix2 i j) = 0 from Ideal.ofBits_zero_f32, zero_add]

/-- A product of the block with 256 columns of the weight, at an element. -/
theorem pay10_apply (h : FVec Ideal S512x1024 .bf16) (w : Vec Ideal S1024x256 .bf16) (i : Fin 512) (j : Fin 256) :
    k0_pay10 h w (ix3 (0 : Fin 1) i j) = ∑ q : Fin 1024, h (ix2 i q) * w (ix2 q j) := by
  unfold k0_pay10
  refine (ValueIdx.shapeCast_ab_1ab_apply _ _ _ i j).trans ?_
  rw [dot_half_plain, shapeCast_id]
  refine (Ideal.matmul_plain_apply none _ _ _ i j).trans ?_
  rw [show constant (F := Ideal) S512x256 .f32 0x00000000#32 (ix2 i j) = 0 from Ideal.ofBits_zero_f32, zero_add]

/-- The gates before the sigmoid, at an element: the block through the low-rank weight, through the gates' weight, and the bias. -/
theorem pay8_apply (x : Vec Ideal S1x512x1024 .f32) (nw : Vec Ideal S1x1024 .f32) (sc sh : Vec Ideal S1x1x1024 .f32) (wl : Vec Ideal S1024x32 .bf16) (wg : Vec Ideal S32x512 .bf16)
    (bg : Vec Ideal S1x512 .f32) (i j : Fin 512) :
    k0_pay8 (k0_pay6 x nw sc sh wl wg) (k0_pay7 bg) (ix2 i j)
      = (∑ r : Fin 32, (∑ q : Fin 1024, k0_pay5 x nw sc sh (ix2 i q) * wl (ix2 q r)) * wg (ix2 r j)) + bg (ix2 (0 : Fin 1) j) := by
  unfold k0_pay8 k0_pay7 k0_pay6
  refine congrArg₂ (· + ·) ?_ ?_
  · rw [dot_gate_plain, shapeCast_id wg]
    refine (Ideal.matmul_plain_apply (φ₁ := .bf16) (φ₂ := .bf16) none _ wg _ i j).trans ?_
    rw [show constant (F := Ideal) S512x512 .f32 0x00000000#32 (ix2 i j) = 0 from Ideal.ofBits_zero_f32, zero_add]
    refine Finset.sum_congr rfl fun r _ => congrArg (· * _) ?_
    rw [dot_low_plain, shapeCast_id]
    refine (Ideal.matmul_plain_apply (φ₁ := .bf16) (φ₂ := .bf16) none (k0_pay5 x nw sc sh) wl _ i r).trans ?_
    rw [show constant (F := Ideal) S512x32 .f32 0x00000000#32 (ix2 i r) = 0 from Ideal.ofBits_zero_f32, zero_add]
  · rw [shapeCast_id]
    exact ValueIdx.broadcastTo_1b_ab_apply _ _ i j

/-- The logarithm of the gates at an element. -/
theorem pay2_apply (z : FVec Ideal S512x512 .f32) (i j : Fin 512) : k0_pay2 z (ix2 i j) = logGate (z (ix2 i j)) := by
  unfold k0_pay2 logGate
  rw [← Ideal.ofBits_zero_f32, ← Ideal.ofBits_one_f32]
  rfl

/-- The forward gates: the first 256 columns. -/
theorem pay3_apply (z : FVec Ideal S512x512 .f32) (i : Fin 512) (j : Fin 256) (k : Fin 512) (hk : k.val = 0 + j.val) : k0_pay3 z (ix3 (0 : Fin 1) i j) = logGate (z (ix2 i k)) := by
  unfold k0_pay3
  exact (ValueIdx.shapeCast_ab_1ab_apply _ _ _ i j).trans ((ValueIdx.slice2_axis1_apply 0 _ _ i j k hk).trans (pay2_apply z i k))

/-- The backward gates: the last 256 columns. -/
theorem pay4_apply (z : FVec Ideal S512x512 .f32) (i : Fin 512) (j : Fin 256) (k : Fin 512) (hk : k.val = 256 + j.val) : k0_pay4 z (ix3 (0 : Fin 1) i j) = logGate (z (ix2 i k)) := by
  unfold k0_pay4
  exact (ValueIdx.shapeCast_ab_1ab_apply _ _ _ i j).trans ((ValueIdx.slice2_axis1_apply 256 _ _ i j k hk).trans (pay2_apply z i k))

/-- A load of whole columns of the weight. -/
theorem ld_cols {n : ℕ} (x : Vec Ideal S1024x2048 .bf16) (o : ℕ) (h : ∀ a, (![0, o] : Fin 2 → ℕ) a + (![1024, n] : Fin 2 → ℕ) a ≤ S1024x2048.size a)
    (q : Fin 1024) (j : Fin n) (k : Fin 2048) (hk : k.val = o + j.val) :
    (View.ld x (Rect.unit (s := S1024x2048) ![0, o] ![1024, n] h) : (⟨2, ![1024, n]⟩ : Shape).Idx → EReal) (ix2 q j) = x (ix2 q k) :=
  (congrFun (View.ld_unit x _ _ h) (ix2 q j)).trans (ValueIdx.slice2_axis1_apply o x _ q j k hk)

theorem zero2 : (![0, 0] : Fin 2 → ℕ) = fun _ => 0 := funext fun | 0 => rfl | 1 => rfl
theorem zero3 : (![0, 0, 0] : Fin 3 → ℕ) = fun _ => 0 := funext fun | 0 => rfl | 1 => rfl | 2 => rfl

section Outs
variable (x0 : Vec Ideal S1x512x1024 .f32) (x1 : Vec Ideal S1x1024 .f32) (x2 x3 : Vec Ideal S1x1x1024 .f32) (x4 : Vec Ideal S1024x2048 .bf16) (x5 : Vec Ideal S1024x32 .bf16)
  (x6 : Vec Ideal S32x512 .bf16) (x7 : Vec Ideal S1x512 .f32) (i : Fin 512)

/-- Row `i` of the block's modulated norm. -/
abbrev normRow (q : Fin 1024) : EReal :=
  modul (fun q => x0 (ix3 (0 : Fin 1) i q)) (fun q => x1 (ix2 (0 : Fin 1) q)) (fun q => x2 (ix3 (0 : Fin 1) (0 : Fin 1) q)) (fun q => x3 (ix3 (0 : Fin 1) (0 : Fin 1) q)) q

theorem pay14_eq : k0_pay14 x0 x1 x2 x3 x4 x5 x6 x7 = k0_pay5 x0 x1 x3 x2 := by
  unfold k0_pay14
  rw [View.ld_unit_zero zero3, View.ld_unit_zero zero2, View.ld_unit_zero zero3, View.ld_unit_zero zero3]

theorem pay15_eq : k0_pay15 x0 x1 x2 x3 x4 x5 x6 x7 = k0_pay8 (k0_pay6 x0 x1 x3 x2 x5 x6) (k0_pay7 x7) := by
  unfold k0_pay15
  rw [View.ld_unit_zero zero3, View.ld_unit_zero zero2, View.ld_unit_zero zero3, View.ld_unit_zero zero3, View.ld_unit_zero zero2, View.ld_unit_zero zero2, View.ld_unit_zero zero2]

/-- The three results of 512 columns, at an element of the block. -/
theorem wide_apply (j : Fin 512) :
    (∀ k : Fin 2048, k.val = 0 + j.val → out0_8 x0 x1 x2 x3 x4 x5 x6 x7 (ix3 (0 : Fin 1) i j) = ∑ q, normRow x0 x1 x2 x3 i q * x4 (ix2 q k))
    ∧ (∀ k : Fin 2048, k.val = 1024 + j.val → out0_11 x0 x1 x2 x3 x4 x5 x6 x7 (ix3 (0 : Fin 1) i j) = ∑ q, normRow x0 x1 x2 x3 i q * x4 (ix2 q k))
    ∧ (∀ k : Fin 2048, k.val = 1536 + j.val → out0_12 x0 x1 x2 x3 x4 x5 x6 x7 (ix3 (0 : Fin 1) i j) = ∑ q, normRow x0 x1 x2 x3 i q * x4 (ix2 q k)) := by
  refine ⟨fun k hk => ?_, fun k hk => ?_, fun k hk => ?_⟩
  · unfold out0_8
    rw [View.canon_unit_zero zero3, pay14_eq]
    exact (pay9_apply _ _ i j).trans (Finset.sum_congr rfl fun q _ => congrArg₂ (· * ·) (pay5_apply x0 x1 x3 x2 i q) (ld_cols x4 0 _ q j k hk))
  · unfold out0_11
    rw [View.canon_unit_zero zero3, pay14_eq]
    exact (pay9_apply _ _ i j).trans (Finset.sum_congr rfl fun q _ => congrArg₂ (· * ·) (pay5_apply x0 x1 x3 x2 i q) (ld_cols x4 1024 _ q j k hk))
  · unfold out0_12
    rw [View.canon_unit_zero zero3, pay14_eq]
    exact (pay9_apply _ _ i j).trans (Finset.sum_congr rfl fun q _ => congrArg₂ (· * ·) (pay5_apply x0 x1 x3 x2 i q) (ld_cols x4 1536 _ q j k hk))

/-- The two results of 256 columns. -/
theorem half_apply (j : Fin 256) :
    (∀ k : Fin 2048, k.val = 512 + j.val → out0_9 x0 x1 x2 x3 x4 x5 x6 x7 (ix3 (0 : Fin 1) i j) = ∑ q, normRow x0 x1 x2 x3 i q * x4 (ix2 q k))
    ∧ (∀ k : Fin 2048, k.val = 768 + j.val → out0_10 x0 x1 x2 x3 x4 x5 x6 x7 (ix3 (0 : Fin 1) i j) = ∑ q, normRow x0 x1 x2 x3 i q * x4 (ix2 q k)) := by
  refine ⟨fun k hk => ?_, fun k hk => ?_⟩
  · unfold out0_9
    rw [View.canon_unit_zero zero3, pay14_eq]
    exact (pay10_apply _ _ i j).trans (Finset.sum_congr rfl fun q _ => congrArg₂ (· * ·) (pay5_apply x0 x1 x3 x2 i q) (ld_cols x4 512 _ q j k hk))
  · unfold out0_10
    rw [View.canon_unit_zero zero3, pay14_eq]
    exact (pay10_apply _ _ i j).trans (Finset.sum_congr rfl fun q _ => congrArg₂ (· * ·) (pay5_apply x0 x1 x3 x2 i q) (ld_cols x4 768 _ q j k hk))

/-- The gates before the sigmoid, for row `i`, column `k` of both directions side by side. -/
abbrev gateRow (k : Fin 512) : EReal := (∑ r : Fin 32, (∑ q : Fin 1024, normRow x0 x1 x2 x3 i q * x5 (ix2 q r)) * x6 (ix2 r k)) + x7 (ix2 (0 : Fin 1) k)

theorem gate_apply (k : Fin 512) : k0_pay15 x0 x1 x2 x3 x4 x5 x6 x7 (ix2 i k) = gateRow x0 x1 x2 x3 x5 x6 x7 i k := by
  rw [pay15_eq, pay8_apply]
  simp only [pay5_apply]

/-- The two decay gates. -/
theorem decay_apply (j : Fin 256) :
    (∀ k : Fin 512, k.val = 0 + j.val → out0_13 x0 x1 x2 x3 x4 x5 x6 x7 (ix3 (0 : Fin 1) i j) = logGate (gateRow x0 x1 x2 x3 x5 x6 x7 i k))
    ∧ (∀ k : Fin 512, k.val = 256 + j.val → out0_14 x0 x1 x2 x3 x4 x5 x6 x7 (ix3 (0 : Fin 1) i j) = logGate (gateRow x0 x1 x2 x3 x5 x6 x7 i k)) := by
  refine ⟨fun k hk => ?_, fun k hk => ?_⟩
  · unfold out0_13
    rw [View.canon_unit_zero zero3]
    exact (pay3_apply _ i j k hk).trans (congrArg logGate (gate_apply x0 x1 x2 x3 x4 x5 x6 x7 i k))
  · unfold out0_14
    rw [View.canon_unit_zero zero3]
    exact (pay4_apply _ i j k hk).trans (congrArg logGate (gate_apply x0 x1 x2 x3 x4 x5 x6 x7 i k))

end Outs

end Cert.Kernel3Ideal.Proj

end
-- ==== Proof.ProjIn.lean ====
/- What the input-projection call reads: the arrays the host lines before it leave, and each window's block at a grid point, as elements of the program's arguments. -/
module

public import proofs.«01_k».proof.Proof.ProjRow
public import proofs.«01_k».proof.Proof.OutIn
public import proofs.«01_k».proof.Proof.Gen.Kernel3Ideal.Value
public import Idealize.ShloMosaic.Lib.Pipeline.ValueKit.Geometry
public import Idealize.ShloMosaic.Lib.KernelVsHost

@[expose] public section

set_option maxRecDepth 16384

noncomputable section

namespace Cert.Kernel3Ideal.Proj

open Cert.Kernel3Ideal Cert.Kernel3Ideal.Gen
open Idealize.ShloMosaic hiding ix1 ix2 ix3 ix4 ix5
open Idealize.ShloMosaic.TcCoe Idealize.ShloMosaic.Tactic
open Idealize.SL.Sem
open Idealize.ShloMosaic.Pipeline (Dat Cfg Window)
open ValueIdx (ix1 ix2 ix3)

variable (m : (ℓ : Loc nD τ sig) → Buf (Elt Ideal) ℓ)

/-! ## The host lines' arrays -/

/-- The query columns of the weight, as bits of a comparison of the columns' numbers. -/
def queryBit : S2048.Idx → BitVec 1 :=
  andi (cmpi .sge (iotaInDim S2048 32 0) (broadcastInDim S2048 ![] bcast_S_S2048 (constantI S_ 32 512#32)))
    (cmpi .slt (iotaInDim S2048 32 0) (broadcastInDim S2048 ![] bcast_S_S2048 (constantI S_ 32 768#32)))

theorem queryBit_apply : ∀ J : Fin 2048, queryBit (ix1 J) = if 512 ≤ J.val ∧ J.val < 768 then 1#1 else 0#1 := by decide +kernel

/-- The columns' scales: one eighth for a query column, one for another. -/
def scales : FVec Ideal S2048 .f32 :=
  select queryBit (broadcastInDim S2048 ![] bcast_S_S2048 (constant (F := Ideal) S_ .f32 0x3E000000#32)) (broadcastInDim S2048 ![] bcast_S_S2048 (constant (F := Ideal) S_ .f32 0x3F800000#32))

/-- One column's scale. -/
def colScale (J : Fin 2048) : EReal := if 512 ≤ J.val ∧ J.val < 768 then Ideal.ofBits .f32 0x3E000000#32 else 1

theorem scales_apply (J : Fin 2048) : scales (ix1 J) = colScale J := by
  unfold scales colScale
  rw [ValueIdx.select_apply, queryBit_apply]
  split
  · rw [ValueIdx.select_one]
    exact ValueIdx.broadcastInDim_scalar_apply _ _ _
  · rw [ValueIdx.select_zero]
    exact (ValueIdx.broadcastInDim_scalar_apply _ _ _).trans Ideal.ofBits_one_f32

/-- The zeros beside the gates' weights. -/
def zeros : FVec Ideal S16x256 .f32 := broadcastInDim S16x256 ![] bcast_S_S16x256 (constant (F := Ideal) S_ .f32 0x00000000#32)

theorem zeros_apply (i : S16x256.Idx) : zeros i = (0 : EReal) := (ValueIdx.broadcastInDim_scalar_apply _ _ _).trans Ideal.ofBits_zero_f32

/-- The two gates' weights as blocks on a diagonal. -/
def diag (wf wb : FVec Ideal S16x256 .f32) : FVec Ideal S32x512 .f32 :=
  concatenate S32x512 0 [⟨S16x512, concatenate S16x512 1 [⟨S16x256, wf⟩, ⟨S16x256, zeros⟩] concatenates_S16x256_S16x256_S16x512_d1⟩,
    ⟨S16x512, concatenate S16x512 1 [⟨S16x256, zeros⟩, ⟨S16x256, wb⟩] concatenates_S16x256_S16x256_S16x512_d1⟩] concatenates_S16x512_S16x512_S32x512_d0

/-- The host lines leave the scaled weight, the low-rank weight, the gates' weights on a diagonal, the gates' biases in a row and the norm's weight in a row. -/
theorem host_in (c : Dev nD) :
    V m c main_v14 = (mulf (extractStridedSlice S1024x2048 ![0, 0] (m ((c : Thread nD τ).loc main_arg4) : FVec Ideal S1024x2080 .f32) slices_S1024x2080_S1024x2048_0_0)
        (broadcastInDim S1024x2048 ![0, 1] bcast_S1x2048_S1024x2048_0_1 (broadcastInDim S1x2048 ![1] bcast_S2048_S1x2048_1 scales)) : FVec Ideal S1024x2048 .f32)
    ∧ V m c main_v16 = extractStridedSlice S1024x32 ![0, 2048] (m ((c : Thread nD τ).loc main_arg4) : FVec Ideal S1024x2080 .f32) slices_S1024x2080_S1024x32_0_2048
    ∧ V m c main_v20 = diag (m ((c : Thread nD τ).loc main_arg5)) (m ((c : Thread nD τ).loc main_arg7))
    ∧ V m c main_v22 = shapeCast S1x512 (concatenate S512 0 [⟨S256, (m ((c : Thread nD τ).loc main_arg6) : FVec Ideal S256 .f32)⟩, ⟨S256, (m ((c : Thread nD τ).loc main_arg8) : FVec Ideal S256 .f32)⟩]
        concatenates_S256_S256_S512_d0) shapeCasts_S512_S1x512
    ∧ V m c main_v23 = shapeCast S1x1024 (m ((c : Thread nD τ).loc main_arg1) : FVec Ideal S1024 .f32) shapeCasts_S1024_S1x1024 := by
  refine ⟨?_, ?_, ?_, ?_, ?_⟩ <;>
  · unfold V
    simp only [hostOps0, hostOps0_1, hostOps0_2, List.flatten_cons, List.flatten_nil, List.append_nil, List.cons_append, List.nil_append]
    entry_read
    all_goals rfl

/-- The scaled weight at an element. -/
theorem main_in (c : Dev nD) (q : Fin 1024) (J : Fin 2048) (K : Fin 2080) (hK : K.val = J.val) :
    (V m c main_v14 : FVec Ideal S1024x2048 .bf16) (ix2 q J)
      = HMul.hMul (α := EReal) (β := EReal) (γ := EReal) ((m ((c : Thread nD τ).loc main_arg4) : FVec Ideal S1024x2080 .f32) (ix2 q K)) (colScale J) := by
  refine (congrFun (host_in m c).1 (ix2 q J)).trans ?_
  refine congrArg₂ (fun u v : EReal => u * v) (ValueIdx.slice2_axis1_apply 0 _ _ q J K (by omega)) ?_
  refine (broadcastInDim_apply _ _ _ (ix2 q J) (ix2 (0 : Fin 1) J) fun | ⟨0, _⟩ => rfl | ⟨1, _⟩ => rfl).trans ?_
  exact (broadcastInDim_apply _ _ _ (ix2 (0 : Fin 1) J) (ix1 J) fun | ⟨0, _⟩ => rfl).trans (scales_apply J)

/-- The low-rank weight at an element. -/
theorem low_in (c : Dev nD) (q : Fin 1024) (r : Fin 32) (K : Fin 2080) (hK : K.val = 2048 + r.val) :
    (V m c main_v16 : FVec Ideal S1024x32 .bf16) (ix2 q r) = (m ((c : Thread nD τ).loc main_arg4) : FVec Ideal S1024x2080 .f32) (ix2 q K) :=
  (congrFun (host_in m c).2.1 (ix2 q r)).trans (ValueIdx.slice2_axis1_apply 2048 _ _ q r K hK)

/-- Two arrays side by side, in the left one and in the right one. -/
theorem beside (a b : FVec Ideal S16x256 .f32) (h : Shape.Concatenates [S16x256, S16x256] S16x512 1) (r : Fin 16) (j : Fin 256) (k : Fin 512) :
    (k.val = 0 + j.val → concatenate S16x512 1 [⟨S16x256, a⟩, ⟨S16x256, b⟩] h (ix2 r k) = a (ix2 r j))
    ∧ (k.val = 256 + j.val → concatenate S16x512 1 [⟨S16x256, a⟩, ⟨S16x256, b⟩] h (ix2 r k) = b (ix2 r j)) := by
  refine ⟨fun hk => ?_, fun hk => ?_⟩
  · refine concatenate_pair_apply_left 1 a b h (ix2 r k) rfl (ix2 r j) fun x => ?_
    match x with
    | ⟨0, _⟩ => rfl
    | ⟨1, _⟩ => show j.val = k.val; omega
  · refine concatenate_pair_apply_right 1 a b h (ix2 r k) rfl rfl (ix2 r j) (fun x hx => ?_) ?_
    · match x with
      | ⟨0, _⟩ => rfl
      | ⟨1, _⟩ => exact absurd rfl hx
    · show j.val + 256 = k.val
      omega

/-- Two arrays one above the other. -/
theorem above (a b : FVec Ideal S16x512 .f32) (h : Shape.Concatenates [S16x512, S16x512] S32x512 0) (r : Fin 16) (R : Fin 32) (k : Fin 512) :
    (R.val = r.val → concatenate S32x512 0 [⟨S16x512, a⟩, ⟨S16x512, b⟩] h (ix2 R k) = a (ix2 r k))
    ∧ (R.val = 16 + r.val → concatenate S32x512 0 [⟨S16x512, a⟩, ⟨S16x512, b⟩] h (ix2 R k) = b (ix2 r k)) := by
  refine ⟨fun hk => ?_, fun hk => ?_⟩
  · refine concatenate_pair_apply_left 0 a b h (ix2 R k) rfl (ix2 r k) fun x => ?_
    match x with
    | ⟨0, _⟩ => exact hk.symm
    | ⟨1, _⟩ => rfl
  · refine concatenate_pair_apply_right 0 a b h (ix2 R k) rfl rfl (ix2 r k) (fun x hx => ?_) ?_
    · match x with
      | ⟨0, _⟩ => exact absurd rfl hx
      | ⟨1, _⟩ => rfl
    · show r.val + 16 = R.val
      omega

/-- The diagonal blocks at an element: a gate's own weight, or zero. -/
theorem diag_apply (wf wb : FVec Ideal S16x256 .f32) (r : Fin 16) (R S : Fin 32) (hR : R.val = r.val) (hS : S.val = 16 + r.val) (j : Fin 256) (k : Fin 512) :
    (k.val = 0 + j.val → diag wf wb (ix2 R k) = wf (ix2 r j) ∧ diag wf wb (ix2 S k) = (0 : EReal))
    ∧ (k.val = 256 + j.val → diag wf wb (ix2 R k) = (0 : EReal) ∧ diag wf wb (ix2 S k) = wb (ix2 r j)) := by
  unfold diag
  refine ⟨fun hk => ⟨?_, ?_⟩, fun hk => ⟨?_, ?_⟩⟩
  · exact ((above _ _ _ r R k).1 hR).trans ((beside _ _ _ r j k).1 hk)
  · exact (((above _ _ _ r S k).2 hS).trans ((beside _ _ _ r j k).1 hk)).trans (zeros_apply _)
  · exact (((above _ _ _ r R k).1 hR).trans ((beside _ _ _ r j k).2 hk)).trans (zeros_apply _)
  · exact ((above _ _ _ r S k).2 hS).trans ((beside _ _ _ r j k).2 hk)

/-- The gates' biases at an element. -/
theorem bias_in (c : Dev nD) (j : Fin 256) (k : Fin 512) :
    (k.val = 0 + j.val → (V m c main_v22 : FVec Ideal S1x512 .f32) (ix2 (0 : Fin 1) k) = (m ((c : Thread nD τ).loc main_arg6) : FVec Ideal S256 .f32) (ix1 j))
    ∧ (k.val = 256 + j.val → (V m c main_v22 : FVec Ideal S1x512 .f32) (ix2 (0 : Fin 1) k) = (m ((c : Thread nD τ).loc main_arg8) : FVec Ideal S256 .f32) (ix1 j)) := by
  refine ⟨fun hk => ?_, fun hk => ?_⟩ <;> refine ((congrFun (host_in m c).2.2.2.1 (ix2 (0 : Fin 1) k)).trans (Cert.Kernel2Ideal.Out.row_in _ _ k)).trans ?_
  · refine concatenate_pair_apply_left 0 (m ((c : Thread nD τ).loc main_arg6) : FVec Ideal S256 .f32) (m ((c : Thread nD τ).loc main_arg8) : FVec Ideal S256 .f32) concatenates_S256_S256_S512_d0 (ix1 k) rfl (ix1 j) fun x => ?_
    match x with
    | ⟨0, _⟩ => show j.val = k.val; omega
  · refine concatenate_pair_apply_right 0 (m ((c : Thread nD τ).loc main_arg6) : FVec Ideal S256 .f32) (m ((c : Thread nD τ).loc main_arg8) : FVec Ideal S256 .f32) concatenates_S256_S256_S512_d0 (ix1 k) rfl rfl (ix1 j) (fun x hx => ?_) ?_
    · match x with
      | ⟨0, _⟩ => exact absurd rfl hx
    · show j.val + 256 = k.val
      omega

/-! ## The blocks at a grid point -/

/-- A block's element, from its place: on each axis the block's index times the block's size plus the element's own coordinate. -/
theorem emb_eq (w : Window sig grid0) (t : Fin grid0.N) (s : Fin w.shape.rank → ℕ) (hk : w.kind = .blocked) (hi : w.index t = s) (y : (w.xblock (grid0.coords t)).Idx) (x : w.shape.Idx)
    (h : ∀ b, (x b : ℕ) = s b * w.size b + (y b).val) : (w.rect t).emb y = x :=
  funext fun b => Fin.ext ((Pipeline.Window.rect_emb_val w t y b hk).trans ((congrArg (fun k : ℕ => k * w.size b + (y b).val) (congrFun hi b)).trans (h b).symm))

/-- The windows over the tokens and over the batch's rows of modulation: point `t` is batch `t / 8`, tile `t mod 8`. -/
theorem idx_in : ∀ t : Fin grid0.N, win0_0.index t = ![t.val / 8, t.val % 8, 0] ∧ win0_2.index t = ![t.val / 8, 0, 0] ∧ win0_3.index t = ![t.val / 8, 0, 0] := by decide +kernel
/-- The windows over a whole array. -/
theorem idx_whole : ∀ t : Fin grid0.N, win0_1.index t = ![0, 0] ∧ win0_4.index t = ![0, 0] ∧ win0_5.index t = ![0, 0] ∧ win0_6.index t = ![0, 0] ∧ win0_7.index t = ![0, 0] := by decide +kernel
/-- The windows over the results. -/
theorem idx_out : ∀ t : Fin grid0.N, win0_8.index t = ![t.val / 8, t.val % 8, 0] ∧ win0_9.index t = ![t.val / 8, t.val % 8, 0] ∧ win0_10.index t = ![t.val / 8, t.val % 8, 0]
    ∧ win0_11.index t = ![t.val / 8, t.val % 8, 0] ∧ win0_12.index t = ![t.val / 8, t.val % 8, 0] ∧ win0_13.index t = ![t.val / 8, t.val % 8, 0]
    ∧ win0_14.index t = ![t.val / 8, t.val % 8, 0] := by decide +kernel
/-- Every result is written back at every point. -/
theorem flushes : ∀ t : Fin grid0.N, win0_8.flush t = true ∧ win0_9.flush t = true ∧ win0_10.flush t = true ∧ win0_11.flush t = true ∧ win0_12.flush t = true
    ∧ win0_13.flush t = true ∧ win0_14.flush t = true := by decide +kernel

section Blocks
variable (c : Dev nD) (t : Fin cfg0.N)

/-- Row `i` of the tokens' block is token `p = 512 (t mod 8) + i` of batch `t / 8`, and the rows of modulation are the batch's. -/
theorem token_blk (b : Fin 8) (p : Fin 4096) (i : Fin 512) (hb : b.val = t.val / 8) (hp : p.val = 512 * (t.val % 8) + i.val) (q : Fin 1024) :
    (iblk m c 0 t : Vec Ideal S1x512x1024 .f32) (ix3 (0 : Fin 1) i q) = (m ((c : Thread nD τ).loc main_arg0) : FVec Ideal S8x4096x1024 .f32) (ix3 b p q)
    ∧ (iblk m c 2 t : Vec Ideal S1x1x1024 .f32) (ix3 (0 : Fin 1) (0 : Fin 1) q) = (m ((c : Thread nD τ).loc main_arg2) : FVec Ideal S8x1x1024 .f32) (ix3 b (0 : Fin 1) q)
    ∧ (iblk m c 3 t : Vec Ideal S1x1x1024 .f32) (ix3 (0 : Fin 1) (0 : Fin 1) q) = (m ((c : Thread nD τ).loc main_arg3) : FVec Ideal S8x1x1024 .f32) (ix3 b (0 : Fin 1) q) := by
  have h0 : b.val = t.val / 8 * 1 + 0 := by omega
  have h1 : p.val = t.val % 8 * 512 + i.val := by omega
  have h2 : q.val = 0 * 1024 + q.val := by omega
  obtain ⟨i0, i2, i3⟩ := idx_in t
  refine ⟨?_, ?_, ?_⟩
  · refine Eq.trans ?_ (congrFun (V_main_arg0 m c) (ix3 b p q))
    show (V m c main_arg0 : FVec Ideal S8x4096x1024 .f32) ((win0_0.rect t).emb (ix3 (0 : Fin 1) i q)) = _
    exact congrArg (V m c main_arg0 : FVec Ideal S8x4096x1024 .f32) (emb_eq win0_0 t _ rfl i0 (ix3 (0 : Fin 1) i q) (ix3 b p q) fun | ⟨0, _⟩ => h0 | ⟨1, _⟩ => h1 | ⟨2, _⟩ => h2)
  · refine Eq.trans ?_ (congrFun (V_main_arg2 m c) (ix3 b (0 : Fin 1) q))
    show (V m c main_arg2 : FVec Ideal S8x1x1024 .f32) ((win0_2.rect t).emb (ix3 (0 : Fin 1) (0 : Fin 1) q)) = _
    exact congrArg (V m c main_arg2 : FVec Ideal S8x1x1024 .f32) (emb_eq win0_2 t _ rfl i2 (ix3 (0 : Fin 1) (0 : Fin 1) q) (ix3 b (0 : Fin 1) q) fun | ⟨0, _⟩ => h0 | ⟨1, _⟩ => rfl | ⟨2, _⟩ => h2)
  · refine Eq.trans ?_ (congrFun (V_main_arg3 m c) (ix3 b (0 : Fin 1) q))
    show (V m c main_arg3 : FVec Ideal S8x1x1024 .f32) ((win0_3.rect t).emb (ix3 (0 : Fin 1) (0 : Fin 1) q)) = _
    exact congrArg (V m c main_arg3 : FVec Ideal S8x1x1024 .f32) (emb_eq win0_3 t _ rfl i3 (ix3 (0 : Fin 1) (0 : Fin 1) q) (ix3 b (0 : Fin 1) q) fun | ⟨0, _⟩ => h0 | ⟨1, _⟩ => rfl | ⟨2, _⟩ => h2)

/-- The windows over whole arrays hold them. -/
theorem whole_blk :
    (∀ q, (iblk m c 1 t : Vec Ideal S1x1024 .f32) (ix2 (0 : Fin 1) q) = (m ((c : Thread nD τ).loc main_arg1) : FVec Ideal S1024 .f32) (ix1 q))
    ∧ (∀ q J, (iblk m c 4 t : Vec Ideal S1024x2048 .bf16) (ix2 q J) = (V m c main_v14 : FVec Ideal S1024x2048 .bf16) (ix2 q J))
    ∧ (∀ q r, (iblk m c 5 t : Vec Ideal S1024x32 .bf16) (ix2 q r) = (V m c main_v16 : FVec Ideal S1024x32 .bf16) (ix2 q r))
    ∧ (∀ r k, (iblk m c 6 t : Vec Ideal S32x512 .bf16) (ix2 r k) = diag (m ((c : Thread nD τ).loc main_arg5)) (m ((c : Thread nD τ).loc main_arg7)) (ix2 r k))
    ∧ (∀ k, (iblk m c 7 t : Vec Ideal S1x512 .f32) (ix2 (0 : Fin 1) k) = (V m c main_v22 : FVec Ideal S1x512 .f32) (ix2 (0 : Fin 1) k)) := by
  have h (n : ℕ) {k : ℕ} (q : Fin k) : q.val = 0 * n + q.val := by omega
  obtain ⟨i1, i4, i5, i6, i7⟩ := idx_whole t
  obtain ⟨-, -, e6, -, e1⟩ := host_in m c
  refine ⟨fun q => ?_, fun q J => ?_, fun q r => ?_, fun r k => ?_, fun k => ?_⟩
  · refine Eq.trans ?_ ((congrFun e1 (ix2 (0 : Fin 1) q)).trans (Cert.Kernel2Ideal.Out.row_in _ _ q))
    show (V m c main_v23 : FVec Ideal S1x1024 .f32) ((win0_1.rect t).emb (ix2 (0 : Fin 1) q)) = _
    exact congrArg (V m c main_v23 : FVec Ideal S1x1024 .f32) (emb_eq win0_1 t _ rfl i1 (ix2 (0 : Fin 1) q) (ix2 (0 : Fin 1) q) fun | ⟨0, _⟩ => rfl | ⟨1, _⟩ => h 1024 q)
  · show (V m c main_v14 : FVec Ideal S1024x2048 .bf16) ((win0_4.rect t).emb (ix2 q J)) = _
    exact congrArg (V m c main_v14 : FVec Ideal S1024x2048 .bf16) (emb_eq win0_4 t _ rfl i4 (ix2 q J) (ix2 q J) fun | ⟨0, _⟩ => h 1024 q | ⟨1, _⟩ => h 2048 J)
  · show (V m c main_v16 : FVec Ideal S1024x32 .bf16) ((win0_5.rect t).emb (ix2 q r)) = _
    exact congrArg (V m c main_v16 : FVec Ideal S1024x32 .bf16) (emb_eq win0_5 t _ rfl i5 (ix2 q r) (ix2 q r) fun | ⟨0, _⟩ => h 1024 q | ⟨1, _⟩ => h 32 r)
  · refine Eq.trans ?_ (congrFun e6 (ix2 r k))
    show (V m c main_v20 : FVec Ideal S32x512 .bf16) ((win0_6.rect t).emb (ix2 r k)) = _
    exact congrArg (V m c main_v20 : FVec Ideal S32x512 .bf16) (emb_eq win0_6 t _ rfl i6 (ix2 r k) (ix2 r k) fun | ⟨0, _⟩ => h 32 r | ⟨1, _⟩ => h 512 k)
  · show (V m c main_v22 : FVec Ideal S1x512 .f32) ((win0_7.rect t).emb (ix2 (0 : Fin 1) k)) = _
    exact congrArg (V m c main_v22 : FVec Ideal S1x512 .f32) (emb_eq win0_7 t _ rfl i7 (ix2 (0 : Fin 1) k) (ix2 (0 : Fin 1) k) fun | ⟨0, _⟩ => rfl | ⟨1, _⟩ => h 512 k)

end Blocks

end Cert.Kernel3Ideal.Proj

end
-- ==== Proof.ProjArrays.lean ====
/- What the input-projection call leaves in its seven results, over the extended reals: every token's projections, and its two decay gates. -/
module

public import proofs.«01_k».proof.Proof.ProjIn

@[expose] public section

set_option maxRecDepth 16384

noncomputable section

namespace Cert.Kernel3Ideal.Proj

open Cert.Kernel3Ideal Cert.Kernel3Ideal.Gen
open Idealize.ShloMosaic hiding ix1 ix2 ix3 ix4 ix5
open Idealize.ShloMosaic.TcCoe Idealize.ShloMosaic.Tactic
open Idealize.SL.Sem
open Idealize.ShloMosaic.Pipeline (Dat Cfg Window)
open Cert.Kernel2Ideal.Out (modul)
open ValueIdx (ix1 ix2 ix3)

open scoped BigOperators

/-! ## One token's results, from the argument arrays -/

section Values
variable (x : FVec Ideal S8x4096x1024 .f32) (nw : FVec Ideal S1024 .f32) (sh sc : FVec Ideal S8x1x1024 .f32) (w : FVec Ideal S1024x2080 .f32)

/-- Token `p` of batch `b`, its norm modulated. -/
def token (b : Fin 8) (p : Fin 4096) (q : Fin 1024) : EReal :=
  modul (fun q => x (ix3 b p q)) (fun q => nw (ix1 q)) (fun q => sh (ix3 b (0 : Fin 1) q)) (fun q => sc (ix3 b (0 : Fin 1) q)) q

/-- Its projection on column `J` of the weight. -/
def proj (b : Fin 8) (p : Fin 4096) (J : Fin 2080) : EReal := ∑ q : Fin 1024, token x nw sh sc b p q * w (ix2 q J)

/-- A decay gate: the 16 projections from column `o` on, through the gate's weight and bias. -/
def decay (o : ℕ) (ho : o + 16 ≤ 2080) (wg : FVec Ideal S16x256 .f32) (bg : FVec Ideal S256 .f32) (b : Fin 8) (p : Fin 4096) (j : Fin 256) : EReal :=
  logGate ((∑ r : Fin 16, proj x nw sh sc w b p ⟨o + r.val, by omega⟩ * wg (ix2 r j)) + bg (ix1 j))

end Values

/-- An array over the tokens, from its elements. -/
def tokens (n : ℕ) (f : Fin 8 → Fin 4096 → Fin n → EReal) : (⟨3, ![8, 4096, n]⟩ : Shape).Idx → EReal :=
  fun i => f ⟨(i 0).val, (i 0).isLt⟩ ⟨(i 1).val, (i 1).isLt⟩ ⟨(i 2).val, (i 2).isLt⟩

/-- An array over the tokens is known from its elements. -/
theorem tokens_eq {n : ℕ} (X : (⟨3, ![8, 4096, n]⟩ : Shape).Idx → EReal) (f : Fin 8 → Fin 4096 → Fin n → EReal) (h : ∀ b p j, X (ix3 b p j) = f b p j) : X = tokens n f := by
  funext y
  have hy : y = ix3 (⟨(y 0).val, (y 0).isLt⟩ : Fin 8) (⟨(y 1).val, (y 1).isLt⟩ : Fin 4096) (⟨(y 2).val, (y 2).isLt⟩ : Fin n) := by
    funext a
    match a with
    | ⟨0, _⟩ => rfl
    | ⟨1, _⟩ => rfl
    | ⟨2, _⟩ => rfl
  exact (congrArg X hy).trans (h _ _ _)

variable (m : (ℓ : Loc nD τ sig) → Buf (Elt Ideal) ℓ)

/-- The projections of the launch contents. -/
def projOf (c : Dev nD) (b : Fin 8) (p : Fin 4096) (J : Fin 2080) : EReal :=
  proj (m ((c : Thread nD τ).loc main_arg0)) (m ((c : Thread nD τ).loc main_arg1)) (m ((c : Thread nD τ).loc main_arg2)) (m ((c : Thread nD τ).loc main_arg3)) (m ((c : Thread nD τ).loc main_arg4)) b p J

/-- `n` of the projections, from column `o` on. -/
def colOf (c : Dev nD) (n o : ℕ) (h : o + n ≤ 2080) (b : Fin 8) (p : Fin 4096) (j : Fin n) : EReal := projOf m c b p ⟨o + j.val, by omega⟩

/-- The queries, over eight. -/
def queryOf (c : Dev nD) (b : Fin 8) (p : Fin 4096) (j : Fin 256) : EReal := projOf m c b p ⟨512 + j.val, by omega⟩ * Ideal.ofBits .f32 0x3E000000#32

/-- The forward decay of the launch contents. -/
def forwardOf (c : Dev nD) (b : Fin 8) (p : Fin 4096) (j : Fin 256) : EReal :=
  decay (m ((c : Thread nD τ).loc main_arg0)) (m ((c : Thread nD τ).loc main_arg1)) (m ((c : Thread nD τ).loc main_arg2)) (m ((c : Thread nD τ).loc main_arg3)) (m ((c : Thread nD τ).loc main_arg4))
    2048 (by omega) (m ((c : Thread nD τ).loc main_arg5)) (m ((c : Thread nD τ).loc main_arg6)) b p j

/-- The backward decay of the launch contents. -/
def backwardOf (c : Dev nD) (b : Fin 8) (p : Fin 4096) (j : Fin 256) : EReal :=
  decay (m ((c : Thread nD τ).loc main_arg0)) (m ((c : Thread nD τ).loc main_arg1)) (m ((c : Thread nD τ).loc main_arg2)) (m ((c : Thread nD τ).loc main_arg3)) (m ((c : Thread nD τ).loc main_arg4))
    2064 (by omega) (m ((c : Thread nD τ).loc main_arg7)) (m ((c : Thread nD τ).loc main_arg8)) b p j

/-! ## The blocks the body leaves -/

section Blocks
variable (c : Dev nD) (t : Fin cfg0.N) (b : Fin 8) (p : Fin 4096) (i : Fin 512) (hb : b.val = t.val / 8) (hp : p.val = 512 * (t.val % 8) + i.val)
include hb hp

/-- Row `i` of the block's norm is the token's. -/
theorem norm_blk (q : Fin 1024) : normRow (iblk m c 0 t) (iblk m c 1 t) (iblk m c 2 t) (iblk m c 3 t) i q
    = token (m ((c : Thread nD τ).loc main_arg0)) (m ((c : Thread nD τ).loc main_arg1)) (m ((c : Thread nD τ).loc main_arg2)) (m ((c : Thread nD τ).loc main_arg3)) b p q := by
  have e0 := fun q => (token_blk m c t b p i hb hp q).1
  have e2 := fun q => (token_blk m c t b p i hb hp q).2.1
  have e3 := fun q => (token_blk m c t b p i hb hp q).2.2
  have e1 := (whole_blk m c t).1
  generalize iblk m c 0 t = x0 at *
  generalize iblk m c 1 t = x1 at *
  generalize iblk m c 2 t = x2 at *
  generalize iblk m c 3 t = x3 at *
  unfold token
  dsimp only [normRow]
  simp only [e0, e1, e2, e3]

/-- The block's product with a column of the scaled weight is the token's projection, scaled. -/
theorem col_blk (J : Fin 2048) (K : Fin 2080) (hK : K.val = J.val) :
    ∑ q : Fin 1024, normRow (iblk m c 0 t) (iblk m c 1 t) (iblk m c 2 t) (iblk m c 3 t) i q * (iblk m c 4 t : Vec Ideal S1024x2048 .bf16) (ix2 q J) = projOf m c b p K * colScale J := by
  have hs : 0 ≤ colScale J ∧ colScale J ≠ ⊤ := by
    unfold colScale
    split
    · exact eighth
    · exact ⟨zero_le_one, EReal.coe_ne_top 1⟩
  unfold projOf proj
  rw [← sum_scale (colScale J) hs.1 hs.2]
  refine Finset.sum_congr rfl fun q _ => ?_
  rw [norm_blk m c t b p i hb hp q, (whole_blk m c t).2.1 q J, main_in m c q J K hK]
  exact (mul_assoc _ _ _).symm

/-- So a column outside the queries' is the projection itself, -/
theorem col_plain (J : Fin 2048) (h : ¬(512 ≤ J.val ∧ J.val < 768)) :
    ∑ q : Fin 1024, normRow (iblk m c 0 t) (iblk m c 1 t) (iblk m c 2 t) (iblk m c 3 t) i q * (iblk m c 4 t : Vec Ideal S1024x2048 .bf16) (ix2 q J) = projOf m c b p ⟨J.val, by omega⟩ := by
  rw [col_blk m c t b p i hb hp J ⟨J.val, by omega⟩ rfl, colScale, if_neg h, mul_one]

/-- and a column of the queries' is the projection over eight. -/
theorem col_query (J : Fin 2048) (h : 512 ≤ J.val ∧ J.val < 768) :
    ∑ q : Fin 1024, normRow (iblk m c 0 t) (iblk m c 1 t) (iblk m c 2 t) (iblk m c 3 t) i q * (iblk m c 4 t : Vec Ideal S1024x2048 .bf16) (ix2 q J)
      = projOf m c b p ⟨J.val, by omega⟩ * Ideal.ofBits .f32 0x3E000000#32 := by
  rw [col_blk m c t b p i hb hp J ⟨J.val, by omega⟩ rfl, colScale, if_pos h]

/-- The two gates before the sigmoid: of the 32 low-rank columns only a gate's own 16 meet weights that are not zero. -/
theorem gate_blk (j : Fin 256) :
    (∀ k : Fin 512, k.val = 0 + j.val → logGate (gateRow (iblk m c 0 t) (iblk m c 1 t) (iblk m c 2 t) (iblk m c 3 t) (iblk m c 5 t) (iblk m c 6 t) (iblk m c 7 t) i k) = forwardOf m c b p j)
    ∧ (∀ k : Fin 512, k.val = 256 + j.val → logGate (gateRow (iblk m c 0 t) (iblk m c 1 t) (iblk m c 2 t) (iblk m c 3 t) (iblk m c 5 t) (iblk m c 6 t) (iblk m c 7 t) i k) = backwardOf m c b p j) := by
  have en := norm_blk m c t b p i hb hp
  obtain ⟨-, -, e5, e6, e7⟩ := whole_blk m c t
  have ei (r : Fin 32) (K : Fin 2080) (hK : K.val = 2048 + r.val) :
      ∑ q : Fin 1024, normRow (iblk m c 0 t) (iblk m c 1 t) (iblk m c 2 t) (iblk m c 3 t) i q * (iblk m c 5 t : Vec Ideal S1024x32 .bf16) (ix2 q r) = projOf m c b p K := by
    unfold projOf proj
    refine Finset.sum_congr rfl fun q _ => ?_
    rw [en q, e5 q r, low_in m c q r K hK]
  refine ⟨fun k hk => congrArg logGate (congrArg₂ (fun u v : EReal => u + v) ?_ ((e7 k).trans ((bias_in m c j k).1 hk))),
    fun k hk => congrArg logGate (congrArg₂ (fun u v : EReal => u + v) ?_ ((e7 k).trans ((bias_in m c j k).2 hk)))⟩
  · refine (Fin.sum_univ_add (a := 16) (b := 16) _).trans (Eq.trans (congrArg₂ (fun u v : EReal => u + v) (Finset.sum_congr rfl fun r _ => ?_) (Finset.sum_eq_zero fun r _ => ?_)) (add_zero _))
    · have hd := (diag_apply (m ((c : Thread nD τ).loc main_arg5)) (m ((c : Thread nD τ).loc main_arg7)) r (Fin.castAdd 16 r) (Fin.natAdd 16 r) rfl rfl j k).1 hk
      exact congrArg₂ (fun u v : EReal => u * v) (ei (Fin.castAdd 16 r) ⟨2048 + r.val, by omega⟩ rfl) ((e6 _ _).trans hd.1)
    · have hd := (diag_apply (m ((c : Thread nD τ).loc main_arg5)) (m ((c : Thread nD τ).loc main_arg7)) r (Fin.castAdd 16 r) (Fin.natAdd 16 r) rfl rfl j k).1 hk
      exact (congrArg (fun v : EReal => _ * v) ((e6 _ _).trans hd.2)).trans (mul_zero _)
  · refine (Fin.sum_univ_add (a := 16) (b := 16) _).trans (Eq.trans (congrArg₂ (fun u v : EReal => u + v) (Finset.sum_eq_zero fun r _ => ?_) (Finset.sum_congr rfl fun r _ => ?_)) (zero_add _))
    · have hd := (diag_apply (m ((c : Thread nD τ).loc main_arg5)) (m ((c : Thread nD τ).loc main_arg7)) r (Fin.castAdd 16 r) (Fin.natAdd 16 r) rfl rfl j k).2 hk
      exact (congrArg (fun v : EReal => _ * v) ((e6 _ _).trans hd.1)).trans (mul_zero _)
    · have hd := (diag_apply (m ((c : Thread nD τ).loc main_arg5)) (m ((c : Thread nD τ).loc main_arg7)) r (Fin.castAdd 16 r) (Fin.natAdd 16 r) rfl rfl j k).2 hk
      exact congrArg₂ (fun u v : EReal => u * v) (ei (Fin.natAdd 16 r) ⟨2064 + r.val, by omega⟩ (show 2064 + r.val = 2048 + (16 + r.val) by omega)) ((e6 _ _).trans hd.2)

end Blocks

/-! ## The tiles of a result -/

/-- An element of a tile: its token and its column. -/
theorem tile {n : ℕ} (t : Fin grid0.N) (y : (⟨3, ![1, 512, n]⟩ : Shape).Idx) :
    ∃ (b : Fin 8) (p : Fin 4096) (i : Fin 512) (j : Fin n), y = ix3 (0 : Fin 1) i j ∧ b.val = t.val / 8 ∧ p.val = 512 * (t.val % 8) + i.val := by
  have ht : t.val < 64 := t.isLt.trans_eq N_0
  have h1 : (y 1).val < 512 := (y 1).isLt
  refine ⟨⟨t.val / 8, by omega⟩, ⟨512 * (t.val % 8) + (y 1).val, by omega⟩, ⟨(y 1).val, h1⟩, ⟨(y 2).val, (y 2).isLt⟩, ?_, rfl, rfl⟩
  funext a
  match a with
  | ⟨0, _⟩ => exact Fin.ext (by have : (y 0).val < 1 := (y 0).isLt; show (y 0).val = 0; omega)
  | ⟨1, _⟩ => rfl
  | ⟨2, _⟩ => rfl

/-- Its place in the array. -/
theorem place {n : ℕ} (t : ℕ) (b : Fin 8) (p : Fin 4096) (i : Fin 512) (j : Fin n) (hb : b.val = t / 8) (hp : p.val = 512 * (t % 8) + i.val) :
    b.val = t / 8 * 1 + 0 ∧ p.val = t % 8 * 512 + i.val ∧ j.val = 0 * n + j.val := ⟨by omega, by omega, by omega⟩

/-- Every token lies in a tile. -/
theorem cover {n : ℕ} (i : (⟨3, ![8, 4096, n]⟩ : Shape).Idx) : ∃ t : Fin grid0.N, (t.val / 8 * 1 ≤ (i 0).val ∧ (i 0).val < t.val / 8 * 1 + 1)
    ∧ (t.val % 8 * 512 ≤ (i 1).val ∧ (i 1).val < t.val % 8 * 512 + 512) ∧ (0 * n ≤ (i 2).val ∧ (i 2).val < 0 * n + n) := by
  have h0 : (i 0).val < 8 := (i 0).isLt
  have h1 : (i 1).val < 4096 := (i 1).isLt
  have h2 : (i 2).val < n := (i 2).isLt
  exact ⟨⟨8 * (i 0).val + (i 1).val / 512, by rw [N_0]; omega⟩, by show _ ∧ _; dsimp only; omega, by dsimp only; omega, by omega⟩

/-! ## The seven results after the last point -/

/-- The gate `u`'s columns. -/
theorem array8 (c : Dev nD) : (dats m 0 c).arrAt 8 cfg0.N = tokens 512 (colOf m c 512 0 (by omega)) := by
  refine (dats m 0 c).arrAt_eq_of_emb (8 : Fin 15) (tokens 512 (colOf m c 512 0 (by omega))) (fun t _ (y : S1x512x512.Idx) => ?_) (fun (i : S8x4096x512.Idx) => ?_)
  · obtain ⟨b, p, i, j, rfl, hb, hp⟩ := tile t y
    obtain ⟨p0, p1, p2⟩ := place t.val b p i j hb hp
    refine (congrFun (after0_8 m c t) _).trans (Eq.trans ?_ (congrArg (tokens 512 (colOf m c 512 0 (by omega)))
      (emb_eq win0_8 t _ rfl (idx_out t).1 (ix3 (0 : Fin 1) i j) (ix3 b p j) fun | ⟨0, _⟩ => p0 | ⟨1, _⟩ => p1 | ⟨2, _⟩ => p2).symm))
    exact ((wide_apply _ _ _ _ _ _ _ _ i j).1 ⟨0 + j.val, by omega⟩ rfl).trans (col_plain m c t b p i hb hp ⟨0 + j.val, by omega⟩ (by dsimp only; omega))
  · obtain ⟨t, ht⟩ := cover i
    refine ⟨t, (flushes t).1, (Pipeline.Window.emb_mem_blk_iff win0_8 t i rfl).mpr fun a => ?_⟩
    rw [(idx_out t).1]
    exact match a with | ⟨0, _⟩ => ht.1 | ⟨1, _⟩ => ht.2.1 | ⟨2, _⟩ => ht.2.2

/-- The queries. -/
theorem array9 (c : Dev nD) : (dats m 0 c).arrAt 9 cfg0.N = tokens 256 (queryOf m c) := by
  refine (dats m 0 c).arrAt_eq_of_emb (9 : Fin 15) (tokens 256 (queryOf m c)) (fun t _ (y : S1x512x256.Idx) => ?_) (fun (i : S8x4096x256.Idx) => ?_)
  · obtain ⟨b, p, i, j, rfl, hb, hp⟩ := tile t y
    obtain ⟨p0, p1, p2⟩ := place t.val b p i j hb hp
    refine (congrFun (after0_9 m c t) _).trans (Eq.trans ?_ (congrArg (tokens 256 (queryOf m c))
      (emb_eq win0_9 t _ rfl (idx_out t).2.1 (ix3 (0 : Fin 1) i j) (ix3 b p j) fun | ⟨0, _⟩ => p0 | ⟨1, _⟩ => p1 | ⟨2, _⟩ => p2).symm))
    exact ((half_apply _ _ _ _ _ _ _ _ i j).1 ⟨512 + j.val, by omega⟩ rfl).trans (col_query m c t b p i hb hp ⟨512 + j.val, by omega⟩ (by dsimp only; omega))
  · obtain ⟨t, ht⟩ := cover i
    refine ⟨t, (flushes t).2.1, (Pipeline.Window.emb_mem_blk_iff win0_9 t i rfl).mpr fun a => ?_⟩
    rw [(idx_out t).2.1]
    exact match a with | ⟨0, _⟩ => ht.1 | ⟨1, _⟩ => ht.2.1 | ⟨2, _⟩ => ht.2.2

/-- The keys. -/
theorem array10 (c : Dev nD) : (dats m 0 c).arrAt 10 cfg0.N = tokens 256 (colOf m c 256 768 (by omega)) := by
  refine (dats m 0 c).arrAt_eq_of_emb (10 : Fin 15) (tokens 256 (colOf m c 256 768 (by omega))) (fun t _ (y : S1x512x256.Idx) => ?_) (fun (i : S8x4096x256.Idx) => ?_)
  · obtain ⟨b, p, i, j, rfl, hb, hp⟩ := tile t y
    obtain ⟨p0, p1, p2⟩ := place t.val b p i j hb hp
    refine (congrFun (after0_10 m c t) _).trans (Eq.trans ?_ (congrArg (tokens 256 (colOf m c 256 768 (by omega)))
      (emb_eq win0_10 t _ rfl (idx_out t).2.2.1 (ix3 (0 : Fin 1) i j) (ix3 b p j) fun | ⟨0, _⟩ => p0 | ⟨1, _⟩ => p1 | ⟨2, _⟩ => p2).symm))
    exact ((half_apply _ _ _ _ _ _ _ _ i j).2 ⟨768 + j.val, by omega⟩ rfl).trans (col_plain m c t b p i hb hp ⟨768 + j.val, by omega⟩ (by dsimp only; omega))
  · obtain ⟨t, ht⟩ := cover i
    refine ⟨t, (flushes t).2.2.1, (Pipeline.Window.emb_mem_blk_iff win0_10 t i rfl).mpr fun a => ?_⟩
    rw [(idx_out t).2.2.1]
    exact match a with | ⟨0, _⟩ => ht.1 | ⟨1, _⟩ => ht.2.1 | ⟨2, _⟩ => ht.2.2

/-- The values. -/
theorem array11 (c : Dev nD) : (dats m 0 c).arrAt 11 cfg0.N = tokens 512 (colOf m c 512 1024 (by omega)) := by
  refine (dats m 0 c).arrAt_eq_of_emb (11 : Fin 15) (tokens 512 (colOf m c 512 1024 (by omega))) (fun t _ (y : S1x512x512.Idx) => ?_) (fun (i : S8x4096x512.Idx) => ?_)
  · obtain ⟨b, p, i, j, rfl, hb, hp⟩ := tile t y
    obtain ⟨p0, p1, p2⟩ := place t.val b p i j hb hp
    refine (congrFun (after0_11 m c t) _).trans (Eq.trans ?_ (congrArg (tokens 512 (colOf m c 512 1024 (by omega)))
      (emb_eq win0_11 t _ rfl (idx_out t).2.2.2.1 (ix3 (0 : Fin 1) i j) (ix3 b p j) fun | ⟨0, _⟩ => p0 | ⟨1, _⟩ => p1 | ⟨2, _⟩ => p2).symm))
    exact ((wide_apply _ _ _ _ _ _ _ _ i j).2.1 ⟨1024 + j.val, by omega⟩ rfl).trans (col_plain m c t b p i hb hp ⟨1024 + j.val, by omega⟩ (by dsimp only; omega))
  · obtain ⟨t, ht⟩ := cover i
    refine ⟨t, (flushes t).2.2.2.1, (Pipeline.Window.emb_mem_blk_iff win0_11 t i rfl).mpr fun a => ?_⟩
    rw [(idx_out t).2.2.2.1]
    exact match a with | ⟨0, _⟩ => ht.1 | ⟨1, _⟩ => ht.2.1 | ⟨2, _⟩ => ht.2.2

/-- The output gate's columns. -/
theorem array12 (c : Dev nD) : (dats m 0 c).arrAt 12 cfg0.N = tokens 512 (colOf m c 512 1536 (by omega)) := by
  refine (dats m 0 c).arrAt_eq_of_emb (12 : Fin 15) (tokens 512 (colOf m c 512 1536 (by omega))) (fun t _ (y : S1x512x512.Idx) => ?_) (fun (i : S8x4096x512.Idx) => ?_)
  · obtain ⟨b, p, i, j, rfl, hb, hp⟩ := tile t y
    obtain ⟨p0, p1, p2⟩ := place t.val b p i j hb hp
    refine (congrFun (after0_12 m c t) _).trans (Eq.trans ?_ (congrArg (tokens 512 (colOf m c 512 1536 (by omega)))
      (emb_eq win0_12 t _ rfl (idx_out t).2.2.2.2.1 (ix3 (0 : Fin 1) i j) (ix3 b p j) fun | ⟨0, _⟩ => p0 | ⟨1, _⟩ => p1 | ⟨2, _⟩ => p2).symm))
    exact ((wide_apply _ _ _ _ _ _ _ _ i j).2.2 ⟨1536 + j.val, by omega⟩ rfl).trans (col_plain m c t b p i hb hp ⟨1536 + j.val, by omega⟩ (by dsimp only; omega))
  · obtain ⟨t, ht⟩ := cover i
    refine ⟨t, (flushes t).2.2.2.2.1, (Pipeline.Window.emb_mem_blk_iff win0_12 t i rfl).mpr fun a => ?_⟩
    rw [(idx_out t).2.2.2.2.1]
    exact match a with | ⟨0, _⟩ => ht.1 | ⟨1, _⟩ => ht.2.1 | ⟨2, _⟩ => ht.2.2

/-- The forward decay. -/
theorem array13 (c : Dev nD) : (dats m 0 c).arrAt 13 cfg0.N = tokens 256 (forwardOf m c) := by
  refine (dats m 0 c).arrAt_eq_of_emb (13 : Fin 15) (tokens 256 (forwardOf m c)) (fun t _ (y : S1x512x256.Idx) => ?_) (fun (i : S8x4096x256.Idx) => ?_)
  · obtain ⟨b, p, i, j, rfl, hb, hp⟩ := tile t y
    obtain ⟨p0, p1, p2⟩ := place t.val b p i j hb hp
    refine (congrFun (after0_13 m c t) _).trans (Eq.trans ?_ (congrArg (tokens 256 (forwardOf m c))
      (emb_eq win0_13 t _ rfl (idx_out t).2.2.2.2.2.1 (ix3 (0 : Fin 1) i j) (ix3 b p j) fun | ⟨0, _⟩ => p0 | ⟨1, _⟩ => p1 | ⟨2, _⟩ => p2).symm))
    exact ((decay_apply _ _ _ _ _ _ _ _ i j).1 ⟨0 + j.val, by omega⟩ rfl).trans ((gate_blk m c t b p i hb hp j).1 _ rfl)
  · obtain ⟨t, ht⟩ := cover i
    refine ⟨t, (flushes t).2.2.2.2.2.1, (Pipeline.Window.emb_mem_blk_iff win0_13 t i rfl).mpr fun a => ?_⟩
    rw [(idx_out t).2.2.2.2.2.1]
    exact match a with | ⟨0, _⟩ => ht.1 | ⟨1, _⟩ => ht.2.1 | ⟨2, _⟩ => ht.2.2

/-- The backward decay. -/
theorem array14 (c : Dev nD) : (dats m 0 c).arrAt 14 cfg0.N = tokens 256 (backwardOf m c) := by
  refine (dats m 0 c).arrAt_eq_of_emb (14 : Fin 15) (tokens 256 (backwardOf m c)) (fun t _ (y : S1x512x256.Idx) => ?_) (fun (i : S8x4096x256.Idx) => ?_)
  · obtain ⟨b, p, i, j, rfl, hb, hp⟩ := tile t y
    obtain ⟨p0, p1, p2⟩ := place t.val b p i j hb hp
    refine (congrFun (after0_14 m c t) _).trans (Eq.trans ?_ (congrArg (tokens 256 (backwardOf m c))
      (emb_eq win0_14 t _ rfl (idx_out t).2.2.2.2.2.2 (ix3 (0 : Fin 1) i j) (ix3 b p j) fun | ⟨0, _⟩ => p0 | ⟨1, _⟩ => p1 | ⟨2, _⟩ => p2).symm))
    exact ((decay_apply _ _ _ _ _ _ _ _ i j).2 ⟨256 + j.val, by omega⟩ rfl).trans ((gate_blk m c t b p i hb hp j).2 _ rfl)
  · obtain ⟨t, ht⟩ := cover i
    refine ⟨t, (flushes t).2.2.2.2.2.2, (Pipeline.Window.emb_mem_blk_iff win0_14 t i rfl).mpr fun a => ?_⟩
    rw [(idx_out t).2.2.2.2.2.2]
    exact match a with | ⟨0, _⟩ => ht.1 | ⟨1, _⟩ => ht.2.1 | ⟨2, _⟩ => ht.2.2

end Cert.Kernel3Ideal.Proj

end
-- ==== Proof.ProjRef.lean ====
/- The input projections' reference, over the extended reals, read at an element. -/
module

public import proofs.«01_k».proof.Proof.ProjArrays
public import proofs.«01_k».proof.Proof.OutRef
public import proofs.«01_k».proof.Proof.Gen.Reference3Ideal.Read

@[expose] public section

set_option maxRecDepth 16384

noncomputable section

namespace Cert.Reference3Ideal.Proj

open Cert.Reference3Ideal Cert.Reference3Ideal.Gen Cert.Reference3Ideal.Read
open Idealize.ShloMosaic hiding ix1 ix2 ix3 ix4 ix5
open Idealize.ShloMosaic.TcCoe Idealize.SL.Sem
open Cert.Kernel2Ideal.Out (modul)
open Cert.Kernel3Ideal.Proj (logGate neg_softplus token proj decay)
open ValueIdx (ix1 ix2 ix3)

open scoped BigOperators

/-- The host's logarithm of the sigmoid over 16: the softplus of the negative, negated. Its comparison of a number with itself is never unequal. -/
theorem logGate_eq (z : EReal) :
    (FloatOps.hostDivf (F := Ideal) (φ := .f32) (FloatOps.hostNegf (F := Ideal) (φ := .f32) (Scalar.select
        (FloatOps.cmpf (F := Ideal) (φ := .f32) .une (FloatOps.subf (F := Ideal) (φ := .f32) (FloatOps.hostNegf (F := Ideal) (φ := .f32) z) (FloatOps.ofBits (F := Ideal) .f32 0x00000000#32))
          (FloatOps.subf (F := Ideal) (φ := .f32) (FloatOps.hostNegf (F := Ideal) (φ := .f32) z) (FloatOps.ofBits (F := Ideal) .f32 0x00000000#32)))
        (FloatOps.addf (F := Ideal) (φ := .f32) (FloatOps.hostNegf (F := Ideal) (φ := .f32) z) (FloatOps.ofBits (F := Ideal) .f32 0x00000000#32))
        (FloatOps.addf (F := Ideal) (φ := .f32) (FloatOps.maximumf (F := Ideal) (φ := .f32) (FloatOps.hostNegf (F := Ideal) (φ := .f32) z) (FloatOps.ofBits (F := Ideal) .f32 0x00000000#32))
          (FloatOps.hostUnary (F := Ideal) (φ := .f32) .log1p (FloatOps.hostUnary (F := Ideal) (φ := .f32) .exp (FloatOps.hostNegf (F := Ideal) (φ := .f32) (FloatOps.hostAbsf (F := Ideal) (φ := .f32)
            (FloatOps.subf (F := Ideal) (φ := .f32) (FloatOps.hostNegf (F := Ideal) (φ := .f32) z) (FloatOps.ofBits (F := Ideal) .f32 0x00000000#32)))))))))
      (FloatOps.ofBits (F := Ideal) .f32 0x41800000#32) : EReal) = logGate z := by
  have h0 : (FloatOps.ofBits (F := Ideal) .f32 0x00000000#32 : EReal) = 0 := Ideal.ofBits_zero_f32
  rw [h0]
  have hs (y : EReal) : FloatOps.cmpf (F := Ideal) (φ := .f32) .une y y = 0#1 := by
    show BitVec.ofBool (decide (y ≠ y)) = 0#1
    simp
  rw [hs, ValueIdx.select_zero]
  exact congrArg (Ideal.div · (Ideal.ofBits .f32 0x41800000#32)) (neg_softplus z)

section Stages
variable (x0 : FVec Ideal S8x4096x1024 .f32) (x1 : FVec Ideal S1024 .f32) (x2 x3 : FVec Ideal S8x1x1024 .f32) (x4 : FVec Ideal S1024x2080 .f32)
  (x5 : FVec Ideal S16x256 .f32) (x6 : FVec Ideal S256 .f32) (x7 : FVec Ideal S16x256 .f32) (x8 : FVec Ideal S256 .f32) (b : Fin 8) (p : Fin 4096)

/-- The token's modulated norm. -/
theorem token_row (j : Fin 1024) : val_main_v18 (F := Ideal) x0 x1 x2 x3 (ix3 b p j) = token x0 x1 x2 x3 b p j := by
  have e1 (k : Fin 1024) : idx_main_v1 (idx_main_v2 (idx_main_v8 (ix3 b p j))) k = ix3 b p k := by
    funext a
    match a with
    | ⟨0, _⟩ => rfl
    | ⟨1, _⟩ => rfl
    | ⟨2, _⟩ => rfl
  have e10 : idx_main_v10 (idx_main_v11 (ix3 b p j)) = ix1 j := by
    funext a
    match a with
    | ⟨0, _⟩ => rfl
  have e15 : idx_main_v15 (ix3 b p j) = ix3 b (0 : Fin 1) j := by
    funext a
    match a with
    | ⟨0, _⟩ => rfl
    | ⟨1, _⟩ => rfl
    | ⟨2, _⟩ => rfl
  have e17 : idx_main_v17 (ix3 b p j) = ix3 b (0 : Fin 1) j := e15
  rw [val_main_v18_apply, val_main_v17_apply, val_main_v16_apply, val_main_v15_apply, val_main_v14_apply, val_main_v13_apply, val_main_cst_2_apply, val_main_v12_apply, val_main_v11_apply,
    val_main_v10_apply, val_main_v9_apply, val_main_v8_apply, val_main_v7_apply, val_main_v6_apply, val_main_v5_apply, val_main_v4_apply, val_main_v3_apply, val_main_v2_apply, val_main_v1_apply,
    val_main_cst_apply, val_main_cst_0_apply, val_main_cst_1_apply, e10, e15, e17]
  simp only [e1, val_main_v0_apply]
  unfold token modul
  rw [← mul_assoc, ← Cert.Reference2Ideal.Out.factor_eq]
  rfl

/-- The token's projection on a column of the weight. -/
theorem proj_row (J : Fin 2080) : val_main_v19 (F := Ideal) x0 x1 x2 x3 x4 (ix3 b p J) = proj x0 x1 x2 x3 x4 b p J := by
  have el (k : Fin 1024) : lidx_main_v19 (ix3 b p J) k = ix3 b p k := by
    funext a
    match a with
    | ⟨0, _⟩ => rfl
    | ⟨1, _⟩ => rfl
    | ⟨2, _⟩ => rfl
  have er (k : Fin 1024) : ridx_main_v19 (ix3 b p J) k = ix2 k J := by
    funext a
    match a with
    | ⟨0, _⟩ => rfl
    | ⟨1, _⟩ => rfl
  rw [val_main_v19_apply]
  simp only [el, er, token_row]
  rfl

/-- A slice of 512, 256 or 16 columns of the projections reads a column at its place. -/
theorem col_place {n : ℕ} (o : ℕ) (j : Fin n) (h : o + j.val < 2080) (y : S8x4096x2080.Idx) (h0 : (y 0).val = b.val) (h1 : (y 1).val = p.val) (h2 : (y 2).val = o + j.val) :
    val_main_v19 (F := Ideal) x0 x1 x2 x3 x4 y = proj x0 x1 x2 x3 x4 b p ⟨o + j.val, h⟩ := by
  have e : y = ix3 b p (⟨o + j.val, h⟩ : Fin 2080) := by
    funext a
    apply Fin.ext
    match a with
    | ⟨0, _⟩ => exact h0
    | ⟨1, _⟩ => exact h1
    | ⟨2, _⟩ => exact h2
  rw [e, proj_row]

/-- The three results of 512 columns. -/
theorem wide_row (j : Fin 512) :
    val_main_v43 (F := Ideal) x0 x1 x2 x3 x4 (ix3 b p j) = proj x0 x1 x2 x3 x4 b p ⟨0 + j.val, by omega⟩
    ∧ val_main_v44 (F := Ideal) x0 x1 x2 x3 x4 (ix3 b p j) = proj x0 x1 x2 x3 x4 b p ⟨1024 + j.val, by omega⟩
    ∧ val_main_v45 (F := Ideal) x0 x1 x2 x3 x4 (ix3 b p j) = proj x0 x1 x2 x3 x4 b p ⟨1536 + j.val, by omega⟩ := by
  refine ⟨?_, ?_, ?_⟩
  · rw [val_main_v43_apply, val_main_v20_apply]
    exact col_place x0 x1 x2 x3 x4 b p 0 j _ _ rfl rfl (show j.val = 0 + j.val by omega)
  · rw [val_main_v44_apply, val_main_v23_apply]
    exact col_place x0 x1 x2 x3 x4 b p 1024 j _ _ rfl rfl rfl
  · rw [val_main_v45_apply, val_main_v24_apply]
    exact col_place x0 x1 x2 x3 x4 b p 1536 j _ _ rfl rfl rfl

/-- The two results of 256 columns: the queries, over eight, and the keys. -/
theorem half_row (j : Fin 256) :
    val_main_v28 (F := Ideal) x0 x1 x2 x3 x4 (ix3 b p j) = (proj x0 x1 x2 x3 x4 b p ⟨512 + j.val, by omega⟩ * Ideal.ofBits .f32 0x3E000000#32 : EReal)
    ∧ val_main_v22 (F := Ideal) x0 x1 x2 x3 x4 (ix3 b p j) = proj x0 x1 x2 x3 x4 b p ⟨768 + j.val, by omega⟩ := by
  refine ⟨?_, ?_⟩
  · rw [val_main_v28_apply, val_main_v27_apply, val_main_cst_3_apply, val_main_v21_apply]
    exact congrArg (fun z : EReal => z * Ideal.ofBits .f32 0x3E000000#32) (col_place x0 x1 x2 x3 x4 b p 512 j _ _ rfl rfl rfl)
  · rw [val_main_v22_apply]
    exact col_place x0 x1 x2 x3 x4 b p 768 j _ _ rfl rfl rfl

/-- The forward decay. -/
theorem forward_row (j : Fin 256) : val_main_v35 (F := Ideal) x0 x1 x2 x3 x4 x5 x6 (ix3 b p j) = decay x0 x1 x2 x3 x4 2048 (by omega) x5 x6 b p j := by
  have el (k : Fin 16) : lidx_main_v29 (ix3 b p j) k = ix3 b p k := by
    funext a
    match a with
    | ⟨0, _⟩ => rfl
    | ⟨1, _⟩ => rfl
    | ⟨2, _⟩ => rfl
  have er (k : Fin 16) : ridx_main_v29 (ix3 b p j) k = ix2 k j := by
    funext a
    match a with
    | ⟨0, _⟩ => rfl
    | ⟨1, _⟩ => rfl
  have eb : idx_main_v30 (idx_main_v31 (ix3 b p j)) = ix1 j := by
    funext a
    match a with
    | ⟨0, _⟩ => rfl
  have ep (k : Fin 16) : val_main_v25 (F := Ideal) x0 x1 x2 x3 x4 (ix3 b p k) = proj x0 x1 x2 x3 x4 b p ⟨2048 + k.val, by omega⟩ := by
    rw [val_main_v25_apply]
    exact col_place x0 x1 x2 x3 x4 b p 2048 k _ _ rfl rfl rfl
  unfold decay
  rw [val_main_v35_apply, val_main_v34_apply, val_main_cst_4_apply, val_main_v33_apply, val_main_call0_v1_apply, val_main_call0_call0_v4_apply, val_main_call0_call0_v6_apply,
    val_main_call0_call0_v11_apply, val_main_call0_call0_v10_apply, val_main_call0_call0_v9_apply, val_main_call0_call0_v8_apply, val_main_call0_call0_v7_apply, val_main_call0_call0_v1_apply,
    val_main_call0_call0_v3_apply, val_main_call0_call0_v0_apply, val_main_call0_call0_v2_apply, val_main_call0_call0_v5_apply, val_main_call0_call0_cst_apply, val_main_call0_v0_apply]
  refine (logGate_eq _).trans (congrArg logGate ?_)
  rw [val_main_v32_apply, val_main_v31_apply, val_main_v30_apply, val_main_v29_apply, eb]
  simp only [el, er, ep]
  rfl

/-- The backward decay. -/
theorem backward_row (j : Fin 256) : val_main_v42 (F := Ideal) x0 x1 x2 x3 x4 x7 x8 (ix3 b p j) = decay x0 x1 x2 x3 x4 2064 (by omega) x7 x8 b p j := by
  have el (k : Fin 16) : lidx_main_v36 (ix3 b p j) k = ix3 b p k := by
    funext a
    match a with
    | ⟨0, _⟩ => rfl
    | ⟨1, _⟩ => rfl
    | ⟨2, _⟩ => rfl
  have er (k : Fin 16) : ridx_main_v36 (ix3 b p j) k = ix2 k j := by
    funext a
    match a with
    | ⟨0, _⟩ => rfl
    | ⟨1, _⟩ => rfl
  have eb : idx_main_v37 (idx_main_v38 (ix3 b p j)) = ix1 j := by
    funext a
    match a with
    | ⟨0, _⟩ => rfl
  have ep (k : Fin 16) : val_main_v26 (F := Ideal) x0 x1 x2 x3 x4 (ix3 b p k) = proj x0 x1 x2 x3 x4 b p ⟨2064 + k.val, by omega⟩ := by
    rw [val_main_v26_apply]
    exact col_place x0 x1 x2 x3 x4 b p 2064 k _ _ rfl rfl rfl
  unfold decay
  rw [val_main_v42_apply, val_main_v41_apply, val_main_cst_5_apply, val_main_v40_apply, val_main_call1_v1_apply, val_main_call1_call0_v4_apply, val_main_call1_call0_v6_apply,
    val_main_call1_call0_v11_apply, val_main_call1_call0_v10_apply, val_main_call1_call0_v9_apply, val_main_call1_call0_v8_apply, val_main_call1_call0_v7_apply, val_main_call1_call0_v1_apply,
    val_main_call1_call0_v3_apply, val_main_call1_call0_v0_apply, val_main_call1_call0_v2_apply, val_main_call1_call0_v5_apply, val_main_call1_call0_cst_apply, val_main_call1_v0_apply]
  refine (logGate_eq _).trans (congrArg logGate ?_)
  rw [val_main_v39_apply, val_main_v38_apply, val_main_v37_apply, val_main_v36_apply, eb]
  simp only [el, er, ep]
  rfl

end Stages

end Cert.Reference3Ideal.Proj

end
-- ==== Proof.ModIn.lean ====
/- The modulation call, over the extended reals: the rows that the host lines stack, its body's operations at an element, and the array it leaves. -/
module

public import proofs.«01_k».proof.Proof.ProjIn
public import proofs.«01_k».proof.Proof.Gen.Kernel4Ideal.Value
public import Idealize.ShloMosaic.Lib.Routing.OpsSet

@[expose] public section

set_option maxRecDepth 16384

noncomputable section

namespace Cert.Kernel4Ideal.Adaln

open Cert.Kernel4Ideal Cert.Kernel4Ideal.Gen
open Idealize.ShloMosaic hiding ix1 ix2 ix3 ix4 ix5
open Idealize.ShloMosaic.TcCoe Idealize.ShloMosaic.Tactic
open Idealize.SL.Sem
open Idealize.ShloMosaic.Pipeline (Dat Cfg Window)
open Cert.KernelIdeal.Moe (gate)
open ValueIdx (ix1 ix2 ix3)

open scoped BigOperators

/-! ## The modulation, from the argument arrays -/

section Values
variable (c : FVec Ideal S8x1024 .f32) (cc : FVec Ideal S1024 .f32) (w : FVec Ideal S2x1024x6144 .f32) (b : FVec Ideal S2x6144 .f32)

/-- Row `r` of the stacked vectors: the batch's eight, the context's, and zeros. -/
def condRow (r : Fin 16) (q : Fin 1024) : EReal := if h : r.val < 8 then c (ix2 ⟨r.val, h⟩ q) else if r.val = 8 then cc (ix1 q) else 0

/-- Layer `l`'s modulation by row `r`: the row's gate through the layer's weight, and the bias. -/
def modulation (l : Fin 2) (r : Fin 16) (j : Fin 6144) : EReal := (∑ q : Fin 1024, gate (condRow c cc r q) * w (ix3 l q j)) + b (ix2 l j)

/-- The modulation as an array. -/
def modArray : S2x16x6144.Idx → EReal := fun i => modulation c cc w b ⟨(i 0).val, (i 0).isLt⟩ ⟨(i 1).val, (i 1).isLt⟩ ⟨(i 2).val, (i 2).isLt⟩

/-- An array is the modulation's from its elements. -/
theorem modArray_eq (X : S2x16x6144.Idx → EReal) (h : ∀ l r j, X (ix3 l r j) = modulation c cc w b l r j) : X = modArray c cc w b := by
  funext y
  have hy : y = ix3 (⟨(y 0).val, (y 0).isLt⟩ : Fin 2) (⟨(y 1).val, (y 1).isLt⟩ : Fin 16) (⟨(y 2).val, (y 2).isLt⟩ : Fin 6144) := by
    funext a
    match a with
    | ⟨0, _⟩ => rfl
    | ⟨1, _⟩ => rfl
    | ⟨2, _⟩ => rfl
  exact (congrArg X hy).trans (h _ _ _)

end Values

/-! ## The host lines' rows -/

/-- The array of zeros. -/
def blank : FVec Ideal S16x1024 .f32 := broadcastInDim S16x1024 ![] bcast_S_S16x1024 (constant (F := Ideal) S_ .f32 0x00000000#32)

/-- A single index word. -/
def word (k : BitVec 32) : IVec S1 32 := broadcastInDim S1 ![] bcast_S_S1 (constantI S_ 32 k)

/-- Where an element of the eight rows lands: at its own place. -/
theorem lands_rows (a : Fin 8) (e : Fin 1024) (r : Fin 16) (q : Fin 1024) :
    scatter_S16x1024_S1_S8x1024_01_n_0_0.resultIdx? (ix2 a e) (word 0#32) = some (ix2 r q) ↔ a.val = r.val ∧ e.val = q.val := by
  have s0 : scatter_S16x1024_S1_S8x1024_01_n_0_0.start (ix2 a e) (word 0#32) 0 = 0 := rfl
  have s1 : scatter_S16x1024_S1_S8x1024_01_n_0_0.start (ix2 a e) (word 0#32) 1 = 0 := rfl
  have w0 : scatter_S16x1024_S1_S8x1024_01_n_0_0.window (ix2 a e) 0 = a.val := rfl
  have w1 : scatter_S16x1024_S1_S8x1024_01_n_0_0.window (ix2 a e) 1 = e.val := rfl
  refine (Routing.resultIdx?_ix2 _ _ _ r q).trans ?_
  rw [s0, s1, w0, w1]
  omega

/-- Where an element of the ninth row lands: in row 8. -/
theorem lands_row (e : Fin 1024) (r : Fin 16) (q : Fin 1024) :
    scatter_S16x1024_S1_S1024_0_0_0_0.resultIdx? (ix1 e) (word 8#32) = some (ix2 r q) ↔ r.val = 8 ∧ e.val = q.val := by
  have s0 : scatter_S16x1024_S1_S1024_0_0_0_0.start (ix1 e) (word 8#32) 0 = 8 := rfl
  have s1 : scatter_S16x1024_S1_S1024_0_0_0_0.start (ix1 e) (word 8#32) 1 = 0 := rfl
  have w0 : scatter_S16x1024_S1_S1024_0_0_0_0.window (ix1 e) 0 = 0 := rfl
  have w1 : scatter_S16x1024_S1_S1024_0_0_0_0.window (ix1 e) 1 = e.val := rfl
  refine (Routing.resultIdx?_ix2 _ _ _ r q).trans ?_
  rw [s0, s1, w0, w1]
  omega

/-- The two writes into the zeros leave the stacked rows. -/
theorem rows_apply (c : FVec Ideal S8x1024 .f32) (cc : FVec Ideal S1024 .f32) (r : Fin 16) (q : Fin 1024) :
    Host.scatter scatter_S16x1024_S1_S1024_0_0_0_0 (fun _ b => b) (Host.scatter scatter_S16x1024_S1_S8x1024_01_n_0_0 (fun _ b => b) blank (word 0#32) c) (word 8#32) cc (ix2 r q)
      = condRow c cc r q := by
  have place2 (k : S8x1024.Idx) : k = ix2 (⟨(k 0).val, (k 0).isLt⟩ : Fin 8) (⟨(k 1).val, (k 1).isLt⟩ : Fin 1024) := by
    funext a
    match a with
    | ⟨0, _⟩ => rfl
    | ⟨1, _⟩ => rfl
  have place1 (k : S1024.Idx) : k = ix1 (⟨(k 0).val, (k 0).isLt⟩ : Fin 1024) := by
    funext a
    match a with
    | ⟨0, _⟩ => rfl
  unfold condRow
  by_cases h8 : r.val = 8
  · rw [dif_neg (by omega), if_pos h8]
    refine Routing.scatter_set_hit _ _ _ _ _ _ (fun k hk => ?_) (ix1 q) ((lands_row q r q).mpr ⟨h8, rfl⟩)
    rw [place1 k] at hk ⊢
    exact congrArg (fun t : Fin 1024 => cc (ix1 t)) (Fin.ext ((lands_row _ r q).mp hk).2)
  · refine (Routing.scatter_set_miss _ _ _ _ _ fun k hk => ?_).trans ?_
    · rw [place1 k] at hk
      exact h8 ((lands_row _ r q).mp hk).1
    · by_cases hr : r.val < 8
      · rw [dif_pos hr]
        refine Routing.scatter_set_hit _ _ _ _ _ _ (fun k hk => ?_) (ix2 ⟨r.val, hr⟩ q) ((lands_rows ⟨r.val, hr⟩ q r q).mpr ⟨rfl, rfl⟩)
        rw [place2 k] at hk ⊢
        obtain ⟨e0, e1⟩ := (lands_rows _ _ r q).mp hk
        exact congrArg₂ (fun (s : Fin 8) (t : Fin 1024) => c (ix2 s t)) (Fin.ext e0) (Fin.ext e1)
      · rw [dif_neg hr, if_neg h8]
        refine (Routing.scatter_set_miss _ _ _ _ _ fun k hk => ?_).trans ((ValueIdx.broadcastInDim_scalar_apply _ _ _).trans Ideal.ofBits_zero_f32)
        rw [place2 k] at hk
        obtain ⟨e0, -⟩ := (lands_rows _ _ r q).mp hk
        have := (k 0).isLt
        exact hr (e0 ▸ (k 0).isLt)

/-! ## The body at an element -/

theorem dot_plain : dot_S16x1024_S1024x1536_S16x1536_1_0_0_1_n_n = DotDims.plain 16 1024 1536 := rfl

/-- The body's result at an element: the row's gate through the block of the weight, and the bias. -/
theorem pay_apply (x0 : Vec Ideal S16x1024 .f32) (x1 : Vec Ideal S1x1024x1536 .f32) (x2 : Vec Ideal S1x1x1536 .f32) (r : Fin 16) (j : Fin 1536) :
    k0_pay1 x0 x1 x2 (ix3 (0 : Fin 1) r j) = (∑ q : Fin 1024, gate (x0 (ix2 r q)) * x1 (ix3 (0 : Fin 1) q j)) + x2 (ix3 (0 : Fin 1) (0 : Fin 1) j) := by
  unfold k0_pay1
  refine (ValueIdx.shapeCast_ab_1ab_apply _ _ _ r j).trans (congrArg₂ (· + ·) ?_ ?_)
  · rw [dot_plain, shapeCast_id]
    refine (Ideal.matmul_plain_apply (φ₁ := .bf16) (φ₂ := .bf16) none _ _ _ r j).trans ?_
    rw [show constant (F := Ideal) S16x1536 .f32 0x00000000#32 (ix2 r j) = 0 from Ideal.ofBits_zero_f32, zero_add]
    refine Finset.sum_congr rfl fun q _ => congrArg₂ (fun u v : EReal => u * v) ?_ (ValueIdx.shapeCast_1ab_ab_apply _ _ _ _)
    unfold gate
    rw [← zero_sub, ← Ideal.ofBits_zero_f32]
    rfl
  · refine (ValueIdx.broadcastTo_1b_ab_apply _ _ r j).trans ?_
    exact ValueIdx.shapeCast_1ab_ab_apply _ _ _ _

theorem zero2 : (![0, 0] : Fin 2 → ℕ) = fun _ => 0 := funext fun | 0 => rfl | 1 => rfl
theorem zero3 : (![0, 0, 0] : Fin 3 → ℕ) = fun _ => 0 := funext fun | 0 => rfl | 1 => rfl | 2 => rfl

theorem out_apply (x0 : Vec Ideal S16x1024 .f32) (x1 : Vec Ideal S1x1024x1536 .f32) (x2 : Vec Ideal S1x1x1536 .f32) (r : Fin 16) (j : Fin 1536) :
    out0_3 x0 x1 x2 (ix3 (0 : Fin 1) r j) = (∑ q : Fin 1024, gate (x0 (ix2 r q)) * x1 (ix3 (0 : Fin 1) q j)) + x2 (ix3 (0 : Fin 1) (0 : Fin 1) j) := by
  unfold out0_3
  rw [View.canon_unit_zero zero3, View.ld_unit_zero zero2, View.ld_unit_zero zero3, View.ld_unit_zero zero3]
  exact pay_apply x0 x1 x2 r j

/-! ## The blocks and the array -/

variable (m : (ℓ : Loc nD τ sig) → Buf (Elt Ideal) ℓ)

/-- The host lines leave the stacked rows, and the biases with an axis of size one between theirs. -/
theorem host_in (c : Dev nD) :
    V m c main_v4 = (Host.scatter scatter_S16x1024_S1_S1024_0_0_0_0 (fun _ b => b) (Host.scatter scatter_S16x1024_S1_S8x1024_01_n_0_0 (fun _ b => b) blank (word 0#32)
        (m ((c : Thread nD τ).loc main_arg0) : FVec Ideal S8x1024 .f32)) (word 8#32) (m ((c : Thread nD τ).loc main_arg1) : FVec Ideal S1024 .f32) : FVec Ideal S16x1024 .f32)
    ∧ V m c main_v5 = shapeCast S2x1x6144 (m ((c : Thread nD τ).loc main_arg3) : FVec Ideal S2x6144 .f32) shapeCasts_S2x6144_S2x1x6144 := by
  refine ⟨?_, ?_⟩ <;>
  · unfold V
    simp only [hostOps0, List.flatten_cons, List.flatten_nil, List.append_nil, List.cons_append, List.nil_append]
    entry_read
    all_goals rfl

/-- A block's element, from its place. -/
theorem emb_eq (w : Window sig grid0) (t : Fin grid0.N) (s : Fin w.shape.rank → ℕ) (hk : w.kind = .blocked) (hi : w.index t = s) (y : (w.xblock (grid0.coords t)).Idx) (x : w.shape.Idx)
    (h : ∀ b, (x b : ℕ) = s b * w.size b + (y b).val) : (w.rect t).emb y = x :=
  funext fun b => Fin.ext ((Pipeline.Window.rect_emb_val w t y b hk).trans ((congrArg (fun k : ℕ => k * w.size b + (y b).val) (congrFun hi b)).trans (h b).symm))

/-- Point `t` is layer `t / 4`, columns from `1536 (t mod 4)` on. -/
theorem idx : ∀ t : Fin grid0.N, win0_0.index t = ![0, 0] ∧ win0_1.index t = ![t.val / 4, 0, t.val % 4] ∧ win0_2.index t = ![t.val / 4, 0, t.val % 4]
    ∧ win0_3.index t = ![t.val / 4, 0, t.val % 4] := by decide +kernel
/-- The result is written back at every point. -/
theorem flushes : ∀ t : Fin grid0.N, win0_3.flush t = true := by decide +kernel

/-- The three blocks at a point. -/
theorem blk (c : Dev nD) (t : Fin cfg0.N) (l : Fin 2) (j : Fin 1536) (J : Fin 6144) (hl : l.val = t.val / 4) (hJ : J.val = 1536 * (t.val % 4) + j.val) :
    (∀ r q, (iblk m c 0 t : Vec Ideal S16x1024 .f32) (ix2 r q) = condRow (m ((c : Thread nD τ).loc main_arg0)) (m ((c : Thread nD τ).loc main_arg1)) r q)
    ∧ (∀ q, (iblk m c 1 t : Vec Ideal S1x1024x1536 .f32) (ix3 (0 : Fin 1) q j) = (m ((c : Thread nD τ).loc main_arg2) : FVec Ideal S2x1024x6144 .f32) (ix3 l q J))
    ∧ (iblk m c 2 t : Vec Ideal S1x1x1536 .f32) (ix3 (0 : Fin 1) (0 : Fin 1) j) = (m ((c : Thread nD τ).loc main_arg3) : FVec Ideal S2x6144 .f32) (ix2 l J) := by
  have h (n : ℕ) {k : ℕ} (q : Fin k) : q.val = 0 * n + q.val := by omega
  have h0 : l.val = t.val / 4 * 1 + 0 := by omega
  have h2 : J.val = t.val % 4 * 1536 + j.val := by omega
  obtain ⟨i0, i1, i2, -⟩ := idx t
  refine ⟨fun r q => ?_, fun q => ?_, ?_⟩
  · refine Eq.trans ?_ ((congrFun (host_in m c).1 (ix2 r q)).trans (rows_apply _ _ r q))
    show (V m c main_v4 : FVec Ideal S16x1024 .f32) ((win0_0.rect t).emb (ix2 r q)) = _
    exact congrArg (V m c main_v4 : FVec Ideal S16x1024 .f32) (emb_eq win0_0 t _ rfl i0 (ix2 r q) (ix2 r q) fun | ⟨0, _⟩ => h 16 r | ⟨1, _⟩ => h 1024 q)
  · refine Eq.trans ?_ (congrFun (V_main_arg2 m c) (ix3 l q J))
    show (V m c main_arg2 : FVec Ideal S2x1024x6144 .f32) ((win0_1.rect t).emb (ix3 (0 : Fin 1) q j)) = _
    exact congrArg (V m c main_arg2 : FVec Ideal S2x1024x6144 .f32) (emb_eq win0_1 t _ rfl i1 (ix3 (0 : Fin 1) q j) (ix3 l q J) fun | ⟨0, _⟩ => h0 | ⟨1, _⟩ => h 1024 q | ⟨2, _⟩ => h2)
  · refine Eq.trans ?_ ((congrFun (host_in m c).2 (ix3 l (0 : Fin 1) J)).trans ?_)
    · show (V m c main_v5 : FVec Ideal S2x1x6144 .f32) ((win0_2.rect t).emb (ix3 (0 : Fin 1) (0 : Fin 1) j)) = _
      exact congrArg (V m c main_v5 : FVec Ideal S2x1x6144 .f32) (emb_eq win0_2 t _ rfl i2 (ix3 (0 : Fin 1) (0 : Fin 1) j) (ix3 l (0 : Fin 1) J) fun | ⟨0, _⟩ => h0 | ⟨1, _⟩ => rfl | ⟨2, _⟩ => h2)
    · refine shapeCast_apply _ _ (ix3 l (0 : Fin 1) J) (ix2 l J) ?_
      rw [Shape.rowMajor_val_three, Shape.rowMajor_val_two]
      show l.val * 6144 + J.val = (l.val * 1 + 0) * 6144 + J.val
      omega

/-- The modulation of the launch contents. -/
def modOf (c : Dev nD) : S2x16x6144.Idx → EReal :=
  modArray (m ((c : Thread nD τ).loc main_arg0)) (m ((c : Thread nD τ).loc main_arg1)) (m ((c : Thread nD τ).loc main_arg2)) (m ((c : Thread nD τ).loc main_arg3))

/-- The result after the last point is the modulation. -/
theorem array3 (c : Dev nD) : (dats m 0 c).arrAt 3 cfg0.N = modOf m c := by
  refine (dats m 0 c).arrAt_eq_of_emb (3 : Fin 4) (modOf m c) (fun t _ (y : S1x16x1536.Idx) => ?_) (fun (i : S2x16x6144.Idx) => ?_)
  · have ht : t.val < 8 := t.isLt.trans_eq N_0
    have y0 : (y 0).val < 1 := (y 0).isLt
    have y2 : (y 2).val < 1536 := (y 2).isLt
    obtain ⟨r, j, rfl⟩ : ∃ (r : Fin 16) (j : Fin 1536), y = ix3 (0 : Fin 1) r j := by
      refine ⟨⟨(y 1).val, (y 1).isLt⟩, ⟨(y 2).val, y2⟩, ?_⟩
      funext a
      match a with
      | ⟨0, _⟩ => exact Fin.ext (by show (y 0).val = 0; omega)
      | ⟨1, _⟩ => rfl
      | ⟨2, _⟩ => rfl
    obtain ⟨l, hl⟩ : ∃ l : Fin 2, l.val = t.val / 4 := ⟨⟨t.val / 4, by omega⟩, rfl⟩
    obtain ⟨J, hJ⟩ : ∃ J : Fin 6144, J.val = 1536 * (t.val % 4) + j.val := ⟨⟨1536 * (t.val % 4) + j.val, by omega⟩, rfl⟩
    have p0 : l.val = t.val / 4 * 1 + 0 := by omega
    have p1 : r.val = 0 * 16 + r.val := by omega
    have p2 : J.val = t.val % 4 * 1536 + j.val := by omega
    refine (congrFun (after0_3 m c t) _).trans (Eq.trans ?_ (congrArg (modOf m c)
      (emb_eq win0_3 t _ rfl (idx t).2.2.2 (ix3 (0 : Fin 1) r j) (ix3 l r J) fun | ⟨0, _⟩ => p0 | ⟨1, _⟩ => p1 | ⟨2, _⟩ => p2).symm))
    obtain ⟨b0, b1, b2⟩ := blk m c t l j J hl hJ
    refine (out_apply _ _ _ r j).trans (congrArg₂ (fun u v : EReal => u + v) (Finset.sum_congr rfl fun q _ => ?_) b2)
    exact congrArg₂ (fun u v : EReal => u * v) (congrArg gate (b0 r q)) (b1 q)
  · have i0 : (i 0).val < 2 := (i 0).isLt
    have i1 : (i 1).val < 16 := (i 1).isLt
    have i2 : (i 2).val < 6144 := (i 2).isLt
    obtain ⟨t, ht⟩ : ∃ t : Fin grid0.N, t.val = 4 * (i 0).val + (i 2).val / 1536 := ⟨⟨4 * (i 0).val + (i 2).val / 1536, by rw [N_0]; omega⟩, rfl⟩
    have c0 : t.val / 4 * 1 ≤ (i 0).val ∧ (i 0).val < t.val / 4 * 1 + 1 := by omega
    have c1 : 0 * 16 ≤ (i 1).val ∧ (i 1).val < 0 * 16 + 16 := by omega
    have c2 : t.val % 4 * 1536 ≤ (i 2).val ∧ (i 2).val < t.val % 4 * 1536 + 1536 := by omega
    refine ⟨t, flushes t, (Pipeline.Window.emb_mem_blk_iff win0_3 t i rfl).mpr fun a => ?_⟩
    rw [(idx t).2.2.2]
    exact match a with | ⟨0, _⟩ => c0 | ⟨1, _⟩ => c1 | ⟨2, _⟩ => c2

end Cert.Kernel4Ideal.Adaln

end
-- ==== Proof.ModRef.lean ====
/- The modulation's reference, over the extended reals, read at an element. -/
module

public import proofs.«01_k».proof.Proof.ModIn
public import proofs.«01_k».proof.Proof.OutRef
public import proofs.«01_k».proof.Proof.Gen.Reference4Ideal.Read

@[expose] public section

set_option maxRecDepth 16384

noncomputable section

namespace Cert.Reference4Ideal.Adaln

open Cert.Reference4Ideal Cert.Reference4Ideal.Gen Cert.Reference4Ideal.Read
open Idealize.ShloMosaic hiding ix1 ix2 ix3 ix4 ix5
open Idealize.ShloMosaic.TcCoe Idealize.SL.Sem
open Cert.KernelIdeal.Moe (gate)
open Cert.Kernel4Ideal.Adaln (condRow modulation)
open ValueIdx (ix1 ix2 ix3)

open scoped BigOperators

/-- Zero's gate is zero. -/
theorem gate_zero : gate 0 = 0 := zero_mul _

/-- Three pieces of eight, one and seven rows, joined: a row past the first piece is the second's or the third's. -/
theorem stacked (A : FVec Ideal S8x6144 .f32) (B : FVec Ideal S1x6144 .f32) (C : FVec Ideal S7x6144 .f32) (r : Fin 16) (j : Fin 6144) :
    concatenate S16x6144 0 [⟨S8x6144, A⟩, ⟨S1x6144, B⟩, ⟨S7x6144, C⟩] concatenates_S8x6144_S1x6144_S7x6144_S16x6144_d0 (ix2 r j)
      = if h : r.val < 8 then A (ix2 ⟨r.val, h⟩ j) else if h' : r.val = 8 then B (ix2 (0 : Fin 1) j) else C (ix2 ⟨r.val - 9, by have := r.isLt; omega⟩ j) := by
  by_cases h : r.val < 8
  · rw [dif_pos h]
    refine concatenate_apply_piece 0 _ _ (ix2 r j) 0 (by show 0 < 3; omega) S8x6144 A rfl rfl 0 rfl (ix2 ⟨r.val, h⟩ j) (fun b hb => ?_) ?_
    · match b, hb with
      | ⟨0, _⟩, hb => exact absurd rfl hb
      | ⟨1, _⟩, _ => rfl
    · show 0 + r.val = r.val
      omega
  · rw [dif_neg h]
    by_cases h' : r.val = 8
    · rw [dif_pos h']
      refine concatenate_apply_piece 0 _ _ (ix2 r j) 1 (by show 1 < 3; omega) S1x6144 B rfl rfl 8 rfl (ix2 (0 : Fin 1) j) (fun b hb => ?_) ?_
      · match b, hb with
        | ⟨0, _⟩, hb => exact absurd rfl hb
        | ⟨1, _⟩, _ => rfl
      · show 8 + 0 = r.val
        omega
    · rw [dif_neg h']
      refine concatenate_apply_piece 0 _ _ (ix2 r j) 2 (by show 2 < 3; omega) S7x6144 C rfl rfl 9 rfl (ix2 ⟨r.val - 9, by have := r.isLt; omega⟩ j) (fun b hb => ?_) ?_
      · match b, hb with
        | ⟨0, _⟩, hb => exact absurd rfl hb
        | ⟨1, _⟩, _ => rfl
      · show 9 + (r.val - 9) = r.val
        omega

section Stages
variable (x0 : FVec Ideal S8x1024 .f32) (x1 : FVec Ideal S1024 .f32) (x2 : FVec Ideal S2x1024x6144 .f32) (x3 : FVec Ideal S2x6144 .f32)

/-- The two layers' weights. -/
theorem weights (q : Fin 1024) (j : Fin 6144) :
    val_main_v3 (F := Ideal) x2 (ix2 q j) = x2 (ix3 (0 : Fin 2) q j) ∧ val_main_v22 (F := Ideal) x2 (ix2 q j) = x2 (ix3 (1 : Fin 2) q j) := by
  have hq := q.isLt
  have hj := j.isLt
  constructor
  · rw [val_main_v3_apply, val_main_v2_apply]
    refine congrArg x2 (funext fun a => Fin.ext ?_)
    match a with
    | ⟨0, _⟩ => rfl
    | ⟨1, _⟩ => show (q.val * 6144 + j.val) / 6144 % 1024 = q.val; omega
    | ⟨2, _⟩ => show (q.val * 6144 + j.val) % 6144 = j.val; omega
  · rw [val_main_v22_apply, val_main_v21_apply]
    refine congrArg x2 (funext fun a => Fin.ext ?_)
    match a with
    | ⟨0, _⟩ => rfl
    | ⟨1, _⟩ => show (q.val * 6144 + j.val) / 6144 % 1024 = q.val; omega
    | ⟨2, _⟩ => show (q.val * 6144 + j.val) % 6144 = j.val; omega

/-- The two layers' biases. -/
theorem biases (j : Fin 6144) :
    val_main_v6 (F := Ideal) x3 (ix1 j) = x3 (ix2 (0 : Fin 2) j) ∧ val_main_v25 (F := Ideal) x3 (ix1 j) = x3 (ix2 (1 : Fin 2) j) := by
  have hj := j.isLt
  constructor
  · rw [val_main_v6_apply, val_main_v5_apply]
    refine congrArg x3 (funext fun a => Fin.ext ?_)
    match a with
    | ⟨0, _⟩ => rfl
    | ⟨1, _⟩ => show j.val % 6144 = j.val; omega
  · rw [val_main_v25_apply, val_main_v24_apply]
    refine congrArg x3 (funext fun a => Fin.ext ?_)
    match a with
    | ⟨0, _⟩ => rfl
    | ⟨1, _⟩ => show j.val % 6144 = j.val; omega

/-- The gated vectors: the batch's and the context's. -/
theorem gated (a : Fin 8) (q : Fin 1024) : val_main_v0 (F := Ideal) x0 (ix2 a q) = gate (x0 (ix2 a q)) ∧ val_main_v1 (F := Ideal) x1 (ix1 q) = gate (x1 (ix1 q)) := by
  constructor
  · rw [val_main_v0_apply, val_main_call0_v5_apply, val_main_call0_v4_apply, val_main_call0_cst_0_apply, val_main_call0_v3_apply, val_main_call0_v2_apply, val_main_call0_cst_apply,
      val_main_call0_v1_apply, val_main_call0_v0_apply]
    exact Cert.Reference2Ideal.Out.gate_eq _
  · rw [val_main_v1_apply, val_main_call1_v5_apply, val_main_call1_v4_apply, val_main_call1_cst_0_apply, val_main_call1_v3_apply, val_main_call1_v2_apply, val_main_call1_cst_apply,
      val_main_call1_v1_apply, val_main_call1_v0_apply]
    exact Cert.Reference2Ideal.Out.gate_eq _

/-- A stack of the three kinds of rows is a layer's modulation. The last rows' vector is zero, so is its gate, and the bias is left. -/
theorem layer_stack (l : Fin 2) (A : FVec Ideal S8x6144 .f32) (B : FVec Ideal S1x6144 .f32) (C : FVec Ideal S7x6144 .f32) (r : Fin 16) (j : Fin 6144)
    (hA : ∀ a, A (ix2 a j) = ((∑ q : Fin 1024, gate (x0 (ix2 a q)) * x2 (ix3 l q j)) + x3 (ix2 l j) : EReal))
    (hB : B (ix2 (0 : Fin 1) j) = ((∑ q : Fin 1024, gate (x1 (ix1 q)) * x2 (ix3 l q j)) + x3 (ix2 l j) : EReal)) (hC : ∀ a, C (ix2 a j) = x3 (ix2 l j)) :
    concatenate S16x6144 0 [⟨S8x6144, A⟩, ⟨S1x6144, B⟩, ⟨S7x6144, C⟩] concatenates_S8x6144_S1x6144_S7x6144_S16x6144_d0 (ix2 r j) = modulation x0 x1 x2 x3 l r j := by
  rw [stacked]
  unfold modulation condRow
  by_cases h : r.val < 8
  · simp only [dif_pos h]
    exact hA _
  · by_cases h' : r.val = 8
    · simp only [dif_neg h, dif_pos h', if_pos h']
      exact hB
    · simp only [dif_neg h, dif_neg h', if_neg h']
      refine (hC _).trans ?_
      rw [gate_zero, Finset.sum_eq_zero fun q _ => zero_mul _, zero_add]

/-- The first layer's rows, -/
theorem first_layer (r : Fin 16) (j : Fin 6144) : val_main_v20 (F := Ideal) x0 x1 x2 x3 (ix2 r j) = modulation x0 x1 x2 x3 0 r j := by
  unfold val_main_v20
  refine layer_stack x0 x1 x2 x3 0 _ _ _ r j (fun a => ?_) ?_ fun a => ?_
  · rw [val_main_v9_apply, val_main_v4_apply, val_main_v8_apply, val_main_v7_apply]
    refine congrArg₂ (fun u v : EReal => u + v) (Finset.sum_congr rfl fun q _ => congrArg₂ (fun u v : EReal => u * v) ?_ ?_) ?_
    · exact (congrArg (val_main_v0 (F := Ideal) x0) (show lidx_main_v4 (ix2 a j) q = ix2 a q from funext fun | ⟨0, _⟩ => rfl | ⟨1, _⟩ => rfl)).trans (gated x0 x1 a q).1
    · exact (congrArg (val_main_v3 (F := Ideal) x2) (funext fun | ⟨0, _⟩ => rfl | ⟨1, _⟩ => rfl)).trans (weights x2 q j).1
    · exact (congrArg (val_main_v6 (F := Ideal) x3) (funext fun | ⟨0, _⟩ => rfl)).trans (biases x3 j).1
  · rw [val_main_v19_apply, val_main_v15_apply, val_main_v12_apply]
    refine congrArg₂ (fun u v : EReal => u + v) (Finset.sum_congr rfl fun q _ => congrArg₂ (fun u v : EReal => u * v) ?_ ?_) ?_
    · exact (congrArg (val_main_v1 (F := Ideal) x1) (show lidx_main_v12 (idx_main_v19 (ix2 (0 : Fin 1) j)) q = ix1 q from funext fun | ⟨0, _⟩ => rfl)).trans (gated x0 x1 0 q).2
    · exact (congrArg (val_main_v3 (F := Ideal) x2) (funext fun | ⟨0, _⟩ => rfl | ⟨1, _⟩ => rfl)).trans (weights x2 q j).1
    · exact (congrArg (val_main_v6 (F := Ideal) x3) (funext fun | ⟨0, _⟩ => rfl)).trans (biases x3 j).1
  · rw [val_main_v18_apply]
    exact (congrArg (val_main_v6 (F := Ideal) x3) (funext fun | ⟨0, _⟩ => rfl)).trans (biases x3 j).1

/-- and the second's. -/
theorem second_layer (r : Fin 16) (j : Fin 6144) : val_main_v39 (F := Ideal) x0 x1 x2 x3 (ix2 r j) = modulation x0 x1 x2 x3 1 r j := by
  unfold val_main_v39
  refine layer_stack x0 x1 x2 x3 1 _ _ _ r j (fun a => ?_) ?_ fun a => ?_
  · rw [val_main_v28_apply, val_main_v23_apply, val_main_v27_apply, val_main_v26_apply]
    refine congrArg₂ (fun u v : EReal => u + v) (Finset.sum_congr rfl fun q _ => congrArg₂ (fun u v : EReal => u * v) ?_ ?_) ?_
    · exact (congrArg (val_main_v0 (F := Ideal) x0) (show lidx_main_v23 (ix2 a j) q = ix2 a q from funext fun | ⟨0, _⟩ => rfl | ⟨1, _⟩ => rfl)).trans (gated x0 x1 a q).1
    · exact (congrArg (val_main_v22 (F := Ideal) x2) (funext fun | ⟨0, _⟩ => rfl | ⟨1, _⟩ => rfl)).trans (weights x2 q j).2
    · exact (congrArg (val_main_v25 (F := Ideal) x3) (funext fun | ⟨0, _⟩ => rfl)).trans (biases x3 j).2
  · rw [val_main_v38_apply, val_main_v34_apply, val_main_v31_apply]
    refine congrArg₂ (fun u v : EReal => u + v) (Finset.sum_congr rfl fun q _ => congrArg₂ (fun u v : EReal => u * v) ?_ ?_) ?_
    · exact (congrArg (val_main_v1 (F := Ideal) x1) (show lidx_main_v31 (idx_main_v38 (ix2 (0 : Fin 1) j)) q = ix1 q from funext fun | ⟨0, _⟩ => rfl)).trans (gated x0 x1 0 q).2
    · exact (congrArg (val_main_v22 (F := Ideal) x2) (funext fun | ⟨0, _⟩ => rfl | ⟨1, _⟩ => rfl)).trans (weights x2 q j).2
    · exact (congrArg (val_main_v25 (F := Ideal) x3) (funext fun | ⟨0, _⟩ => rfl)).trans (biases x3 j).2
  · rw [val_main_v37_apply]
    exact (congrArg (val_main_v25 (F := Ideal) x3) (funext fun | ⟨0, _⟩ => rfl)).trans (biases x3 j).2

/-- The reference's result at an element. -/
theorem modulation_row (l : Fin 2) (r : Fin 16) (j : Fin 6144) : val_main_v42 (F := Ideal) x0 x1 x2 x3 (ix3 l r j) = modulation x0 x1 x2 x3 l r j := by
  unfold val_main_v42
  rcases (by omega : l = 0 ∨ l = 1) with rfl | rfl
  · refine (concatenate_pair_apply_left (t := S2x16x6144) (s₁ := S1x16x6144) (s₂ := S1x16x6144) 0 (val_main_v40 (F := Ideal) x0 x1 x2 x3) (val_main_v41 (F := Ideal) x0 x1 x2 x3)
      concatenates_S1x16x6144_S1x16x6144_S2x16x6144_d0 (ix3 (0 : Fin 2) r j) rfl (ix3 (0 : Fin 1) r j) fun a => ?_).trans ?_
    · match a with
      | ⟨0, _⟩ => rfl
      | ⟨1, _⟩ => rfl
      | ⟨2, _⟩ => rfl
    · rw [val_main_v40_apply]
      exact (congrArg (val_main_v20 (F := Ideal) x0 x1 x2 x3) (show idx_main_v40 (ix3 (0 : Fin 1) r j) = ix2 r j from funext fun | ⟨0, _⟩ => rfl | ⟨1, _⟩ => rfl)).trans (first_layer x0 x1 x2 x3 r j)
  · refine (concatenate_apply_piece (t := S2x16x6144) 0 [⟨S1x16x6144, val_main_v40 (F := Ideal) x0 x1 x2 x3⟩, ⟨S1x16x6144, val_main_v41 (F := Ideal) x0 x1 x2 x3⟩]
      concatenates_S1x16x6144_S1x16x6144_S2x16x6144_d0 (ix3 (1 : Fin 2) r j) 1 (by show 1 < 2; omega) S1x16x6144 (val_main_v41 (F := Ideal) x0 x1 x2 x3) rfl rfl 1 rfl (ix3 (0 : Fin 1) r j)
      (fun b hb => ?_) rfl).trans ?_
    · match b, hb with
      | ⟨0, _⟩, hb => exact absurd rfl hb
      | ⟨1, _⟩, _ => rfl
      | ⟨2, _⟩, _ => rfl
    · rw [val_main_v41_apply]
      exact (congrArg (val_main_v39 (F := Ideal) x0 x1 x2 x3) (show idx_main_v41 (ix3 (0 : Fin 1) r j) = ix2 r j from funext fun | ⟨0, _⟩ => rfl | ⟨1, _⟩ => rfl)).trans (second_layer x0 x1 x2 x3 r j)

end Stages

end Cert.Reference4Ideal.Adaln

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_in_range
public import proofs.«01_k».proof.Proof.Gen.ReferenceIdeal.Run
public import proofs.«01_k».proof.Proof.Tables
public import proofs.«01_k».proof.Proof.Same
public import proofs.«01_k».proof.Proof.RefValue
public import proofs.«01_k».proof.Proof.OutRef
public import proofs.«01_k».proof.Proof.ProjRef
public import proofs.«01_k».proof.Proof.ModRef
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Adequacy
public import Idealize.ShloMosaic.Init

@[expose] public section

noncomputable section

namespace Cert.Proof

open Idealize.ShloMosaic Idealize.SL.Sem Cert.Kernel

/-- The kernel's frame at the chip's values, under the precondition: the one run of `Proof/Run.lean` at those values. -/
theorem frame_kernel : Cert.quiescent_Kernel := fun m ρ h =>
  run_same defs_same main_same (Cert.KernelIdeal.Moe.frame_main (F := Bits) m ρ (Cert.KernelIdeal.Moe.ok_of _ (Cert.KernelIdeal.Moe.named_tbl m h)))

/-- The same frame at the ideal values. -/
theorem frame_ideal : Cert.quiescent_KernelIdeal := fun m ρ h =>
  Cert.KernelIdeal.Moe.frame_main (F := Ideal) m ρ (Cert.KernelIdeal.Moe.ok_of _ (Cert.KernelIdeal.Moe.named_tbl m h))

/-- The reference's frame at the ideal values, whatever its arguments hold, -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- and so under the precondition. -/
theorem frame_reference_pre : Cert.quiescent_ReferenceIdeal_pre_in_range := fun m ρ _ => frame_reference m ρ trivial

/-- At the ideal values the kernel and the reference leave the same result: at every element both are the row's feed-forward by the expert
    its block's word names, or zero past the used blocks. -/
theorem same_value : Cert.algebraic_KernelIdeal_ReferenceIdeal := fun m g m' g' hpre hargs =>
  have hn := Cert.KernelIdeal.Moe.named_tbl m hpre
  have hn' (c : Dev Cert.KernelIdeal.nD) : Cert.KernelIdeal.Moe.Named (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
    have h := hn
    rw [(Cert.KernelIdeal.Moe.tbl_eq m c).1, (Cert.KernelIdeal.Moe.tbl_eq m c).2] at h
    exact h
  ⟨Cert.KernelIdeal.Moe.value m,
    (θ_run Cert.KernelIdeal.defs _ _).mono (fun r h c => ⟨(h c).1, (h c).2 _ (by decide), (h c).2 _ (by decide), (h c).2 _ (by decide), (h c).2 _ (by decide),
      (h c).2 _ (by decide), (h c).2 _ (by decide)⟩) (Cert.KernelIdeal.Moe.run_value m g (Cert.KernelIdeal.Moe.ok_of _ hn) hn),
    (θ_run Cert.ReferenceIdeal.defs _ _).mono (fun r h c => ⟨(h c).1.trans (by
      obtain ⟨a0, a1, a2, a3, a4, a5⟩ := hargs c
      rw [a0, a1, a2, a3, a4, a5]
      funext y
      have hy : y = ValueIdx.ix2 (⟨(y 0).val, (y 0).isLt⟩ : Fin 69632) (⟨(y 1).val, (y 1).isLt⟩ : Fin 1024) := by
        funext a
        match a with
        | ⟨0, _⟩ => rfl
        | ⟨1, _⟩ => rfl
      refine (congrArg (Cert.ReferenceIdeal.Moe.value _ _ _ _ _ _) hy).trans ?_
      exact Cert.ReferenceIdeal.Moe.value_apply _ _ _ _ _ _ (hn' c) _ _), (h c).2⟩) (Cert.ReferenceIdeal.Moe.run_value m' g')⟩

/-- The layer-end call's frame at the chip's values, -/
theorem frame_kernel2 : Cert.quiescent_Kernel2 := fun m ρ _ => Cert.Kernel2.Gen.frame m ρ

/-- at the ideal values, -/
theorem frame_ideal2 : Cert.quiescent_Kernel2Ideal := fun m ρ _ => Cert.Kernel2Ideal.Gen.frame m ρ

/-- and its reference's. -/
theorem frame_reference2 : Cert.quiescent_Reference2Ideal := fun m ρ _ =>
  (θ_run Cert.Reference2Ideal.defs _ _).mono (fun r h => ⟨fun c => (h c).2.2.2.2, sem_eq_zero_of_no_sems (by decide) r.2⟩) (Cert.Reference2Ideal.Value.run m ρ)

/-- The reference's first result is the layer's end of its arguments, as an array. -/
theorem layer_array (x0 x1 x2 x3 : FVec Ideal Cert.Reference2Ideal.S8x4096x512 .f32) (x4 : FVec Ideal Cert.Reference2Ideal.S8x4096x1024 .f32) (x5 : FVec Ideal Cert.Reference2Ideal.S128 .f32)
    (x6 : FVec Ideal Cert.Reference2Ideal.S1024x1024 .f32) (x7 : FVec Ideal Cert.Reference2Ideal.S8x1x1024 .f32) (x8 : FVec Ideal Cert.Reference2Ideal.S1024 .f32)
    (x9 x10 x11 : FVec Ideal Cert.Reference2Ideal.S8x1x1024 .f32) (x12 x13 : FVec Ideal Cert.Reference2Ideal.S1024x2816 .f32) (x14 : FVec Ideal Cert.Reference2Ideal.S2816x1024 .f32) :
    Cert.Reference2Ideal.Read.val_main_v50 (F := Ideal) x0 x1 x2 x3 x4 x5 x6 x7 x8 x9 x10 x11 x12 x13 x14
      = fun i => Cert.Kernel2Ideal.Out.layer x0 x1 x2 x3 x4 x5 x6 x7 x8 x9 x10 x11 x12 x13 x14 ⟨(i 0).val, (i 0).isLt⟩ ⟨(i 1).val, (i 1).isLt⟩ ⟨(i 2).val, (i 2).isLt⟩ := by
  funext y
  have hy : y = ValueIdx.ix3 (⟨(y 0).val, (y 0).isLt⟩ : Fin 8) (⟨(y 1).val, (y 1).isLt⟩ : Fin 4096) (⟨(y 2).val, (y 2).isLt⟩ : Fin 1024) := by
    funext a
    match a with
    | ⟨0, _⟩ => rfl
    | ⟨1, _⟩ => rfl
    | ⟨2, _⟩ => rfl
  exact (congrArg (Cert.Reference2Ideal.Read.val_main_v50 (F := Ideal) x0 x1 x2 x3 x4 x5 x6 x7 x8 x9 x10 x11 x12 x13 x14) hy).trans
    (Cert.Reference2Ideal.Out.layer_row _ _ _ _ _ _ _ _ _ _ _ _ _ _ _ _ _ _)

/-- At the ideal values the layer-end call and its reference leave the same four results: the layer's end for every token, and the three
    expert arrays, cast and with their first two axes joined. -/
theorem same_value2 : Cert.algebraic_Kernel2Ideal_Reference2Ideal := fun m g m' g' _ hargs =>
  ⟨fun c => Cert.Kernel2Ideal.Out.layerOf m c,
    fun c => shapeCast Cert.Kernel2Ideal.S8192x3584 (m ((c.tc : Thread Cert.Kernel2Ideal.nD Cert.Kernel2Ideal.τ).loc Cert.Kernel2Ideal.main_arg15)) Cert.Kernel2Ideal.Facts₀.shapeCasts_S8x1024x3584_S8192x3584,
    fun c => shapeCast Cert.Kernel2Ideal.S8192x3584 (m ((c.tc : Thread Cert.Kernel2Ideal.nD Cert.Kernel2Ideal.τ).loc Cert.Kernel2Ideal.main_arg16)) Cert.Kernel2Ideal.Facts₀.shapeCasts_S8x1024x3584_S8192x3584,
    fun c => shapeCast Cert.Kernel2Ideal.S28672x1024 (m ((c.tc : Thread Cert.Kernel2Ideal.nD Cert.Kernel2Ideal.τ).loc Cert.Kernel2Ideal.main_arg17)) Cert.Kernel2Ideal.Facts₀.shapeCasts_S8x3584x1024_S28672x1024,
    (θ_run Cert.Kernel2Ideal.defs _ _).mono (fun r h c =>
      ⟨(h c).1.trans (Cert.Kernel2Ideal.Out.array18 m c), (h c).2.1.trans ((Cert.Kernel2Ideal.Out.array19 m c).trans (Cert.Kernel2Ideal.Out.shape_in m c).2.1),
        (h c).2.2.1.trans ((Cert.Kernel2Ideal.Out.array20 m c).trans (Cert.Kernel2Ideal.Out.shape_in m c).2.2.1),
        (h c).2.2.2.1.trans ((Cert.Kernel2Ideal.Out.array21 m c).trans (Cert.Kernel2Ideal.Out.shape_in m c).2.2.2), (h c).2.2.2.2⟩) (Cert.Kernel2Ideal.Value.run_blocks m g),
    (θ_run Cert.Reference2Ideal.defs _ _).mono (fun r h c => by
      obtain ⟨a0, a1, a2, a3, a4, a5, a6, a7, a8, a9, a10, a11, a12, a13, a14, a15, a16, a17⟩ := hargs c
      refine ⟨(h c).1.trans ?_, (h c).2.1.trans ?_, (h c).2.2.1.trans ?_, (h c).2.2.2.1.trans ?_, (h c).2.2.2.2⟩
      · refine (Cert.Reference2Ideal.Read.val_main_v50_eq m' c).trans ?_
        rw [a0, a1, a2, a3, a4, a5, a6, a7, a8, a9, a10, a11, a12, a13, a14]
        exact layer_array _ _ _ _ _ _ _ _ _ _ _ _ _ _ _
      · rw [a15]; rfl
      · rw [a16]; rfl
      · rw [a17]; rfl) (Cert.Reference2Ideal.Value.run m' g')⟩

/-- The input-projection call's frame at the chip's values, -/
theorem frame_kernel3 : Cert.quiescent_Kernel3 := fun m ρ _ => Cert.Kernel3.Gen.frame m ρ

/-- at the ideal values, -/
theorem frame_ideal3 : Cert.quiescent_Kernel3Ideal := fun m ρ _ => Cert.Kernel3Ideal.Gen.frame m ρ

/-- and its reference's. -/
theorem frame_reference3 : Cert.quiescent_Reference3Ideal := fun m ρ _ =>
  (θ_run Cert.Reference3Ideal.defs _ _).mono (fun r h => ⟨fun c => (h c).2.2.2.2.2.2.2, sem_eq_zero_of_no_sems (by decide) r.2⟩) (Cert.Reference3Ideal.Value.run m ρ)

open Cert.Kernel3Ideal.Proj in
/-- At the ideal values the input-projection call and its reference leave the same seven results: the token's projections, its queries over
    eight, and its two decay gates. -/
theorem same_value3 : Cert.algebraic_Kernel3Ideal_Reference3Ideal := fun m g m' g' _ hargs =>
  ⟨fun c => tokens 512 (colOf m c 512 0 (by omega)), fun c => tokens 256 (queryOf m c), fun c => tokens 256 (colOf m c 256 768 (by omega)),
    fun c => tokens 512 (colOf m c 512 1024 (by omega)), fun c => tokens 512 (colOf m c 512 1536 (by omega)), fun c => tokens 256 (forwardOf m c), fun c => tokens 256 (backwardOf m c),
    (θ_run Cert.Kernel3Ideal.defs _ _).mono (fun r h c =>
      ⟨(h c).1.trans (array8 m c), (h c).2.1.trans (array9 m c), (h c).2.2.1.trans (array10 m c), (h c).2.2.2.1.trans (array11 m c), (h c).2.2.2.2.1.trans (array12 m c),
        (h c).2.2.2.2.2.1.trans (array13 m c), (h c).2.2.2.2.2.2.1.trans (array14 m c), (h c).2.2.2.2.2.2.2⟩) (Cert.Kernel3Ideal.Value.run_blocks m g),
    (θ_run Cert.Reference3Ideal.defs _ _).mono (fun r h c => by
      obtain ⟨a0, a1, a2, a3, a4, a5, a6, a7, a8⟩ := hargs c
      refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_,
        (h c).2.2.2.2.2.2.2⟩
      · refine (Cert.Reference3Ideal.Read.val_main_v43_eq _ _ _ _ _).trans ?_
        rw [a0, a1, a2, a3, a4]
        exact tokens_eq _ _ fun b p j => (Cert.Reference3Ideal.Proj.wide_row _ _ _ _ _ b p j).1
      · refine (Cert.Reference3Ideal.Read.val_main_v28_eq _ _ _ _ _).trans ?_
        rw [a0, a1, a2, a3, a4]
        exact tokens_eq _ _ fun b p j => (Cert.Reference3Ideal.Proj.half_row _ _ _ _ _ b p j).1
      · refine (Cert.Reference3Ideal.Read.val_main_v22_eq _ _ _ _ _).trans ?_
        rw [a0, a1, a2, a3, a4]
        exact tokens_eq _ _ fun b p j => (Cert.Reference3Ideal.Proj.half_row _ _ _ _ _ b p j).2
      · refine (Cert.Reference3Ideal.Read.val_main_v44_eq _ _ _ _ _).trans ?_
        rw [a0, a1, a2, a3, a4]
        exact tokens_eq _ _ fun b p j => (Cert.Reference3Ideal.Proj.wide_row _ _ _ _ _ b p j).2.1
      · refine (Cert.Reference3Ideal.Read.val_main_v45_eq _ _ _ _ _).trans ?_
        rw [a0, a1, a2, a3, a4]
        exact tokens_eq _ _ fun b p j => (Cert.Reference3Ideal.Proj.wide_row _ _ _ _ _ b p j).2.2
      · refine (Cert.Reference3Ideal.Read.val_main_v35_eq m' c).trans ?_
        rw [a0, a1, a2, a3, a4, a5, a6]
        exact tokens_eq _ _ fun b p j => Cert.Reference3Ideal.Proj.forward_row _ _ _ _ _ _ _ b p j
      · refine (Cert.Reference3Ideal.Read.val_main_v42_eq m' c).trans ?_
        rw [a0, a1, a2, a3, a4, a7, a8]
        exact tokens_eq _ _ fun b p j => Cert.Reference3Ideal.Proj.backward_row _ _ _ _ _ _ _ b p j) (Cert.Reference3Ideal.Value.run m' g')⟩

/-- The modulation call's frame at the chip's values, -/
theorem frame_kernel4 : Cert.quiescent_Kernel4 := fun m ρ _ => Cert.Kernel4.Gen.frame m ρ

/-- at the ideal values, -/
theorem frame_ideal4 : Cert.quiescent_Kernel4Ideal := fun m ρ _ => Cert.Kernel4Ideal.Gen.frame m ρ

/-- and its reference's. -/
theorem frame_reference4 : Cert.quiescent_Reference4Ideal := fun m ρ _ =>
  (θ_run Cert.Reference4Ideal.defs _ _).mono (fun r h => ⟨fun c => (h c).2, sem_eq_zero_of_no_sems (by decide) r.2⟩) (Cert.Reference4Ideal.Value.run m ρ)

/-- At the ideal values the modulation call and its reference leave the same result: both layers' modulation by every stacked row. -/
theorem same_value4 : Cert.algebraic_Kernel4Ideal_Reference4Ideal := fun m g m' g' _ hargs =>
  ⟨fun c => Cert.Kernel4Ideal.Adaln.modOf m c,
    (θ_run Cert.Kernel4Ideal.defs _ _).mono (fun r h c => ⟨(h c).1.trans (Cert.Kernel4Ideal.Adaln.array3 m c), (h c).2⟩) (Cert.Kernel4Ideal.Value.run_blocks m g),
    (θ_run Cert.Reference4Ideal.defs _ _).mono (fun r h c => by
      obtain ⟨a0, a1, a2, a3⟩ := hargs c
      refine ⟨(h c).1.trans ?_, (h c).2⟩
      refine (Cert.Reference4Ideal.Read.val_main_v42_eq m' c).trans ?_
      rw [a0, a1, a2, a3]
      exact Cert.Kernel4Ideal.Adaln.modArray_eq _ _ _ _ _ fun l r j => Cert.Reference4Ideal.Adaln.modulation_row _ _ _ _ l r j) (Cert.Reference4Ideal.Value.run m' g')⟩

/-- All the claims, about the four calls. -/
theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts, Cert.Kernel4Ideal.Gen.facts,
  Cert.Reference4Ideal.Gen.facts, Cert.Pre_in_range.Gen.facts, frame_kernel, frame_ideal,
  frame_reference, frame_reference_pre, frame_kernel2, frame_ideal2, frame_reference2, frame_kernel3, frame_ideal3, frame_reference3, frame_kernel4, frame_ideal4, frame_reference4,
  trivial, same_value, trivial, same_value2, trivial, same_value3, trivial, same_value4⟩

end Cert.Proof

end
